-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rates_below_infinity [hPre_rates_below_infinity : Cert.Pre_rates_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_rates_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rates_below_infinity [hPre_rates_below_infinity : Cert.Pre_rates_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rates_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_queries_and_keys [hPre_finite_queries_and_keys : Cert.Pre_finite_queries_and_keys.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_queries_and_keys.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_queries_and_keys [hPre_finite_queries_and_keys : Cert.Pre_finite_queries_and_keys.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_queries_and_keys.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_rates_below_infinity [hKernelIdeal : Cert.KernelIdeal.Facts] [hPre_rates_below_infinity : Cert.Pre_rates_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rates_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_rates_below_infinity [hReferenceIdeal : Cert.ReferenceIdeal.Facts] [hPre_rates_below_infinity : Cert.Pre_rates_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rates_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Kernel3Ideal_pre_finite_queries_and_keys [hKernel3Ideal : Cert.Kernel3Ideal.Facts] [hPre_finite_queries_and_keys : Cert.Pre_finite_queries_and_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_queries_and_keys m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Reference3Ideal_pre_finite_queries_and_keys [hReference3Ideal : Cert.Reference3Ideal.Facts] [hPre_finite_queries_and_keys : Cert.Pre_finite_queries_and_keys.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_queries_and_keys m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def preserves_Kernel_KernelIdeal : Prop :=
  True

def algebraic_KernelIdeal_ReferenceIdeal_pre_rates_below_infinity [hKernelIdeal : Cert.KernelIdeal.Facts] [hReferenceIdeal : Cert.ReferenceIdeal.Facts] [hPre_rates_below_infinity : Cert.Pre_rates_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rates_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v183) = v0 c
          ∧ r.2.mem ((c.tc : Thread Cert.ReferenceIdeal.nD Cert.ReferenceIdeal.τ).loc Cert.ReferenceIdeal.main_v184) = v1 c
          ∧ r.2.mem ((c.tc : Thread Cert.ReferenceIdeal.nD Cert.ReferenceIdeal.τ).loc Cert.ReferenceIdeal.main_v185) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)) →
    ∃ (v0 : (c : Dev Cert.Kernel2Ideal.nD) → Buf (Elt Ideal) ((c.tc : Thread Cert.Kernel2Ideal.nD Cert.Kernel2Ideal.τ).loc Cert.Kernel2Ideal.main_v13)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v86) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12))

def preserves_Kernel3_Kernel3Ideal : Prop :=
  True

def algebraic_Kernel3Ideal_Reference3Ideal_pre_finite_queries_and_keys [hKernel3Ideal : Cert.Kernel3Ideal.Facts] [hReference3Ideal : Cert.Reference3Ideal.Facts] [hPre_finite_queries_and_keys : Cert.Pre_finite_queries_and_keys.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_queries_and_keys m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_rates_below_infinity : Cert.Pre_rates_below_infinity.Facts) (hPre_finite_queries_and_keys : Cert.Pre_finite_queries_and_keys.Facts),
    quiescent_Kernel (hKernel := hKernel)
    ∧ quiescent_KernelIdeal (hKernelIdeal := hKernelIdeal)
    ∧ quiescent_KernelIdeal_pre_rates_below_infinity (hKernelIdeal := hKernelIdeal) (hPre_rates_below_infinity := hPre_rates_below_infinity)
    ∧ quiescent_ReferenceIdeal (hReferenceIdeal := hReferenceIdeal)
    ∧ quiescent_ReferenceIdeal_pre_rates_below_infinity (hReferenceIdeal := hReferenceIdeal) (hPre_rates_below_infinity := hPre_rates_below_infinity)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_queries_and_keys (hKernel3Ideal := hKernel3Ideal) (hPre_finite_queries_and_keys := hPre_finite_queries_and_keys)
    ∧ quiescent_Reference3Ideal (hReference3Ideal := hReference3Ideal)
    ∧ quiescent_Reference3Ideal_pre_finite_queries_and_keys (hReference3Ideal := hReference3Ideal) (hPre_finite_queries_and_keys := hPre_finite_queries_and_keys)
    ∧ preserves_Kernel_KernelIdeal
    ∧ algebraic_KernelIdeal_ReferenceIdeal_pre_rates_below_infinity (hKernelIdeal := hKernelIdeal) (hReferenceIdeal := hReferenceIdeal) (hPre_rates_below_infinity := hPre_rates_below_infinity)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_queries_and_keys (hKernel3Ideal := hKernel3Ideal) (hReference3Ideal := hReference3Ideal) (hPre_finite_queries_and_keys := hPre_finite_queries_and_keys)
-- ==== Pre_finite_queries_and_keys.lean ====
abbrev S2x8192x4x96 : Shape := ⟨4, ![2, 8192, 4, 96]⟩
abbrev S2x8192x4x64 : Shape := ⟨4, ![2, 8192, 4, 64]⟩
abbrev S_ : Shape := ⟨0, ![]⟩

class Facts : Prop where
  bcast_S_S2x8192x4x96 : S_.BroadcastsInDim S2x8192x4x96 (![] : Fin 0 → Fin S2x8192x4x96.rank)

variable [Facts]

def fn {F : FTy → Type} [FloatOps F] (main_arg0 : FVec F S2x8192x4x96 .f32) (main_arg1 : FVec F S2x8192x4x96 .f32) (main_arg2 : FVec F S2x8192x4x64 .f32) : IVec S2x8192x4x96 1 :=
  let main_v0 : FVec F S2x8192x4x96 .f32 := Host.absf main_arg0
  let main_cst : FVec F S_ .f32 := constant S_ .f32 0x7F800000#32
  let main_v1 : FVec F S2x8192x4x96 .f32 := broadcastInDim S2x8192x4x96 ![] bcast_S_S2x8192x4x96 main_cst
  let main_v2 : IVec S2x8192x4x96 1 := cmpf .olt main_v0 main_v1
  let main_v3 : FVec F S2x8192x4x96 .f32 := Host.absf main_arg1
  let main_cst_0 : FVec F S_ .f32 := constant S_ .f32 0x7F800000#32
  let main_v4 : FVec F S2x8192x4x96 .f32 := broadcastInDim S2x8192x4x96 ![] bcast_S_S2x8192x4x96 main_cst_0
  let main_v5 : IVec S2x8192x4x96 1 := cmpf .olt main_v3 main_v4
  let main_v6 : IVec S2x8192x4x96 1 := andi main_v2 main_v5
  main_v6
-- ==== Pre_rates_below_infinity.lean ====
abbrev S2x8192x512 : Shape := ⟨3, ![2, 8192, 512]⟩
abbrev S2x8192x1024 : Shape := ⟨3, ![2, 8192, 1024]⟩
abbrev S2x8192x8 : Shape := ⟨3, ![2, 8192, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x1x8 : Shape := ⟨3, ![1, 1, 8]⟩
abbrev S_ : Shape := ⟨0, ![]⟩

class Facts : Prop where
  bcast_S8_S1x1x8_2 : S8.BroadcastsInDim S1x1x8 (![2] : Fin 1 → Fin S1x1x8.rank)
  bcast_S1x1x8_S2x8192x8_0_1_2 : S1x1x8.BroadcastsInDim S2x8192x8 (![0, 1, 2] : Fin 3 → Fin S2x8192x8.rank)
  bcast_S_S2x8192x8 : S_.BroadcastsInDim S2x8192x8 (![] : Fin 0 → Fin S2x8192x8.rank)

variable [Facts]

def fn {F : FTy → Type} [FloatOps F] (main_arg0 : FVec F S2x8192x512 .f32) (main_arg1 : FVec F S2x8192x1024 .f32) (main_arg2 : FVec F S2x8192x8 .f32) (main_arg3 : FVec F S4x1024 .f32) (main_arg4 : FVec F S1024 .f32) (main_arg5 : FVec F S8 .f32) (main_arg6 : FVec F S8 .f32) (main_arg7 : FVec F S8 .f32) (main_arg8 : FVec F S512 .f32) : IVec S2x8192x8 1 :=
  let main_v0 : FVec F S1x1x8 .f32 := broadcastInDim S1x1x8 ![2] bcast_S8_S1x1x8_2 main_arg5
  let main_v1 : FVec F S2x8192x8 .f32 := broadcastInDim S2x8192x8 ![0, 1, 2] bcast_S1x1x8_S2x8192x8_0_1_2 main_v0
  let main_v2 : FVec F S2x8192x8 .f32 := addf main_arg2 main_v1
  let main_cst : FVec F S_ .f32 := constant S_ .f32 0x7F800000#32
  let main_v3 : FVec F S2x8192x8 .f32 := broadcastInDim S2x8192x8 ![] bcast_S_S2x8192x8 main_cst
  let main_v4 : IVec S2x8192x8 1 := cmpf .olt main_v2 main_v3
  main_v4
-- ==== Kernel.lean ====
abbrev S2x8192x512 : Shape := ⟨3, ![2, 8192, 512]⟩
abbrev S2x8192x1024 : Shape := ⟨3, ![2, 8192, 1024]⟩
abbrev S2x8192x8 : Shape := ⟨3, ![2, 8192, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S1x1024 : Shape := ⟨2, ![1, 1024]⟩
abbrev S_ : Shape := ⟨0, ![]⟩
abbrev S120 : Shape := ⟨1, ![120]⟩
abbrev S128 : Shape := ⟨1, ![128]⟩
abbrev S1x128 : Shape := ⟨2, ![1, 128]⟩
abbrev S8x64 : Shape := ⟨2, ![8, 64]⟩
abbrev S1x512 : Shape := ⟨2, ![1, 512]⟩
abbrev S16384x8 : Shape := ⟨2, ![16384, 8]⟩
abbrev S16384x120 : Shape := ⟨2, ![16384, 120]⟩
abbrev S16384x128 : Shape := ⟨2, ![16384, 128]⟩
abbrev S16384x512 : Shape := ⟨2, ![16384, 512]⟩
abbrev S16384x1024 : Shape := ⟨2, ![16384, 1024]⟩
abbrev S2x512x128 : Shape := ⟨3, ![2, 512, 128]⟩
abbrev S2x3x1024 : Shape := ⟨3, ![2, 3, 1024]⟩
abbrev S128x512 : Shape := ⟨2, ![128, 512]⟩
abbrev S128x1024 : Shape := ⟨2, ![128, 1024]⟩
abbrev S128x128 : Shape := ⟨2, ![128, 128]⟩
abbrev S1x512x128 : Shape := ⟨3, ![1, 512, 128]⟩
abbrev S1x3x1024 : Shape := ⟨3, ![1, 3, 1024]⟩
abbrev S136x1024 : Shape := ⟨2, ![136, 1024]⟩
abbrev S2x128x256 : Shape := ⟨3, ![2, 128, 256]⟩
abbrev S8x1024 : Shape := ⟨2, ![8, 1024]⟩
abbrev S128x256 : Shape := ⟨2, ![128, 256]⟩
abbrev S1x128x256 : Shape := ⟨3, ![1, 128, 256]⟩
abbrev S128x1 : Shape := ⟨2, ![128, 1]⟩
abbrev S1x256 : Shape := ⟨2, ![1, 256]⟩
abbrev S256x128 : Shape := ⟨2, ![256, 128]⟩
abbrev S1x256x128 : Shape := ⟨3, ![1, 256, 128]⟩
abbrev S3x1024 : Shape := ⟨2, ![3, 1024]⟩

abbrev nBuf : Space → Nat
  | .hbm => 31
  | .vmem => 20
  | .smem => 0
  | _ => 0

abbrev bufTy : (tb : Table) → Fin (tcTables nBuf tb) → BufTy
  | .hbm, ⟨0, _⟩ => ⟨S2x8192x512, .f32⟩
  | .hbm, ⟨1, _⟩ => ⟨S2x8192x1024, .f32⟩
  | .hbm, ⟨2, _⟩ => ⟨S2x8192x8, .f32⟩
  | .hbm, ⟨3, _⟩ => ⟨S4x1024, .f32⟩
  | .hbm, ⟨4, _⟩ => ⟨S1024, .f32⟩
  | .hbm, ⟨5, _⟩ => ⟨S8, .f32⟩
  | .hbm, ⟨6, _⟩ => ⟨S8, .f32⟩
  | .hbm, ⟨7, _⟩ => ⟨S8, .f32⟩
  | .hbm, ⟨8, _⟩ => ⟨S512, .f32⟩
  | .hbm, ⟨9, _⟩ => ⟨S1x1024, .f32⟩
  | .hbm, ⟨10, _⟩ => ⟨S_, .f32⟩
  | .hbm, ⟨11, _⟩ => ⟨S120, .f32⟩
  | .hbm, ⟨12, _⟩ => ⟨S128, .f32⟩
  | .hbm, ⟨13, _⟩ => ⟨S1x128, .f32⟩
  | .hbm, ⟨14, _⟩ => ⟨S_, .f32⟩
  | .hbm, ⟨15, _⟩ => ⟨S120, .f32⟩
  | .hbm, ⟨16, _⟩ => ⟨S128, .f32⟩
  | .hbm, ⟨17, _⟩ => ⟨S1x128, .f32⟩
  | .hbm, ⟨18, _⟩ => ⟨S8x64, .f32⟩
  | .hbm, ⟨19, _⟩ => ⟨S512, .f32⟩
  | .hbm, ⟨20, _⟩ => ⟨S1x512, .f32⟩
  | .hbm, ⟨21, _⟩ => ⟨S1x512, .f32⟩
  | .hbm, ⟨22, _⟩ => ⟨S16384x8, .f32⟩
  | .hbm, ⟨23, _⟩ => ⟨S_, .f32⟩
  | .hbm, ⟨24, _⟩ => ⟨S16384x120, .f32⟩
  | .hbm, ⟨25, _⟩ => ⟨S16384x128, .f32⟩
  | .hbm, ⟨26, _⟩ => ⟨S16384x512, .f32⟩
  | .hbm, ⟨27, _⟩ => ⟨S16384x1024, .f32⟩
  | .hbm, ⟨28, _⟩ => ⟨S16384x512, .f32⟩
  | .hbm, ⟨29, _⟩ => ⟨S2x512x128, .f32⟩
  | .hbm, ⟨30, _⟩ => ⟨S2x3x1024, .f32⟩
  | .local _ .vmem, ⟨0, _⟩ => ⟨S128x512, .f32⟩
  | .local _ .vmem, ⟨1, _⟩ => ⟨S128x512, .f32⟩
  | .local _ .vmem, ⟨2, _⟩ => ⟨S128x1024, .f32⟩
  | .local _ .vmem, ⟨3, _⟩ => ⟨S128x1024, .f32⟩
  | .local _ .vmem, ⟨4, _⟩ => ⟨S128x128, .f32⟩
  | .local _ .vmem, ⟨5, _⟩ => ⟨S128x128, .f32⟩
  | .local _ .vmem, ⟨6, _⟩ => ⟨S4x1024, .f32⟩
  | .local _ .vmem, ⟨7, _⟩ => ⟨S1x1024, .f32⟩
  | .local _ .vmem, ⟨8, _⟩ => ⟨S1x128, .f32⟩
  | .local _ .vmem, ⟨9, _⟩ => ⟨S1x128, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x512, .f32⟩
  | .local _ .vmem, ⟨14, _⟩ => ⟨S1x512x128, .f32⟩
  | .local _ .vmem, ⟨15, _⟩ => ⟨S1x512x128, .f32⟩
  | .local _ .vmem, ⟨16, _⟩ => ⟨S1x3x1024, .f32⟩
  | .local _ .vmem, ⟨17, _⟩ => ⟨S1x3x1024, .f32⟩
  | .local _ .vmem, ⟨18, _⟩ => ⟨S136x1024, .f32⟩
  | .local _ .vmem, ⟨19, _⟩ => ⟨S2x128x256, .f32⟩
  | _, _ => ⟨S2x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16_0 : Ref sig .tc := ⟨.hbm, 28, rfl⟩
abbrev main_v16_1 : Ref sig .tc := ⟨.hbm, 29, rfl⟩
abbrev main_v16_2 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![2, 64], ![false, false]⟩

def k0_cond2 (i : grid0.Coords) : BitVec 1 :=
  let arg1 : BitVec 32 := BitVec.ofNat 32 (i 1).val
  let c63_i32 : BitVec 32 := 63#32
  let v340 : BitVec 1 := Scalar.cmpi .eq arg1 c63_i32
  let v341 : BitVec 32 := Scalar.extui v340
  let c0_i32_98 : BitVec 32 := 0#32
  let v342 : BitVec 1 := Scalar.cmpi .ne v341 c0_i32_98
  v342

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x3x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== ReferenceIdeal.lean ====
abbrev S2x8192x512 : Shape := ⟨3, ![2, 8192, 512]⟩
abbrev S2x8192x1024 : Shape := ⟨3, ![2, 8192, 1024]⟩
abbrev S2x8192x8 : Shape := ⟨3, ![2, 8192, 8]⟩
abbrev S4x1024 : Shape := ⟨2, ![4, 1024]⟩
abbrev S1024 : Shape := ⟨1, ![1024]⟩
abbrev S8 : Shape := ⟨1, ![8]⟩
abbrev S512 : Shape := ⟨1, ![512]⟩
abbrev S_ : Shape := ⟨0, ![]⟩
abbrev S2x8x64x128 : Shape := ⟨4, ![2, 8, 64, 128]⟩
abbrev S2x3x1024 : Shape := ⟨3, ![2, 3, 1024]⟩
abbrev S2x8195x1024 : Shape := ⟨3, ![2, 8195, 1024]⟩
abbrev S1x1024 : Shape := ⟨2, ![1, 1024]⟩
abbrev S1x1x1024 : Shape := ⟨3, ![1, 1, 1024]⟩
abbrev S2x8192x256 : Shape := ⟨3, ![2, 8192, 256]⟩
abbrev S2x8192x8x64 : Shape := ⟨4, ![2, 8192, 8, 64]⟩
abbrev S2x8192x2x128 : Shape := ⟨4, ![2, 8192, 2, 128]⟩
abbrev S1x1x8 : Shape := ⟨3, ![1, 1, 8]⟩
abbrev S2x8192x8x1 : Shape := ⟨4, ![2, 8192, 8, 1]⟩
abbrev S2x8192x2x4x128 : Shape := ⟨5, ![2, 8192, 2, 4, 128]⟩
abbrev S2x8192x8x128 : Shape := ⟨4, ![2, 8192, 8, 128]⟩
abbrev S2x64x128x8x128 : Shape := ⟨5, ![2, 64, 128, 8, 128]⟩
abbrev S2x64x128x8x64 : Shape := ⟨5, ![2, 64, 128, 8, 64]⟩
abbrev S2x64x128x8 : Shape := ⟨4, ![2, 64, 128, 8]⟩
abbrev S2x64x1x8 : Shape := ⟨4, ![2, 64, 1, 8]⟩
abbrev S2x64x128x8x1 : Shape := ⟨5, ![2, 64, 128, 8, 1]⟩
abbrev S2x64x8x64x128 : Shape := ⟨5, ![2, 64, 8, 64, 128]⟩
abbrev S2x64x8 : Shape := ⟨3, ![2, 64, 8]⟩
abbrev S64x2x8x64x128 : Shape := ⟨5, ![64, 2, 8, 64, 128]⟩
abbrev S64x2x8 : Shape := ⟨3, ![64, 2, 8]⟩
abbrev S1x2x8x64x128 : Shape := ⟨5, ![1, 2, 8, 64, 128]⟩
abbrev S1x2x8 : Shape := ⟨3, ![1, 2, 8]⟩
abbrev S2x8 : Shape := ⟨2, ![2, 8]⟩
abbrev S2x8x1x1 : Shape := ⟨4, ![2, 8, 1, 1]⟩
abbrev S128x128 : Shape := ⟨2, ![128, 128]⟩
abbrev S2x64x128x1x8 : Shape := ⟨5, ![2, 64, 128, 1, 8]⟩
abbrev S2x64x1x128x8 : Shape := ⟨5, ![2, 64, 1, 128, 8]⟩
abbrev S2x64x128x128x8 : Shape := ⟨5, ![2, 64, 128, 128, 8]⟩
abbrev S1x1x128x128x1 : Shape := ⟨5, ![1, 1, 128, 128, 1]⟩
abbrev S2x64x8x128x128 : Shape := ⟨5, ![2, 64, 8, 128, 128]⟩
abbrev S8x1 : Shape := ⟨2, ![8, 1]⟩
abbrev S1x1x8x1 : Shape := ⟨4, ![1, 1, 8, 1]⟩
abbrev S2x8192x2x256 : Shape := ⟨4, ![2, 8192, 2, 256]⟩
abbrev S2x8192x2 : Shape := ⟨3, ![2, 8192, 2]⟩
abbrev S2x8192x2x1 : Shape := ⟨4, ![2, 8192, 2, 1]⟩
abbrev S1x1x512 : Shape := ⟨3, ![1, 1, 512]⟩
abbrev S16384x512 : Shape := ⟨2, ![16384, 512]⟩
abbrev S2x512x128 : Shape := ⟨3, ![2, 512, 128]⟩

abbrev nBuf : Space → Nat
  | .hbm => 298
  | .vmem => 0
  | .smem => 0
  | _ => 0

abbrev hbmTy0_0 (i : Nat) : BufTy := match i % 128 with
  | 0 => ⟨S2x8192x512, .f32⟩
  | 1 => ⟨S2x8192x1024, .f32⟩
  | 2 => ⟨S2x8192x8, .f32⟩
  | 3 => ⟨S4x1024, .f32⟩
  | 4 => ⟨S1024, .f32⟩
  | 5 => ⟨S8, .f32⟩
  | 6 => ⟨S8, .f32⟩
  | 7 => ⟨S8, .f32⟩
  | 8 => ⟨S512, .f32⟩
  | 9 => ⟨S_, .f32⟩
  | 10 => ⟨S2x8x64x128, .f32⟩
  | 11 => ⟨S_, .f32⟩
  | 12 => ⟨S2x3x1024, .f32⟩
  | 13 => ⟨S2x8195x1024, .f32⟩
  | 14 => ⟨S2x8192x1024, .f32⟩
  | 15 => ⟨S1x1024, .f32⟩
  | 16 => ⟨S1024, .f32⟩
  | 17 => ⟨S1x1x1024, .f32⟩
  | 18 => ⟨S2x8192x1024, .f32⟩
  | 19 => ⟨S2x8192x1024, .f32⟩
  | 20 => ⟨S1x1x1024, .f32⟩
  | 21 => ⟨S2x8192x1024, .f32⟩
  | 22 => ⟨S2x8192x1024, .f32⟩
  | 23 => ⟨S2x8192x1024, .f32⟩
  | 24 => ⟨S1x1024, .f32⟩
  | 25 => ⟨S1024, .f32⟩
  | 26 => ⟨S1x1x1024, .f32⟩
  | 27 => ⟨S2x8192x1024, .f32⟩
  | 28 => ⟨S2x8192x1024, .f32⟩
  | 29 => ⟨S2x8192x1024, .f32⟩
  | 30 => ⟨S2x8192x1024, .f32⟩
  | 31 => ⟨S1x1024, .f32⟩
  | 32 => ⟨S1024, .f32⟩
  | 33 => ⟨S1x1x1024, .f32⟩
  | 34 => ⟨S2x8192x1024, .f32⟩
  | 35 => ⟨S2x8192x1024, .f32⟩
  | 36 => ⟨S2x8192x1024, .f32⟩
  | 37 => ⟨S2x8192x1024, .f32⟩
  | 38 => ⟨S1x1024, .f32⟩
  | 39 => ⟨S1024, .f32⟩
  | 40 => ⟨S1x1x1024, .f32⟩
  | 41 => ⟨S2x8192x1024, .f32⟩
  | 42 => ⟨S2x8192x1024, .f32⟩
  | 43 => ⟨S2x8192x1024, .f32⟩
  | 44 => ⟨S2x8192x1024, .f32⟩
  | 45 => ⟨S2x8192x1024, .f32⟩
  | 46 => ⟨S_, .f32⟩
  | 47 => ⟨S2x8192x1024, .f32⟩
  | 48 => ⟨S2x8192x1024, .f32⟩
  | 49 => ⟨S_, .f32⟩
  | 50 => ⟨S2x8192x1024, .f32⟩
  | 51 => ⟨S2x8192x1024, .f32⟩
  | 52 => ⟨S2x8192x1024, .f32⟩
  | 53 => ⟨S2x8192x512, .f32⟩
  | 54 => ⟨S2x8192x256, .f32⟩
  | 55 => ⟨S2x8192x256, .f32⟩
  | 56 => ⟨S2x8192x8x64, .f32⟩
  | 57 => ⟨S2x8192x2x128, .f32⟩
  | 58 => ⟨S2x8192x2x128, .f32⟩
  | 59 => ⟨S1x1x8, .f32⟩
  | 60 => ⟨S2x8192x8, .f32⟩
  | 61 => ⟨S2x8192x8, .f32⟩
  | 62 => ⟨S_, .f32⟩
  | 63 => ⟨S2x8192x8, .f32⟩
  | 64 => ⟨S2x8192x8, .f32⟩
  | 65 => ⟨S2x8192x8, .f32⟩
  | 66 => ⟨S2x8192x8, .f32⟩
  | 67 => ⟨S2x8192x8, .i1⟩
  | 68 => ⟨S2x8192x8, .f32⟩
  | 69 => ⟨S2x8192x8, .f32⟩
  | 70 => ⟨S2x8192x8, .f32⟩
  | 71 => ⟨S2x8192x8, .f32⟩
  | 72 => ⟨S2x8192x8, .f32⟩
  | 73 => ⟨S2x8192x8, .f32⟩
  | 74 => ⟨S2x8192x8, .f32⟩
  | 75 => ⟨S2x8192x8, .f32⟩
  | 76 => ⟨S8, .f32⟩
  | 77 => ⟨S8, .f32⟩
  | 78 => ⟨S2x8192x8x1, .f32⟩
  | 79 => ⟨S2x8192x8x64, .f32⟩
  | 80 => ⟨S2x8192x8x64, .f32⟩
  | 81 => ⟨S1x1x8, .f32⟩
  | 82 => ⟨S2x8192x8, .f32⟩
  | 83 => ⟨S2x8192x8, .f32⟩
  | 84 => ⟨S2x8192x2x4x128, .f32⟩
  | 85 => ⟨S2x8192x8x128, .f32⟩
  | 86 => ⟨S2x64x128x8x128, .f32⟩
  | 87 => ⟨S2x8192x2x4x128, .f32⟩
  | 88 => ⟨S2x8192x8x128, .f32⟩
  | 89 => ⟨S2x64x128x8x128, .f32⟩
  | 90 => ⟨S2x64x128x8x64, .f32⟩
  | 91 => ⟨S2x64x128x8, .f32⟩
  | 92 => ⟨S_, .f32⟩
  | 93 => ⟨S_, .f32⟩
  | 94 => ⟨S2x64x128x8, .f32⟩
  | 95 => ⟨S2x64x1x8, .f32⟩
  | 96 => ⟨S2x64x128x8, .f32⟩
  | 97 => ⟨S2x64x128x8, .f32⟩
  | 98 => ⟨S2x64x128x8, .f32⟩
  | 99 => ⟨S2x64x128x8x1, .f32⟩
  | 100 => ⟨S2x64x128x8x64, .f32⟩
  | 101 => ⟨S2x64x128x8x64, .f32⟩
  | 102 => ⟨S2x64x8x64x128, .f32⟩
  | 103 => ⟨S2x64x1x8, .f32⟩
  | 104 => ⟨S2x64x8, .f32⟩
  | 105 => ⟨S2x64x8, .f32⟩
  | 106 => ⟨S64x2x8x64x128, .f32⟩
  | 107 => ⟨S64x2x8, .f32⟩
  | 108 => ⟨S_, .f32⟩
  | 109 => ⟨S64x2x8x64x128, .f32⟩
  | 110 => ⟨S_, .i32⟩
  | 111 => ⟨S64x2x8x64x128, .f32⟩
  | 112 => ⟨S64x2x8, .f32⟩
  | 113 => ⟨S_, .i32⟩
  | 114 => ⟨S2x8x64x128, .f32⟩
  | 115 => ⟨S64x2x8x64x128, .f32⟩
  | 116 => ⟨S_, .i32⟩
  | 117 => ⟨S_, .i1⟩
  | 118 => ⟨S_, .i32⟩
  | 119 => ⟨S_, .i32⟩
  | 120 => ⟨S_, .i32⟩
  | 121 => ⟨S_, .i32⟩
  | 122 => ⟨S1x2x8x64x128, .f32⟩
  | 123 => ⟨S2x8x64x128, .f32⟩
  | 124 => ⟨S_, .i32⟩
  | 125 => ⟨S_, .i32⟩
  | 126 => ⟨S1x2x8, .f32⟩
  | 127 => ⟨S2x8, .f32⟩
  | _ => ⟨S2x8192x512, .f32⟩

abbrev hbmTy0_1 (i : Nat) : BufTy := match i % 128 with
  | 0 => ⟨S2x8x1x1, .f32⟩
  | 1 => ⟨S2x8x64x128, .f32⟩
  | 2 => ⟨S2x8x64x128, .f32⟩
  | 3 => ⟨S2x8x64x128, .f32⟩
  | 4 => ⟨S1x2x8x64x128, .f32⟩
  | 5 => ⟨S_, .i32⟩
  | 6 => ⟨S_, .i32⟩
  | 7 => ⟨S_, .i32⟩
  | 8 => ⟨S_, .i32⟩
  | 9 => ⟨S64x2x8x64x128, .f32⟩
  | 10 => ⟨S_, .i32⟩
  | 11 => ⟨S_, .i32⟩
  | 12 => ⟨S2x64x8x64x128, .f32⟩
  | 13 => ⟨S_, .f32⟩
  | 14 => ⟨S2x3x1024, .f32⟩
  | 15 => ⟨S2x8195x1024, .f32⟩
  | 16 => ⟨S2x8192x1024, .f32⟩
  | 17 => ⟨S1x1024, .f32⟩
  | 18 => ⟨S1024, .f32⟩
  | 19 => ⟨S1x1x1024, .f32⟩
  | 20 => ⟨S2x8192x1024, .f32⟩
  | 21 => ⟨S2x8192x1024, .f32⟩
  | 22 => ⟨S1x1x1024, .f32⟩
  | 23 => ⟨S2x8192x1024, .f32⟩
  | 24 => ⟨S2x8192x1024, .f32⟩
  | 25 => ⟨S2x8192x1024, .f32⟩
  | 26 => ⟨S1x1024, .f32⟩
  | 27 => ⟨S1024, .f32⟩
  | 28 => ⟨S1x1x1024, .f32⟩
  | 29 => ⟨S2x8192x1024, .f32⟩
  | 30 => ⟨S2x8192x1024, .f32⟩
  | 31 => ⟨S2x8192x1024, .f32⟩
  | 32 => ⟨S2x8192x1024, .f32⟩
  | 33 => ⟨S1x1024, .f32⟩
  | 34 => ⟨S1024, .f32⟩
  | 35 => ⟨S1x1x1024, .f32⟩
  | 36 => ⟨S2x8192x1024, .f32⟩
  | 37 => ⟨S2x8192x1024, .f32⟩
  | 38 => ⟨S2x8192x1024, .f32⟩
  | 39 => ⟨S2x8192x1024, .f32⟩
  | 40 => ⟨S1x1024, .f32⟩
  | 41 => ⟨S1024, .f32⟩
  | 42 => ⟨S1x1x1024, .f32⟩
  | 43 => ⟨S2x8192x1024, .f32⟩
  | 44 => ⟨S2x8192x1024, .f32⟩
  | 45 => ⟨S2x8192x1024, .f32⟩
  | 46 => ⟨S2x8192x1024, .f32⟩
  | 47 => ⟨S2x8192x1024, .f32⟩
  | 48 => ⟨S_, .f32⟩
  | 49 => ⟨S2x8192x1024, .f32⟩
  | 50 => ⟨S2x8192x1024, .f32⟩
  | 51 => ⟨S_, .f32⟩
  | 52 => ⟨S2x8192x1024, .f32⟩
  | 53 => ⟨S2x8192x1024, .f32⟩
  | 54 => ⟨S2x8192x1024, .f32⟩
  | 55 => ⟨S2x8192x512, .f32⟩
  | 56 => ⟨S2x8192x256, .f32⟩
  | 57 => ⟨S2x8192x256, .f32⟩
  | 58 => ⟨S2x8192x8x64, .f32⟩
  | 59 => ⟨S2x8192x2x128, .f32⟩
  | 60 => ⟨S2x8192x2x128, .f32⟩
  | 61 => ⟨S1x1x8, .f32⟩
  | 62 => ⟨S2x8192x8, .f32⟩
  | 63 => ⟨S2x8192x8, .f32⟩
  | 64 => ⟨S_, .f32⟩
  | 65 => ⟨S2x8192x8, .f32⟩
  | 66 => ⟨S2x8192x8, .f32⟩
  | 67 => ⟨S2x8192x8, .f32⟩
  | 68 => ⟨S2x8192x8, .f32⟩
  | 69 => ⟨S2x8192x8, .i1⟩
  | 70 => ⟨S2x8192x8, .f32⟩
  | 71 => ⟨S2x8192x8, .f32⟩
  | 72 => ⟨S2x8192x8, .f32⟩
  | 73 => ⟨S2x8192x8, .f32⟩
  | 74 => ⟨S2x8192x8, .f32⟩
  | 75 => ⟨S2x8192x8, .f32⟩
  | 76 => ⟨S2x8192x8, .f32⟩
  | 77 => ⟨S2x8192x8, .f32⟩
  | 78 => ⟨S8, .f32⟩
  | 79 => ⟨S8, .f32⟩
  | 80 => ⟨S2x8192x8x1, .f32⟩
  | 81 => ⟨S2x8192x8x64, .f32⟩
  | 82 => ⟨S2x8192x8x64, .f32⟩
  | 83 => ⟨S1x1x8, .f32⟩
  | 84 => ⟨S2x8192x8, .f32⟩
  | 85 => ⟨S2x8192x8, .f32⟩
  | 86 => ⟨S2x8192x2x4x128, .f32⟩
  | 87 => ⟨S2x8192x8x128, .f32⟩
  | 88 => ⟨S2x64x128x8x128, .f32⟩
  | 89 => ⟨S2x8192x2x4x128, .f32⟩
  | 90 => ⟨S2x8192x8x128, .f32⟩
  | 91 => ⟨S2x64x128x8x128, .f32⟩
  | 92 => ⟨S2x64x128x8x64, .f32⟩
  | 93 => ⟨S2x64x128x8, .f32⟩
  | 94 => ⟨S_, .f32⟩
  | 95 => ⟨S_, .f32⟩
  | 96 => ⟨S2x64x128x8, .f32⟩
  | 97 => ⟨S_, .i1⟩
  | 98 => ⟨S128x128, .i1⟩
  | 99 => ⟨S128x128, .i32⟩
  | 100 => ⟨S_, .i32⟩
  | 101 => ⟨S128x128, .i32⟩
  | 102 => ⟨S128x128, .i32⟩
  | 103 => ⟨S128x128, .i32⟩
  | 104 => ⟨S128x128, .i1⟩
  | 105 => ⟨S_, .i1⟩
  | 106 => ⟨S128x128, .i1⟩
  | 107 => ⟨S128x128, .i1⟩
  | 108 => ⟨S2x64x128x1x8, .f32⟩
  | 109 => ⟨S2x64x1x128x8, .f32⟩
  | 110 => ⟨S2x64x128x128x8, .f32⟩
  | 111 => ⟨S2x64x128x128x8, .f32⟩
  | 112 => ⟨S2x64x128x128x8, .f32⟩
  | 113 => ⟨S1x1x128x128x1, .i1⟩
  | 114 => ⟨S_, .f32⟩
  | 115 => ⟨S_, .f32⟩
  | 116 => ⟨S2x64x128x128x8, .i1⟩
  | 117 => ⟨S2x64x128x128x8, .f32⟩
  | 118 => ⟨S2x64x128x128x8, .f32⟩
  | 119 => ⟨S2x64x128x128x8, .f32⟩
  | 120 => ⟨S2x64x8x128x128, .f32⟩
  | 121 => ⟨S2x64x128x128x8, .f32⟩
  | 122 => ⟨S2x64x128x128x8, .f32⟩
  | 123 => ⟨S2x64x8x64x128, .f32⟩
  | 124 => ⟨S2x64x128x8x64, .f32⟩
  | 125 => ⟨S2x64x8x64x128, .f32⟩
  | 126 => ⟨S2x64x128x8x64, .f32⟩
  | 127 => ⟨S2x64x128x8, .f32⟩
  | _ => ⟨S2x8192x512, .f32⟩

abbrev hbmTy0_2 (i : Nat) : BufTy := match i % 128 with
  | 0 => ⟨S2x64x128x8x1, .f32⟩
  | 1 => ⟨S2x64x128x8x64, .f32⟩
  | 2 => ⟨S2x64x128x8x64, .f32⟩
  | 3 => ⟨S2x64x128x8x64, .f32⟩
  | 4 => ⟨S2x8192x8x64, .f32⟩
  | 5 => ⟨S8x1, .f32⟩
  | 6 => ⟨S1x1x8x1, .f32⟩
  | 7 => ⟨S2x8192x8x64, .f32⟩
  | 8 => ⟨S2x8192x8x64, .f32⟩
  | 9 => ⟨S2x8192x8x64, .f32⟩
  | 10 => ⟨S2x8192x512, .f32⟩
  | 11 => ⟨S2x8192x512, .f32⟩
  | 12 => ⟨S2x8192x512, .f32⟩
  | 13 => ⟨S_, .f32⟩
  | 14 => ⟨S2x8192x512, .f32⟩
  | 15 => ⟨S2x8192x512, .f32⟩
  | 16 => ⟨S_, .f32⟩
  | 17 => ⟨S2x8192x512, .f32⟩
  | 18 => ⟨S2x8192x512, .f32⟩
  | 19 => ⟨S2x8192x512, .f32⟩
  | 20 => ⟨S2x8192x512, .f32⟩
  | 21 => ⟨S2x8192x2x256, .f32⟩
  | 22 => ⟨S2x8192x2x256, .f32⟩
  | 23 => ⟨S_, .f32⟩
  | 24 => ⟨S2x8192x2, .f32⟩
  | 25 => ⟨S2x8192x2x1, .f32⟩
  | 26 => ⟨S_, .f32⟩
  | 27 => ⟨S2x8192x2x1, .f32⟩
  | 28 => ⟨S2x8192x2x1, .f32⟩
  | 29 => ⟨S_, .f32⟩
  | 30 => ⟨S2x8192x2x1, .f32⟩
  | 31 => ⟨S2x8192x2x1, .f32⟩
  | 32 => ⟨S2x8192x2x1, .f32⟩
  | 33 => ⟨S2x8192x2x256, .f32⟩
  | 34 => ⟨S2x8192x2x256, .f32⟩
  | 35 => ⟨S2x8192x512, .f32⟩
  | 36 => ⟨S1x1x512, .f32⟩
  | 37 => ⟨S2x8192x512, .f32⟩
  | 38 => ⟨S2x8192x512, .f32⟩
  | 39 => ⟨S16384x512, .f32⟩
  | 40 => ⟨S2x512x128, .f32⟩
  | 41 => ⟨S2x3x1024, .f32⟩
  | _ => ⟨S2x8192x512, .f32⟩

abbrev hbmTy (i : Nat) : BufTy := match i / 128 with
  | 0 => hbmTy0_0 i
  | 1 => hbmTy0_1 i
  | 2 => hbmTy0_2 i
  | _ => ⟨S2x8192x512, .f32⟩

abbrev bufTy : (tb : Table) → Fin (tcTables nBuf tb) → BufTy
  | .hbm, ⟨i, _⟩ => hbmTy i
  | _, _ => ⟨S2x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call1_cst : Ref sig .tc := ⟨.hbm, 62, rfl⟩
abbrev main_call1_v0 : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_v5 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_call2_call0_cst : Ref sig .tc := ⟨.hbm, 92, rfl⟩
abbrev main_call2_call0_v0 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_cst_1 : Ref sig .tc := ⟨.hbm, 108, rfl⟩
abbrev main_v74 : Ref sig .tc := ⟨.hbm, 109, rfl⟩
abbrev main_c : Ref sig .tc := ⟨.hbm, 110, rfl⟩
abbrev main_v75_0 : Ref sig .tc := ⟨.hbm, 111, rfl⟩
abbrev main_v75_1 : Ref sig .tc := ⟨.hbm, 112, rfl⟩
abbrev main_v75_2 : Ref sig .tc := ⟨.hbm, 113, rfl⟩
abbrev main_v75_3 : Ref sig .tc := ⟨.hbm, 114, rfl⟩
abbrev main_v75_4 : Ref sig .tc := ⟨.hbm, 115, rfl⟩
abbrev main_while0c_c_12 : Ref sig .tc := ⟨.hbm, 116, rfl⟩
abbrev main_while0c_v186 : Ref sig .tc := ⟨.hbm, 117, rfl⟩
abbrev main_while0b_call3_c : Ref sig .tc := ⟨.hbm, 118, rfl⟩
abbrev main_while0b_call3_c_0 : Ref sig .tc := ⟨.hbm, 119, rfl⟩
abbrev main_while0b_call3_c_1 : Ref sig .tc := ⟨.hbm, 120, rfl⟩
abbrev main_while0b_call3_c_2 : Ref sig .tc := ⟨.hbm, 121, rfl⟩
abbrev main_while0b_call3_v0 : Ref sig .tc := ⟨.hbm, 122, rfl⟩
abbrev main_while0b_v186 : Ref sig .tc := ⟨.hbm, 123, rfl⟩
abbrev main_while0b_call4_c : Ref sig .tc := ⟨.hbm, 124, rfl⟩
abbrev main_while0b_call4_c_0 : Ref sig .tc := ⟨.hbm, 125, rfl⟩
abbrev main_while0b_call4_v0 : Ref sig .tc := ⟨.hbm, 126, rfl⟩
abbrev main_while0b_v187 : Ref sig .tc := ⟨.hbm, 127, rfl⟩
abbrev main_while0b_v188 : Ref sig .tc := ⟨.hbm, 128, rfl⟩
abbrev main_while0b_v189 : Ref sig .tc := ⟨.hbm, 129, rfl⟩
abbrev main_while0b_v190 : Ref sig .tc := ⟨.hbm, 130, rfl⟩
abbrev main_while0b_v191 : Ref sig .tc := ⟨.hbm, 131, rfl⟩
abbrev main_while0b_call5_v0 : Ref sig .tc := ⟨.hbm, 132, rfl⟩
abbrev main_while0b_call5_c : Ref sig .tc := ⟨.hbm, 133, rfl⟩
abbrev main_while0b_call5_c_0 : Ref sig .tc := ⟨.hbm, 134, rfl⟩
abbrev main_while0b_call5_c_1 : Ref sig .tc := ⟨.hbm, 135, rfl⟩
abbrev main_while0b_call5_c_2 : Ref sig .tc := ⟨.hbm, 136, rfl⟩
abbrev main_while0b_v192 : Ref sig .tc := ⟨.hbm, 137, rfl⟩
abbrev main_while0b_c_12 : Ref sig .tc := ⟨.hbm, 138, rfl⟩
abbrev main_while0b_v193 : Ref sig .tc := ⟨.hbm, 139, rfl⟩
abbrev main_v76 : Ref sig .tc := ⟨.hbm, 140, rfl⟩
abbrev main_cst_2 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_v101 : Ref sig .tc := ⟨.hbm, 166, rfl⟩
abbrev main_v102 : Ref sig .tc := ⟨.hbm, 167, rfl⟩
abbrev main_v103 : Ref sig .tc := ⟨.hbm, 168, rfl⟩
abbrev main_v104 : Ref sig .tc := ⟨.hbm, 169, rfl⟩
abbrev main_v105 : Ref sig .tc := ⟨.hbm, 170, rfl⟩
abbrev main_v106 : Ref sig .tc := ⟨.hbm, 171, rfl⟩
abbrev main_v107 : Ref sig .tc := ⟨.hbm, 172, rfl⟩
abbrev main_v108 : Ref sig .tc := ⟨.hbm, 173, rfl⟩
abbrev main_call6_v0 : Ref sig .tc := ⟨.hbm, 174, rfl⟩
abbrev main_call6_v1 : Ref sig .tc := ⟨.hbm, 175, rfl⟩
abbrev main_call6_cst : Ref sig .tc := ⟨.hbm, 176, rfl⟩
abbrev main_call6_v2 : Ref sig .tc := ⟨.hbm, 177, rfl⟩
abbrev main_call6_v3 : Ref sig .tc := ⟨.hbm, 178, rfl⟩
abbrev main_call6_cst_0 : Ref sig .tc := ⟨.hbm, 179, rfl⟩
abbrev main_call6_v4 : Ref sig .tc := ⟨.hbm, 180, rfl⟩
abbrev main_call6_v5 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_call7_cst : Ref sig .tc := ⟨.hbm, 192, rfl⟩
abbrev main_call7_v0 : Ref sig .tc := ⟨.hbm, 193, rfl⟩
abbrev main_call7_v1 : Ref sig .tc := ⟨.hbm, 194, rfl⟩
abbrev main_call7_v2 : Ref sig .tc := ⟨.hbm, 195, rfl⟩
abbrev main_call7_v3 : Ref sig .tc := ⟨.hbm, 196, rfl⟩
abbrev main_call7_v4 : Ref sig .tc := ⟨.hbm, 197, rfl⟩
abbrev main_call7_v5 : Ref sig .tc := ⟨.hbm, 198, rfl⟩
abbrev main_call7_v6 : Ref sig .tc := ⟨.hbm, 199, rfl⟩
abbrev main_call7_v7 : Ref sig .tc := ⟨.hbm, 200, rfl⟩
abbrev main_call7_v8 : Ref sig .tc := ⟨.hbm, 201, rfl⟩
abbrev main_call7_v9 : Ref sig .tc := ⟨.hbm, 202, rfl⟩
abbrev main_call7_v10 : Ref sig .tc := ⟨.hbm, 203, rfl⟩
abbrev main_call7_v11 : Ref sig .tc := ⟨.hbm, 204, rfl⟩
abbrev main_v119 : Ref sig .tc := ⟨.hbm, 205, rfl⟩
abbrev main_v120 : Ref sig .tc := ⟨.hbm, 206, rfl⟩
abbrev main_v121 : Ref sig .tc := ⟨.hbm, 207, rfl⟩
abbrev main_v122 : Ref sig .tc := ⟨.hbm, 208, rfl⟩
abbrev main_v123 : Ref sig .tc := ⟨.hbm, 209, rfl⟩
abbrev main_v124 : Ref sig .tc := ⟨.hbm, 210, rfl⟩
abbrev main_v125 : Ref sig .tc := ⟨.hbm, 211, rfl⟩
abbrev main_v126 : Ref sig .tc := ⟨.hbm, 212, rfl⟩
abbrev main_v127 : Ref sig .tc := ⟨.hbm, 213, rfl⟩
abbrev main_v128 : Ref sig .tc := ⟨.hbm, 214, rfl⟩
abbrev main_v129 : Ref sig .tc := ⟨.hbm, 215, rfl⟩
abbrev main_v130 : Ref sig .tc := ⟨.hbm, 216, rfl⟩
abbrev main_v131 : Ref sig .tc := ⟨.hbm, 217, rfl⟩
abbrev main_v132 : Ref sig .tc := ⟨.hbm, 218, rfl⟩
abbrev main_v133 : Ref sig .tc := ⟨.hbm, 219, rfl⟩
abbrev main_v134 : Ref sig .tc := ⟨.hbm, 220, rfl⟩
abbrev main_v135 : Ref sig .tc := ⟨.hbm, 221, rfl⟩
abbrev main_call8_call0_cst : Ref sig .tc := ⟨.hbm, 222, rfl⟩
abbrev main_call8_call0_v0 : Ref sig .tc := ⟨.hbm, 223, rfl⟩
abbrev main_v136 : Ref sig .tc := ⟨.hbm, 224, rfl⟩
abbrev main_c_3 : Ref sig .tc := ⟨.hbm, 225, rfl⟩
abbrev main_v137 : Ref sig .tc := ⟨.hbm, 226, rfl⟩
abbrev main_call9_v0 : Ref sig .tc := ⟨.hbm, 227, rfl⟩
abbrev main_call9_c : Ref sig .tc := ⟨.hbm, 228, rfl⟩
abbrev main_call9_v1 : Ref sig .tc := ⟨.hbm, 229, rfl⟩
abbrev main_call9_v2 : Ref sig .tc := ⟨.hbm, 230, rfl⟩
abbrev main_call9_v3 : Ref sig .tc := ⟨.hbm, 231, rfl⟩
abbrev main_call9_v4 : Ref sig .tc := ⟨.hbm, 232, rfl⟩
abbrev main_call9_c_0 : Ref sig .tc := ⟨.hbm, 233, rfl⟩
abbrev main_call9_v5 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_v143 : Ref sig .tc := ⟨.hbm, 240, rfl⟩
abbrev main_v144 : Ref sig .tc := ⟨.hbm, 241, rfl⟩
abbrev main_cst_4 : Ref sig .tc := ⟨.hbm, 242, rfl⟩
abbrev main_call10_v0 : Ref sig .tc := ⟨.hbm, 243, rfl⟩
abbrev main_call10_v1 : Ref sig .tc := ⟨.hbm, 244, rfl⟩
abbrev main_call10_v2 : Ref sig .tc := ⟨.hbm, 245, rfl⟩
abbrev main_v145 : Ref sig .tc := ⟨.hbm, 246, rfl⟩
abbrev main_v146 : Ref sig .tc := ⟨.hbm, 247, rfl⟩
abbrev main_v147 : Ref sig .tc := ⟨.hbm, 248, rfl⟩
abbrev main_v148 : Ref sig .tc := ⟨.hbm, 249, rfl⟩
abbrev main_v149 : Ref sig .tc := ⟨.hbm, 250, rfl⟩
abbrev main_v150 : Ref sig .tc := ⟨.hbm, 251, rfl⟩
abbrev main_v151 : Ref sig .tc := ⟨.hbm, 252, rfl⟩
abbrev main_v152 : Ref sig .tc := ⟨.hbm, 253, rfl⟩
abbrev main_v153 : Ref sig .tc := ⟨.hbm, 254, rfl⟩
abbrev main_v154 : Ref sig .tc := ⟨.hbm, 255, rfl⟩
abbrev main_v155 : Ref sig .tc := ⟨.hbm, 256, rfl⟩
abbrev main_v156 : Ref sig .tc := ⟨.hbm, 257, rfl⟩
abbrev main_v157 : Ref sig .tc := ⟨.hbm, 258, rfl⟩
abbrev main_v158 : Ref sig .tc := ⟨.hbm, 259, rfl⟩
abbrev main_v159 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_v163 : Ref sig .tc := ⟨.hbm, 264, rfl⟩
abbrev main_v164 : Ref sig .tc := ⟨.hbm, 265, rfl⟩
abbrev main_v165 : Ref sig .tc := ⟨.hbm, 266, rfl⟩
abbrev main_call11_v0 : Ref sig .tc := ⟨.hbm, 267, rfl⟩
abbrev main_call11_v1 : Ref sig .tc := ⟨.hbm, 268, rfl⟩
abbrev main_call11_cst : Ref sig .tc := ⟨.hbm, 269, rfl⟩
abbrev main_call11_v2 : Ref sig .tc := ⟨.hbm, 270, rfl⟩
abbrev main_call11_v3 : Ref sig .tc := ⟨.hbm, 271, rfl⟩
abbrev main_call11_cst_0 : Ref sig .tc := ⟨.hbm, 272, rfl⟩
abbrev main_call11_v4 : Ref sig .tc := ⟨.hbm, 273, rfl⟩
abbrev main_call11_v5 : Ref sig .tc := ⟨.hbm, 274, rfl⟩
abbrev main_v166 : Ref sig .tc := ⟨.hbm, 275, rfl⟩
abbrev main_v167 : Ref sig .tc := ⟨.hbm, 276, rfl⟩
abbrev main_v168 : Ref sig .tc := ⟨.hbm, 277, rfl⟩
abbrev main_v169 : Ref sig .tc := ⟨.hbm, 278, rfl⟩
abbrev main_cst_5 : Ref sig .tc := ⟨.hbm, 279, rfl⟩
abbrev main_v170 : Ref sig .tc := ⟨.hbm, 280, rfl⟩
abbrev main_v171 : Ref sig .tc := ⟨.hbm, 281, rfl⟩
abbrev main_cst_6 : Ref sig .tc := ⟨.hbm, 282, rfl⟩
abbrev main_v172 : Ref sig .tc := ⟨.hbm, 283, rfl⟩
abbrev main_v173 : Ref sig .tc := ⟨.hbm, 284, rfl⟩
abbrev main_cst_7 : Ref sig .tc := ⟨.hbm, 285, rfl⟩
abbrev main_v174 : Ref sig .tc := ⟨.hbm, 286, rfl⟩
abbrev main_v175 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_v181 : Ref sig .tc := ⟨.hbm, 293, rfl⟩
abbrev main_v182 : Ref sig .tc := ⟨.hbm, 294, rfl⟩
abbrev main_v183 : Ref sig .tc := ⟨.hbm, 295, rfl⟩
abbrev main_v184 : Ref sig .tc := ⟨.hbm, 296, rfl⟩
abbrev main_v185 : Ref sig .tc := ⟨.hbm, 297, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x256 : Shape := ⟨2, ![1, 256]⟩
abbrev S1x1024 : Shape := ⟨2, ![1, 1024]⟩
abbrev S16384x1024 : Shape := ⟨2, ![16384, 1024]⟩
abbrev S16384x256 : Shape := ⟨2, ![16384, 256]⟩
abbrev S16384x512 : Shape := ⟨2, ![16384, 512]⟩
abbrev S512x1024 : Shape := ⟨2, ![512, 1024]⟩
abbrev S512x256 : Shape := ⟨2, ![512, 256]⟩
abbrev S512x512 : Shape := ⟨2, ![512, 512]⟩
abbrev S512 : Shape := ⟨1, ![512]⟩
abbrev S512x1 : Shape := ⟨2, ![512, 1]⟩
abbrev S256x1024 : Shape := ⟨2, ![256, 1024]⟩

abbrev nBuf : Space → Nat
  | .hbm => 27
  | .vmem => 19
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x512, .f32⟩
  | .hbm, ⟨3, _⟩ => ⟨S2x8192x256, .f32⟩
  | .hbm, ⟨4, _⟩ => ⟨S256, .f32⟩
  | .hbm, ⟨5, _⟩ => ⟨S256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S1x256, .f32⟩
  | .hbm, ⟨14, _⟩ => ⟨S1x256, .f32⟩
  | .hbm, ⟨15, _⟩ => ⟨S1024x1024, .bf16⟩
  | .hbm, ⟨16, _⟩ => ⟨S1x1024, .f32⟩
  | .hbm, ⟨17, _⟩ => ⟨S1x1024, .f32⟩
  | .hbm, ⟨18, _⟩ => ⟨S1024x4096, .bf16⟩
  | .hbm, ⟨19, _⟩ => ⟨S4096x1024, .bf16⟩
  | .hbm, ⟨20, _⟩ => ⟨S1x1024, .f32⟩
  | .hbm, ⟨21, _⟩ => ⟨S1x1024, .f32⟩
  | .hbm, ⟨22, _⟩ => ⟨S16384x1024, .f32⟩
  | .hbm, ⟨23, _⟩ => ⟨S16384x256, .f32⟩
  | .hbm, ⟨24, _⟩ => ⟨S16384x512, .f32⟩
  | .hbm, ⟨25, _⟩ => ⟨S16384x256, .f32⟩
  | .hbm, ⟨26, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x512, .f32⟩
  | .local _ .vmem, ⟨5, _⟩ => ⟨S512x512, .f32⟩
  | .local _ .vmem, ⟨6, _⟩ => ⟨S512x256, .f32⟩
  | .local _ .vmem, ⟨7, _⟩ => ⟨S512x256, .f32⟩
  | .local _ .vmem, ⟨8, _⟩ => ⟨S1x256, .f32⟩
  | .local _ .vmem, ⟨9, _⟩ => ⟨S1x256, .f32⟩
  | .local _ .vmem, ⟨10, _⟩ => ⟨S1024x1024, .bf16⟩
  | .local _ .vmem, ⟨11, _⟩ => ⟨S1x1024, .f32⟩
  | .local _ .vmem, ⟨12, _⟩ => ⟨S1x1024, .f32⟩
  | .local _ .vmem, ⟨13, _⟩ => ⟨S1024x4096, .bf16⟩
  | .local _ .vmem, ⟨14, _⟩ => ⟨S4096x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | .local _ .vmem, ⟨18, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x4096 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4096x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference2Ideal.lean ====
abbrev S2x8192x1024 : Shape := ⟨3, ![2, 8192, 1024]⟩
abbrev S2x8192x256 : Shape := ⟨3, ![2, 8192, 256]⟩
abbrev S2x8192x512 : Shape := ⟨3, ![2, 8192, 512]⟩
abbrev S256 : Shape := ⟨1, ![256]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S2x8192 : Shape := ⟨2, ![2, 8192]⟩
abbrev S2x8192x1 : Shape := ⟨3, ![2, 8192, 1]⟩
abbrev S1x1x256 : Shape := ⟨3, ![1, 1, 256]⟩
abbrev S1x1x1024 : Shape := ⟨3, ![1, 1, 1024]⟩
abbrev S2x8192x4096 : Shape := ⟨3, ![2, 8192, 4096]⟩
abbrev S16384x1024 : Shape := ⟨2, ![16384, 1024]⟩

abbrev nBuf : Space → Nat
  | .hbm => 120
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S2x8192x256, .f32⟩
  | .hbm, ⟨2, _⟩ => ⟨S2x8192x512, .f32⟩
  | .hbm, ⟨3, _⟩ => ⟨S2x8192x256, .f32⟩
  | .hbm, ⟨4, _⟩ => ⟨S256, .f32⟩
  | .hbm, ⟨5, _⟩ => ⟨S256, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x4096, .f32⟩
  | .hbm, ⟨10, _⟩ => ⟨S4096x1024, .f32⟩
  | .hbm, ⟨11, _⟩ => ⟨S1024, .f32⟩
  | .hbm, ⟨12, _⟩ => ⟨S1024, .f32⟩
  | .hbm, ⟨13, _⟩ => ⟨S2x8192x256, .f32⟩
  | .hbm, ⟨14, _⟩ => ⟨S_, .f32⟩
  | .hbm, ⟨15, _⟩ => ⟨S2x8192, .f32⟩
  | .hbm, ⟨16, _⟩ => ⟨S2x8192x1, .f32⟩
  | .hbm, ⟨17, _⟩ => ⟨S_, .f32⟩
  | .hbm, ⟨18, _⟩ => ⟨S2x8192x1, .f32⟩
  | .hbm, ⟨19, _⟩ => ⟨S2x8192x1, .f32⟩
  | .hbm, ⟨20, _⟩ => ⟨S_, .f32⟩
  | .hbm, ⟨21, _⟩ => ⟨S2x8192x1, .f32⟩
  | .hbm, ⟨22, _⟩ => ⟨S2x8192x1, .f32⟩
  | .hbm, ⟨23, _⟩ => ⟨S2x8192x1, .f32⟩
  | .hbm, ⟨24, _⟩ => ⟨S2x8192x256, .f32⟩
  | .hbm, ⟨25, _⟩ => ⟨S2x8192x256, .f32⟩
  | .hbm, ⟨26, _⟩ => ⟨S1x1x256, .f32⟩
  | .hbm, ⟨27, _⟩ => ⟨S2x8192x256, .f32⟩
  | .hbm, ⟨28, _⟩ => ⟨S2x8192x256, .f32⟩
  | .hbm, ⟨29, _⟩ => ⟨S2x8192x256, .f32⟩
  | .hbm, ⟨30, _⟩ => ⟨S_, .f32⟩
  | .hbm, ⟨31, _⟩ => ⟨S2x8192, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1, .f32⟩
  | .hbm, ⟨40, _⟩ => ⟨S2x8192x256, .f32⟩
  | .hbm, ⟨41, _⟩ => ⟨S2x8192x256, .f32⟩
  | .hbm, ⟨42, _⟩ => ⟨S1x1x256, .f32⟩
  | .hbm, ⟨43, _⟩ => ⟨S2x8192x256, .f32⟩
  | .hbm, ⟨44, _⟩ => ⟨S2x8192x256, .f32⟩
  | .hbm, ⟨45, _⟩ => ⟨S2x8192x1024, .f32⟩
  | .hbm, ⟨46, _⟩ => ⟨S2x8192x1024, .f32⟩
  | .hbm, ⟨47, _⟩ => ⟨S_, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S_, .f32⟩
  | .hbm, ⟨52, _⟩ => ⟨S2x8192, .f32⟩
  | .hbm, ⟨53, _⟩ => ⟨S2x8192x1, .f32⟩
  | .hbm, ⟨54, _⟩ => ⟨S_, .f32⟩
  | .hbm, ⟨55, _⟩ => ⟨S2x8192x1, .f32⟩
  | .hbm, ⟨56, _⟩ => ⟨S2x8192x1, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S_, .f32⟩
  | .hbm, ⟨61, _⟩ => ⟨S2x8192, .f32⟩
  | .hbm, ⟨62, _⟩ => ⟨S2x8192x1, .f32⟩
  | .hbm, ⟨63, _⟩ => ⟨S_, .f32⟩
  | .hbm, ⟨64, _⟩ => ⟨S2x8192x1, .f32⟩
  | .hbm, ⟨65, _⟩ => ⟨S2x8192x1, .f32⟩
  | .hbm, ⟨66, _⟩ => ⟨S2x8192x1024, .f32⟩
  | .hbm, ⟨67, _⟩ => ⟨S2x8192x1024, .f32⟩
  | .hbm, ⟨68, _⟩ => ⟨S_, .f32⟩
  | .hbm, ⟨69, _⟩ => ⟨S2x8192x1, .f32⟩
  | .hbm, ⟨70, _⟩ => ⟨S2x8192x1, .f32⟩
  | .hbm, ⟨71, _⟩ => ⟨S2x8192x1, .f32⟩
  | .hbm, ⟨72, _⟩ => ⟨S2x8192x1024, .f32⟩
  | .hbm, ⟨73, _⟩ => ⟨S2x8192x1024, .f32⟩
  | .hbm, ⟨74, _⟩ => ⟨S1x1x1024, .f32⟩
  | .hbm, ⟨75, _⟩ => ⟨S2x8192x1024, .f32⟩
  | .hbm, ⟨76, _⟩ => ⟨S2x8192x1024, .f32⟩
  | .hbm, ⟨77, _⟩ => ⟨S1x1x1024, .f32⟩
  | .hbm, ⟨78, _⟩ => ⟨S2x8192x1024, .f32⟩
  | .hbm, ⟨79, _⟩ => ⟨S2x8192x1024, .f32⟩
  | .hbm, ⟨80, _⟩ => ⟨S2x8192x4096, .f32⟩
  | .hbm, ⟨81, _⟩ => ⟨S_, .f32⟩
  | .hbm, ⟨82, _⟩ => ⟨S2x8192x4096, .f32⟩
  | .hbm, ⟨83, _⟩ => ⟨S2x8192x4096, .f32⟩
  | .hbm, ⟨84, _⟩ => ⟨S2x8192x4096, .f32⟩
  | .hbm, ⟨85, _⟩ => ⟨S2x8192x1024, .f32⟩
  | .hbm, ⟨86, _⟩ => ⟨S_, .f32⟩
  | .hbm, ⟨87, _⟩ => ⟨S2x8192x1024, .f32⟩
  | .hbm, ⟨88, _⟩ => ⟨S2x8192x1024, .f32⟩
  | .hbm, ⟨89, _⟩ => ⟨S2x8192x1024, .f32⟩
  | .hbm, ⟨90, _⟩ => ⟨S_, .f32⟩
  | .hbm, ⟨91, _⟩ => ⟨S2x8192, .f32⟩
  | .hbm, ⟨92, _⟩ => ⟨S2x8192x1, .f32⟩
  | .hbm, ⟨93, _⟩ => ⟨S_, .f32⟩
  | .hbm, ⟨94, _⟩ => ⟨S2x8192x1, .f32⟩
  | .hbm, ⟨95, _⟩ => ⟨S2x8192x1, .f32⟩
  | .hbm, ⟨96, _⟩ => ⟨S2x8192x1024, .f32⟩
  | .hbm, ⟨97, _⟩ => ⟨S2x8192x1024, .f32⟩
  | .hbm, ⟨98, _⟩ => ⟨S2x8192x1024, .f32⟩
  | .hbm, ⟨99, _⟩ => ⟨S_, .f32⟩
  | .hbm, ⟨100, _⟩ => ⟨S2x8192, .f32⟩
  | .hbm, ⟨101, _⟩ => ⟨S2x8192x1, .f32⟩
  | .hbm, ⟨102, _⟩ => ⟨S_, .f32⟩
  | .hbm, ⟨103, _⟩ => ⟨S2x8192x1, .f32⟩
  | .hbm, ⟨104, _⟩ => ⟨S2x8192x1, .f32⟩
  | .hbm, ⟨105, _⟩ => ⟨S2x8192x1024, .f32⟩
  | .hbm, ⟨106, _⟩ => ⟨S2x8192x1024, .f32⟩
  | .hbm, ⟨107, _⟩ => ⟨S_, .f32⟩
  | .hbm, ⟨108, _⟩ => ⟨S2x8192x1, .f32⟩
  | .hbm, ⟨109, _⟩ => ⟨S2x8192x1, .f32⟩
  | .hbm, ⟨110, _⟩ => ⟨S2x8192x1, .f32⟩
  | .hbm, ⟨111, _⟩ => ⟨S2x8192x1024, .f32⟩
  | .hbm, ⟨112, _⟩ => ⟨S2x8192x1024, .f32⟩
  | .hbm, ⟨113, _⟩ => ⟨S1x1x1024, .f32⟩
  | .hbm, ⟨114, _⟩ => ⟨S2x8192x1024, .f32⟩
  | .hbm, ⟨115, _⟩ => ⟨S2x8192x1024, .f32⟩
  | .hbm, ⟨116, _⟩ => ⟨S1x1x1024, .f32⟩
  | .hbm, ⟨117, _⟩ => ⟨S2x8192x1024, .f32⟩
  | .hbm, ⟨118, _⟩ => ⟨S2x8192x1024, .f32⟩
  | .hbm, ⟨119, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_cst : Ref sig .tc := ⟨.hbm, 14, rfl⟩
abbrev main_v1 : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_cst_1 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_2 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_v16 : Ref sig .tc := ⟨.hbm, 34, rfl⟩
abbrev main_v17 : Ref sig .tc := ⟨.hbm, 35, rfl⟩
abbrev main_cst_4 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_5 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_6 : Ref sig .tc := ⟨.hbm, 51, rfl⟩
abbrev main_v31 : Ref sig .tc := ⟨.hbm, 52, rfl⟩
abbrev main_v32 : Ref sig .tc := ⟨.hbm, 53, rfl⟩
abbrev main_cst_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_8 : Ref sig .tc := ⟨.hbm, 60, rfl⟩
abbrev main_v38 : Ref sig .tc := ⟨.hbm, 61, rfl⟩
abbrev main_v39 : Ref sig .tc := ⟨.hbm, 62, rfl⟩
abbrev main_cst_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_10 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_call0_cst : Ref sig .tc := ⟨.hbm, 81, rfl⟩
abbrev main_call0_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_cst_11 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_v62 : Ref sig .tc := ⟨.hbm, 91, rfl⟩
abbrev main_v63 : Ref sig .tc := ⟨.hbm, 92, rfl⟩
abbrev main_cst_13 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_14 : Ref sig .tc := ⟨.hbm, 99, rfl⟩
abbrev main_v69 : Ref sig .tc := ⟨.hbm, 100, rfl⟩
abbrev main_v70 : Ref sig .tc := ⟨.hbm, 101, rfl⟩
abbrev main_cst_15 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_16 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩

abbrev nD : Nat := 1
abbrev τ : Topo := Topo.v7x

variable {F : FTy → Type} [FloatOps F]
-- ==== Kernel3.lean ====
abbrev S2x8192x4x96 : Shape := ⟨4, ![2, 8192, 4, 96]⟩
abbrev S2x8192x4x64 : Shape := ⟨4, ![2, 8192, 4, 64]⟩
abbrev S_ : Shape := ⟨0, ![]⟩
abbrev S2x8192x4x32 : Shape := ⟨4, ![2, 8192, 4, 32]⟩
abbrev S64x256x256 : Shape := ⟨3, ![64, 256, 256]⟩
abbrev S2x8192x4x128 : Shape := ⟨4, ![2, 8192, 4, 128]⟩
abbrev S16384x512 : Shape := ⟨2, ![16384, 512]⟩
abbrev S16384x256 : Shape := ⟨2, ![16384, 256]⟩
abbrev S512x512 : Shape := ⟨2, ![512, 512]⟩
abbrev S8192x512 : Shape := ⟨2, ![8192, 512]⟩
abbrev S32x256x256 : Shape := ⟨3, ![32, 256, 256]⟩
abbrev S512x256 : Shape := ⟨2, ![512, 256]⟩
abbrev S256x512 : Shape := ⟨2, ![256, 512]⟩
abbrev S1x512 : Shape := ⟨2, ![1, 512]⟩
abbrev S64x512 : Shape := ⟨2, ![64, 512]⟩
abbrev S256x128 : Shape := ⟨2, ![256, 128]⟩
abbrev S512x128 : Shape := ⟨2, ![512, 128]⟩
abbrev S512 : Shape := ⟨1, ![512]⟩
abbrev S1x64x256 : Shape := ⟨3, ![1, 64, 256]⟩
abbrev S64x256 : Shape := ⟨2, ![64, 256]⟩

abbrev nBuf : Space → Nat
  | .hbm => 15
  | .vmem => 8
  | .smem => 0
  | _ => 0

abbrev bufTy : (tb : Table) → Fin (tcTables nBuf tb) → BufTy
  | .hbm, ⟨0, _⟩ => ⟨S2x8192x4x96, .f32⟩
  | .hbm, ⟨1, _⟩ => ⟨S2x8192x4x96, .f32⟩
  | .hbm, ⟨2, _⟩ => ⟨S2x8192x4x64, .f32⟩
  | .hbm, ⟨3, _⟩ => ⟨S_, .f32⟩
  | .hbm, ⟨4, _⟩ => ⟨S2x8192x4x32, .f32⟩
  | .hbm, ⟨5, _⟩ => ⟨S64x256x256, .f32⟩
  | .hbm, ⟨6, _⟩ => ⟨S64x256x256, .f32⟩
  | .hbm, ⟨7, _⟩ => ⟨S64x256x256, .bf16⟩
  | .hbm, ⟨8, _⟩ => ⟨S2x8192x4x128, .f32⟩
  | .hbm, ⟨9, _⟩ => ⟨S16384x512, .f32⟩
  | .hbm, ⟨10, _⟩ => ⟨S16384x512, .bf16⟩
  | .hbm, ⟨11, _⟩ => ⟨S2x8192x4x128, .f32⟩
  | .hbm, ⟨12, _⟩ => ⟨S16384x512, .f32⟩
  | .hbm, ⟨13, _⟩ => ⟨S16384x512, .bf16⟩
  | .hbm, ⟨14, _⟩ => ⟨S16384x256, .f32⟩
  | .local _ .vmem, ⟨0, _⟩ => ⟨S512x512, .bf16⟩
  | .local _ .vmem, ⟨1, _⟩ => ⟨S512x512, .bf16⟩
  | .local _ .vmem, ⟨2, _⟩ => ⟨S8192x512, .bf16⟩
  | .local _ .vmem, ⟨3, _⟩ => ⟨S8192x512, .bf16⟩
  | .local _ .vmem, ⟨4, _⟩ => ⟨S32x256x256, .bf16⟩
  | .local _ .vmem, ⟨5, _⟩ => ⟨S32x256x256, .bf16⟩
  | .local _ .vmem, ⟨6, _⟩ => ⟨S512x256, .f32⟩
  | .local _ .vmem, ⟨7, _⟩ => ⟨S512x256, .f32⟩
  | _, _ => ⟨S2x8192x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 16], ![false, false]⟩

@[reducible] def k0_t1_loop (i : grid0.Coords) : Scf.Loop 32 :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_11 : BitVec 32 := 1#32
  ⟨c0_i32, v19, c1_i32_11⟩
def k0_mult1 (i : grid0.Coords) (k0_t1 : Fin (k0_t1_loop i).trips) : BitVec 32 :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let c0_i32_97 : BitVec 32 := 0#32
  let v272 : BitVec 32 := Scalar.addi v271 c0_i32_97
  let c256_i32_98 : BitVec 32 := 256#32
  let v273 : BitVec 32 := Scalar.muli v272 c256_i32_98
  v273
def k0_off1 (i : grid0.Coords) (k0_t1 : Fin (k0_t1_loop i).trips) (c0_i32_97 : BitVec 32) : Fin 2 → Nat :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let v272 : BitVec 32 := Scalar.addi v271 c0_i32_97
  let c256_i32_98 : BitVec 32 := 256#32
  let v273 : BitVec 32 := Scalar.muli v272 c256_i32_98
  let v274 : BitVec 32 := v273
  let v275 : Index := Scalar.indexCast v274
  let c0_99 : Index := 0#32
  ![v275.toNat, 0]
def k0_off2 (i : grid0.Coords) (k0_t1 : Fin (k0_t1_loop i).trips) (c0_i32_97 : BitVec 32) : Fin 2 → Nat :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let v272 : BitVec 32 := Scalar.addi v271 c0_i32_97
  let c256_i32_98 : BitVec 32 := 256#32
  let v273 : BitVec 32 := Scalar.muli v272 c256_i32_98
  let v274 : BitVec 32 := v273
  let v281 : Index := Scalar.indexCast v274
  let c128_103 : Index := 128#32
  ![v281.toNat, 128]
def k0_off3 (i : grid0.Coords) (k0_t1 : Fin (k0_t1_loop i).trips) (c0_i32_97 : BitVec 32) : Fin 2 → Nat :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let v272 : BitVec 32 := Scalar.addi v271 c0_i32_97
  let c256_i32_98 : BitVec 32 := 256#32
  let v273 : BitVec 32 := Scalar.muli v272 c256_i32_98
  let v274 : BitVec 32 := v273
  let v287 : Index := Scalar.indexCast v274
  let c256_107 : Index := 256#32
  ![v287.toNat, 256]
def k0_off4 (i : grid0.Coords) (k0_t1 : Fin (k0_t1_loop i).trips) (c0_i32_97 : BitVec 32) : Fin 2 → Nat :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let v272 : BitVec 32 := Scalar.addi v271 c0_i32_97
  let c256_i32_98 : BitVec 32 := 256#32
  let v273 : BitVec 32 := Scalar.muli v272 c256_i32_98
  let v274 : BitVec 32 := v273
  let v293 : Index := Scalar.indexCast v274
  let c384_111 : Index := 384#32
  ![v293.toNat, 384]
def k0_mult2 (i : grid0.Coords) (k0_t1 : Fin (k0_t1_loop i).trips) : BitVec 32 :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let c1_i32_115 : BitVec 32 := 1#32
  let v299 : BitVec 32 := Scalar.addi v271 c1_i32_115
  let c256_i32_116 : BitVec 32 := 256#32
  let v300 : BitVec 32 := Scalar.muli v299 c256_i32_116
  v300
def k0_off5 (i : grid0.Coords) (k0_t1 : Fin (k0_t1_loop i).trips) (c0_i32_133 : BitVec 32) : Fin 3 → Nat :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let v326 : BitVec 32 := Scalar.addi v271 c0_i32_133
  let v379 : Index := Scalar.indexCast v326
  let c0_142 : Index := 0#32
  let c0_143 : Index := 0#32
  ![v379.toNat, 0, 0]
def k0_off6 (i : grid0.Coords) (k0_t1 : Fin (k0_t1_loop i).trips) (c0_i32_133 : BitVec 32) : Fin 3 → Nat :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let v326 : BitVec 32 := Scalar.addi v271 c0_i32_133
  let v383 : Index := Scalar.indexCast v326
  let c64_145 : Index := 64#32
  let c0_146 : Index := 0#32
  ![v383.toNat, 64, 0]
def k0_off7 (i : grid0.Coords) (k0_t1 : Fin (k0_t1_loop i).trips) (c0_i32_133 : BitVec 32) : Fin 3 → Nat :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let v326 : BitVec 32 := Scalar.addi v271 c0_i32_133
  let v387 : Index := Scalar.indexCast v326
  let c128_148 : Index := 128#32
  let c0_149 : Index := 0#32
  ![v387.toNat, 128, 0]
def k0_off8 (i : grid0.Coords) (k0_t1 : Fin (k0_t1_loop i).trips) (c0_i32_133 : BitVec 32) : Fin 3 → Nat :=
  let c0_i32 : BitVec 32 := 0#32
  let c1_i32_11 : BitVec 32 := 1#32
  let arg6 : BitVec 32 := Scf.iv c0_i32 c1_i32_11 k0_t1
  let c2_i32_96 : BitVec 32 := 2#32
  let v271 : BitVec 32 := Scalar.muli arg6 c2_i32_96
  let v326 : BitVec 32 := Scalar.addi v271 c0_i32_133
  let v391 : Index := Scalar.indexCast v326
  let c192_151 : Index := 192#32
  let c0_152 : Index := 0#32
  ![v391.toNat, 192, 0]
@[reducible] def k0_t2_loop (i : grid0.Coords) : Scf.Loop 32 :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let v16 : BitVec 32 := Scalar.addi c0_i32 v15
  let c1_i32_12 : BitVec 32 := 1#32
  ⟨v19, v16, c1_i32_12⟩
def k0_mult3 (i : grid0.Coords) (k0_t2 : Fin (k0_t2_loop i).trips) : BitVec 32 :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let c0_i32_97 : BitVec 32 := 0#32
  let v272 : BitVec 32 := Scalar.addi v271 c0_i32_97
  let c256_i32_98 : BitVec 32 := 256#32
  let v273 : BitVec 32 := Scalar.muli v272 c256_i32_98
  v273
def k0_off9 (i : grid0.Coords) (k0_t2 : Fin (k0_t2_loop i).trips) (c0_i32_97 : BitVec 32) : Fin 2 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let v272 : BitVec 32 := Scalar.addi v271 c0_i32_97
  let c256_i32_98 : BitVec 32 := 256#32
  let v273 : BitVec 32 := Scalar.muli v272 c256_i32_98
  let v274 : BitVec 32 := v273
  let v275 : Index := Scalar.indexCast v274
  let c0_99 : Index := 0#32
  ![v275.toNat, 0]
def k0_off10 (i : grid0.Coords) (k0_t2 : Fin (k0_t2_loop i).trips) (c0_i32_97 : BitVec 32) : Fin 2 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let v272 : BitVec 32 := Scalar.addi v271 c0_i32_97
  let c256_i32_98 : BitVec 32 := 256#32
  let v273 : BitVec 32 := Scalar.muli v272 c256_i32_98
  let v274 : BitVec 32 := v273
  let v281 : Index := Scalar.indexCast v274
  let c128_103 : Index := 128#32
  ![v281.toNat, 128]
def k0_off11 (i : grid0.Coords) (k0_t2 : Fin (k0_t2_loop i).trips) (c0_i32_97 : BitVec 32) : Fin 2 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let v272 : BitVec 32 := Scalar.addi v271 c0_i32_97
  let c256_i32_98 : BitVec 32 := 256#32
  let v273 : BitVec 32 := Scalar.muli v272 c256_i32_98
  let v274 : BitVec 32 := v273
  let v287 : Index := Scalar.indexCast v274
  let c256_107 : Index := 256#32
  ![v287.toNat, 256]
def k0_off12 (i : grid0.Coords) (k0_t2 : Fin (k0_t2_loop i).trips) (c0_i32_97 : BitVec 32) : Fin 2 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let v272 : BitVec 32 := Scalar.addi v271 c0_i32_97
  let c256_i32_98 : BitVec 32 := 256#32
  let v273 : BitVec 32 := Scalar.muli v272 c256_i32_98
  let v274 : BitVec 32 := v273
  let v293 : Index := Scalar.indexCast v274
  let c384_111 : Index := 384#32
  ![v293.toNat, 384]
def k0_mult4 (i : grid0.Coords) (k0_t2 : Fin (k0_t2_loop i).trips) : BitVec 32 :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let c1_i32_115 : BitVec 32 := 1#32
  let v299 : BitVec 32 := Scalar.addi v271 c1_i32_115
  let c256_i32_116 : BitVec 32 := 256#32
  let v300 : BitVec 32 := Scalar.muli v299 c256_i32_116
  v300
def k0_off13 (i : grid0.Coords) (k0_t2 : Fin (k0_t2_loop i).trips) (c0_i32_133 : BitVec 32) : Fin 3 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let v326 : BitVec 32 := Scalar.addi v271 c0_i32_133
  let v379 : Index := Scalar.indexCast v326
  let c0_142 : Index := 0#32
  let c0_143 : Index := 0#32
  ![v379.toNat, 0, 0]
def k0_off14 (i : grid0.Coords) (k0_t2 : Fin (k0_t2_loop i).trips) (c0_i32_133 : BitVec 32) : Fin 3 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let v326 : BitVec 32 := Scalar.addi v271 c0_i32_133
  let v383 : Index := Scalar.indexCast v326
  let c64_145 : Index := 64#32
  let c0_146 : Index := 0#32
  ![v383.toNat, 64, 0]
def k0_off15 (i : grid0.Coords) (k0_t2 : Fin (k0_t2_loop i).trips) (c0_i32_133 : BitVec 32) : Fin 3 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let v326 : BitVec 32 := Scalar.addi v271 c0_i32_133
  let v387 : Index := Scalar.indexCast v326
  let c128_148 : Index := 128#32
  let c0_149 : Index := 0#32
  ![v387.toNat, 128, 0]
def k0_off16 (i : grid0.Coords) (k0_t2 : Fin (k0_t2_loop i).trips) (c0_i32_133 : BitVec 32) : Fin 3 → Nat :=
  let c0_i32 : BitVec 32 := 0#32
  let arg1 : BitVec 32 := BitVec.ofNat 32 (i 1).val
  let v15 : BitVec 32 := Scalar.subi arg1 c0_i32
  let c1_i32 : BitVec 32 := 1#32
  let v17 : BitVec 32 := Scalar.divsi v15 c1_i32
  let v18 : BitVec 32 := Scalar.muli v17 c1_i32
  let v19 : BitVec 32 := Scalar.addi c0_i32 v18
  let c1_i32_12 : BitVec 32 := 1#32
  let arg6 : BitVec 32 := Scf.iv v19 c1_i32_12 k0_t2
  let c2_i32_96 : BitVec 32 := 2#32
  let v271 : BitVec 32 := Scalar.muli arg6 c2_i32_96
  let v326 : BitVec 32 := Scalar.addi v271 c0_i32_133
  let v391 : Index := Scalar.indexCast v326
  let c192_151 : Index := 192#32
  let c0_152 : Index := 0#32
  ![v391.toNat, 192, 0]
def k0_mult5 (i : grid0.Coords) : BitVec 32 :=
  let arg1 : BitVec 32 := BitVec.ofNat 32 (i 1).val
  let c2_i32 : BitVec 32 := 2#32
  let v14 : BitVec 32 := Scalar.muli arg1 c2_i32
  let c0_i32_14 : BitVec 32 := 0#32
  let v28 : BitVec 32 := Scalar.addi v14 c0_i32_14
  let c256_i32_15 : BitVec 32 := 256#32
  let v29 : BitVec 32 := Scalar.muli v28 c256_i32_15
  v29
def k0_off17 (i : grid0.Coords) (c0_i32_14 : BitVec 32) : Fin 2 → Nat :=
  let arg1 : BitVec 32 := BitVec.ofNat 32 (i 1).val
  let c2_i32 : BitVec 32 := 2#32
  let v14 : BitVec 32 := Scalar.muli arg1 c2_i32
  let v28 : BitVec 32 := Scalar.addi v14 c0_i32_14
  let c256_i32_15 : BitVec 32 := 256#32
  let v29 : BitVec 32 := Scalar.muli v28 c256_i32_15
  let v30 : BitVec 32 := v29
  let v31 : Index := Scalar.indexCast v30
  let c0 : Index := 0#32
  ![v31.toNat, 0]
def k0_off18 (i : grid0.Coords) (c0_i32_14 : BitVec 32) : Fin 2 → Nat :=
  let arg1 : BitVec 32 := BitVec.ofNat 32 (i 1).val
  let c2_i32 : BitVec 32 := 2#32
  let v14 : BitVec 32 := Scalar.muli arg1 c2_i32
  let v28 : BitVec 32 := Scalar.addi v14 c0_i32_14
  let c256_i32_15 : BitVec 32 := 256#32
  let v29 : BitVec 32 := Scalar.muli v28 c256_i32_15
  let v30 : BitVec 32 := v29
  let v37 : Index := Scalar.indexCast v30
  let c128 : Index := 128#32
  ![v37.toNat, 128]
def k0_off19 (i : grid0.Coords) (c0_i32_14 : BitVec 32) : Fin 2 → Nat :=
  let arg1 : BitVec 32 := BitVec.ofNat 32 (i 1).val
  let c2_i32 : BitVec 32 := 2#32
  let v14 : BitVec 32 := Scalar.muli arg1 c2_i32
  let v28 : BitVec 32 := Scalar.addi v14 c0_i32_14
  let c256_i32_15 : BitVec 32 := 256#32
  let v29 : BitVec 32 := Scalar.muli v28 c256_i32_15
  let v30 : BitVec 32 := v29
  let v43 : Index := Scalar.indexCast v30
  let c256 : Index := 256#32
  ![v43.toNat, 256]
def k0_off20 (i : grid0.Coords) (c0_i32_14 : BitVec 32) : Fin 2 → Nat :=
  let arg1 : BitVec 32 := BitVec.ofNat 32 (i 1).val
  let c2_i32 : BitVec 32 := 2#32
  let v14 : BitVec 32 := Scalar.muli arg1 c2_i32
  let v28 : BitVec 32 := Scalar.addi v14 c0_i32_14
  let c256_i32_15 : BitVec 32 := 256#32
  let v29 : BitVec 32 := Scalar.muli v28 c256_i32_15
  let v30 : BitVec 32 := v29
  let v49 : Index := Scalar.indexCast v30
  let c384 : Index := 384#32
  ![v49.toNat, 384]
def k0_mult6 (i : grid0.Coords) : BitVec 32 :=
  let arg1 : BitVec 32 := BitVec.ofNat 32 (i 1).val
  let c2_i32 : BitVec 32 := 2#32
  let v14 : BitVec 32 := Scalar.muli arg1 c2_i32
  let c1_i32_28 : BitVec 32 := 1#32
  let v55 : BitVec 32 := Scalar.addi v14 c1_i32_28
  let c256_i32_29 : BitVec 32 := 256#32
  let v56 : BitVec 32 := Scalar.muli v55 c256_i32_29
  v56
def k0_off21 (i : grid0.Coords) (c0_i32_46 : BitVec 32) : Fin 3 → Nat :=
  let arg1 : BitVec 32 := BitVec.ofNat 32 (i 1).val
  let c2_i32 : BitVec 32 := 2#32
  let v14 : BitVec 32 := Scalar.muli arg1 c2_i32
  let v82 : BitVec 32 := Scalar.addi v14 c0_i32_46
  let v143 : Index := Scalar.indexCast v82
  let c0_59 : Index := 0#32
  let c0_60 : Index := 0#32
  ![v143.toNat, 0, 0]
def k0_off22 (i : grid0.Coords) (c0_i32_46 : BitVec 32) : Fin 3 → Nat :=
  let arg1 : BitVec 32 := BitVec.ofNat 32 (i 1).val
  let c2_i32 : BitVec 32 := 2#32
  let v14 : BitVec 32 := Scalar.muli arg1 c2_i32
  let v82 : BitVec 32 := Scalar.addi v14 c0_i32_46
  let v147 : Index := Scalar.indexCast v82
  let c64 : Index := 64#32
  let c0_62 : Index := 0#32
  ![v147.toNat, 64, 0]
def k0_off23 (i : grid0.Coords) (c0_i32_46 : BitVec 32) : Fin 3 → Nat :=
  let arg1 : BitVec 32 := BitVec.ofNat 32 (i 1).val
  let c2_i32 : BitVec 32 := 2#32
  let v14 : BitVec 32 := Scalar.muli arg1 c2_i32
  let v82 : BitVec 32 := Scalar.addi v14 c0_i32_46
  let v151 : Index := Scalar.indexCast v82
  let c128_64 : Index := 128#32
  let c0_65 : Index := 0#32
  ![v151.toNat, 128, 0]
def k0_off24 (i : grid0.Coords) (c0_i32_46 : BitVec 32) : Fin 3 → Nat :=
  let arg1 : BitVec 32 := BitVec.ofNat 32 (i 1).val
  let c2_i32 : BitVec 32 := 2#32
  let v14 : BitVec 32 := Scalar.muli arg1 c2_i32
  let v82 : BitVec 32 := Scalar.addi v14 c0_i32_46
  let v155 : Index := Scalar.indexCast v82
  let c192 : Index := 192#32
  let c0_67 : Index := 0#32
  ![v155.toNat, 192, 0]
def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S32x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S2x8192x4x96 : Shape := ⟨4, ![2, 8192, 4, 96]⟩
abbrev S2x8192x4x64 : Shape := ⟨4, ![2, 8192, 4, 64]⟩
abbrev S2x4x8192x8192 : Shape := ⟨4, ![2, 4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S2x4x8192 : Shape := ⟨3, ![2, 4, 8192]⟩
abbrev S2x4x8192x1 : Shape := ⟨4, ![2, 4, 8192, 1]⟩
abbrev S2x4x64x8192 : Shape := ⟨4, ![2, 4, 64, 8192]⟩
abbrev S16384x256 : Shape := ⟨2, ![16384, 256]⟩

abbrev nBuf : Space → Nat
  | .hbm => 36
  | .vmem => 0
  | .smem => 0
  | _ => 0

abbrev bufTy : (tb : Table) → Fin (tcTables nBuf tb) → BufTy
  | .hbm, ⟨0, _⟩ => ⟨S2x8192x4x96, .f32⟩
  | .hbm, ⟨1, _⟩ => ⟨S2x8192x4x96, .f32⟩
  | .hbm, ⟨2, _⟩ => ⟨S2x8192x4x64, .f32⟩
  | .hbm, ⟨3, _⟩ => ⟨S2x4x8192x8192, .f32⟩
  | .hbm, ⟨4, _⟩ => ⟨S_, .f32⟩
  | .hbm, ⟨5, _⟩ => ⟨S_, .f32⟩
  | .hbm, ⟨6, _⟩ => ⟨S2x4x8192x8192, .f32⟩
  | .hbm, ⟨7, _⟩ => ⟨S2x4x8192x8192, .f32⟩
  | .hbm, ⟨8, _⟩ => ⟨S8192, .i32⟩
  | .hbm, ⟨9, _⟩ => ⟨S1x8192, .i32⟩
  | .hbm, ⟨10, _⟩ => ⟨S8192x1, .i32⟩
  | .hbm, ⟨11, _⟩ => ⟨S8192x8192, .i32⟩
  | .hbm, ⟨12, _⟩ => ⟨S8192x8192, .i32⟩
  | .hbm, ⟨13, _⟩ => ⟨S8192x8192, .i1⟩
  | .hbm, ⟨14, _⟩ => ⟨S_, .f32⟩
  | .hbm, ⟨15, _⟩ => ⟨S_, .f32⟩
  | .hbm, ⟨16, _⟩ => ⟨S2x4x8192x8192, .i1⟩
  | .hbm, ⟨17, _⟩ => ⟨S2x4x8192x8192, .f32⟩
  | .hbm, ⟨18, _⟩ => ⟨S2x4x8192x8192, .f32⟩
  | .hbm, ⟨19, _⟩ => ⟨S_, .f32⟩
  | .hbm, ⟨20, _⟩ => ⟨S2x4x8192, .f32⟩
  | .hbm, ⟨21, _⟩ => ⟨S_, .f32⟩
  | .hbm, ⟨22, _⟩ => ⟨S2x4x8192, .f32⟩
  | .hbm, ⟨23, _⟩ => ⟨S2x4x8192, .f32⟩
  | .hbm, ⟨24, _⟩ => ⟨S2x4x8192x1, .f32⟩
  | .hbm, ⟨25, _⟩ => ⟨S2x4x8192x8192, .f32⟩
  | .hbm, ⟨26, _⟩ => ⟨S2x4x8192x8192, .f32⟩
  | .hbm, ⟨27, _⟩ => ⟨S2x4x8192x8192, .f32⟩
  | .hbm, ⟨28, _⟩ => ⟨S_, .f32⟩
  | .hbm, ⟨29, _⟩ => ⟨S2x4x8192, .f32⟩
  | .hbm, ⟨30, _⟩ => ⟨S2x4x8192x1, .f32⟩
  | .hbm, ⟨31, _⟩ => ⟨S2x4x8192x8192, .f32⟩
  | .hbm, ⟨32, _⟩ => ⟨S2x4x8192x8192, .f32⟩
  | .hbm, ⟨33, _⟩ => ⟨S2x4x64x8192, .f32⟩
  | .hbm, ⟨34, _⟩ => ⟨S2x8192x4x64, .f32⟩
  | .hbm, ⟨35, _⟩ => ⟨S16384x256, .f32⟩
  | _, _ => ⟨S2x8192x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.SsdOpen.lean ====
/-
  What one grid point of the kernel leaves in its outputs and in its two carried scratches, as compositions of the
  kernel's named payloads over the blocks it reads, case by case: the first chunk of a sequence (A), a middle one (B), the
  last one (C).
-/
module

public import proofs.«01_k».proof.Proof.Gen.KernelIdeal.Value
public import Idealize.ShloMosaic.Lib.Pointwise
public import Idealize.ShloMosaic.Lib.Pipeline.ReadBack
public import Idealize.ShloMosaic.Lib.WritesUnit
public import Idealize.ShloMosaic.Lib.Pipeline.ValueKit

@[expose] public section

set_option maxRecDepth 65536

noncomputable section

namespace Cert.Ssd

open Idealize.ShloMosaic Cert.KernelIdeal Cert.KernelIdeal.Gen Idealize.ShloMosaic.TcCoe Idealize.SL.Sem

variable {F : FTy → Type} [FloatOps F]

/-- The rows' window of a chunk that follows another: the carried eight rows, then the chunk's. -/
def winB (xs0 : Vec F S136x1024 .f32) (x1 : Vec F S128x1024 .f32) : Vec F S136x1024 .f32 :=
  fun y => if h : 8 ≤ (y 0).val then x1 (ix2 ⟨(y 0).val - 8, by have := (y 0).isLt; change (y 0).val < 136 at this; omega⟩ (y 1)) else xs0 y

/-- The rows' window of a sequence's first chunk: eight rows of zeros, then the chunk's. -/
def winA (x1 : Vec F S128x1024 .f32) : Vec F S136x1024 .f32 :=
  View.canon [⟨Rect.unit ![8, 0] ![128, 1024] inb_S136x1024_S128x1024_8_0, k0_pay7 x1⟩,
    ⟨Rect.unit ![0, 0] ![8, 1024] inb_S136x1024_S8x1024_0_0, k0_pay5⟩]

/-- The chunk's last eight rows. -/
def lastRows (x1 : Vec F S128x1024 .f32) : Vec F S8x1024 .f32 :=
  View.ld (View.canon (Val := Elt F) (s := S136x1024) (e := .f32) [⟨Rect.unit ![8, 0] ![128, 1024] inb_S136x1024_S128x1024_8_0, k0_pay7 x1⟩])
    (Rect.unit ![128, 0] ![8, 1024] inb_S136x1024_S8x1024_128_0)

/-- The window a middle chunk leaves. -/
def tailB (x1 : Vec F S128x1024 .f32) : Vec F S136x1024 .f32 :=
  View.canon [⟨Rect.unit ![0, 0] ![8, 1024] inb_S136x1024_S8x1024_0_0, k0_pay9 (lastRows x1)⟩,
    ⟨Rect.unit ![8, 0] ![128, 1024] inb_S136x1024_S128x1024_8_0, k0_pay7 x1⟩]

/-- The window a sequence's first chunk leaves. -/
def tailA (x1 : Vec F S128x1024 .f32) : Vec F S136x1024 .f32 :=
  View.canon [⟨Rect.unit ![0, 0] ![8, 1024] inb_S136x1024_S8x1024_0_0,
      k0_pay9 (View.ld (winA x1) (Rect.unit ![128, 0] ![8, 1024] inb_S136x1024_S8x1024_128_0))⟩,
    ⟨Rect.unit ![8, 0] ![128, 1024] inb_S136x1024_S128x1024_8_0, k0_pay7 x1⟩,
    ⟨Rect.unit ![0, 0] ![8, 1024] inb_S136x1024_S8x1024_0_0, k0_pay5⟩]

/-- The convolution's rows, of the window, the chunk, the weights and the bias. -/
def cvK (w : Vec F S136x1024 .f32) (x1 : Vec F S128x1024 .f32) (x3 : Vec F S4x1024 .f32) (x4 : Vec F S1x1024 .f32) : FVec F S128x1024 .f32 :=
  k0_pay8 x4 (View.ld w (Rect.unit ![5, 0] ![128, 1024] inb_S136x1024_S128x1024_5_0))
    (View.ld x3 (Rect.unit ![0, 0] ![1, 1024] inb_S4x1024_S1x1024_0_0))
    (View.ld w (Rect.unit ![6, 0] ![128, 1024] inb_S136x1024_S128x1024_6_0))
    (View.ld x3 (Rect.unit ![1, 0] ![1, 1024] inb_S4x1024_S1x1024_1_0))
    (View.ld w (Rect.unit ![7, 0] ![128, 1024] inb_S136x1024_S128x1024_7_0))
    (View.ld x3 (Rect.unit ![2, 0] ![1, 1024] inb_S4x1024_S1x1024_2_0)) (k0_pay7 x1)
    (View.ld x3 (Rect.unit ![3, 0] ![1, 1024] inb_S4x1024_S1x1024_3_0))

/-- The running sums of the decay rates within the chunk. -/
def csK (x2 : Vec F S128x128 .f32) (x5 x6 : Vec F S1x128 .f32) : FVec F S128x128 .f32 :=
  k0_pay20 (k0_pay15 x2 x5 x6) k0_pay17 (k0_pay18 x2 x5 x6) (k0_pay19 x2 x5 x6)
/-- The same, transposed. -/
def cstK (x2 : Vec F S128x128 .f32) (x5 x6 : Vec F S1x128 .f32) : FVec F S128x128 .f32 :=
  k0_pay21 (k0_pay15 x2 x5 x6) k0_pay17 (k0_pay18 x2 x5 x6) (k0_pay19 x2 x5 x6)
/-- Their last row. -/
def cslK (x2 : Vec F S128x128 .f32) (x5 x6 : Vec F S1x128 .f32) : FVec F S1x128 .f32 :=
  k0_pay22 (k0_pay15 x2 x5 x6) k0_pay17 (k0_pay18 x2 x5 x6) (k0_pay19 x2 x5 x6)
/-- Their exponentials. -/
def ecsK (x2 : Vec F S128x128 .f32) (x5 x6 : Vec F S1x128 .f32) : FVec F S128x128 .f32 :=
  k0_pay23 (k0_pay15 x2 x5 x6) k0_pay17 (k0_pay18 x2 x5 x6) (k0_pay19 x2 x5 x6)
/-- The same at bf16. -/
def ecsHK (x2 : Vec F S128x128 .f32) (x5 x6 : Vec F S1x128 .f32) : FVec F S128x128 .bf16 :=
  k0_pay26 (k0_pay15 x2 x5 x6) k0_pay17 (k0_pay18 x2 x5 x6) (k0_pay19 x2 x5 x6)

/-- The first half of the state. -/
def h0K (h : Vec F S2x128x256 .f32) : Vec F S1x128x256 .f32 :=
  View.ld h (Rect.unit ![0, 0, 0] ![1, 128, 256] inb_S2x128x256_S1x128x256_0_0_0)
/-- The second half of the state. -/
def h1K (h : Vec F S2x128x256 .f32) : Vec F S1x128x256 .f32 :=
  View.ld h (Rect.unit ![1, 0, 0] ![1, 128, 256] inb_S2x128x256_S1x128x256_1_0_0)

/-- The inputs weighted for the chunk's end. -/
def xendK (cv : FVec F S128x1024 .f32) (x2 : Vec F S128x128 .f32) (x5 x6 : Vec F S1x128 .f32) : FVec F S128x512 .bf16 :=
  k0_pay30 (k0_pay11 cv) (k0_pay14 x2 x5) (csK x2 x5 x6) (cslK x2 x5 x6) k0_pay24

/-- The first half of the state after the chunk. -/
def st0K (cv : FVec F S128x1024 .f32) (x2 : Vec F S128x128 .f32) (x5 x6 : Vec F S1x128 .f32) (h : Vec F S2x128x256 .f32) : FVec F S1x128x256 .f32 :=
  k0_pay41 (k0_pay33 (k0_pay12 cv)) (k0_pay39 (k0_pay28 (cslK x2 x5 x6) k0_pay24) (k0_pay35 (h0K h)))
    (k0_pay40 (xendK cv x2 x5 x6)) (constant S128x256 .f32 0x00000000#32)

/-- The second half of the state after the chunk. -/
def st1K (cv : FVec F S128x1024 .f32) (x2 : Vec F S128x128 .f32) (x5 x6 : Vec F S1x128 .f32) (h : Vec F S2x128x256 .f32) : FVec F S1x128x256 .f32 :=
  k0_pay51 (k0_pay28 (cslK x2 x5 x6) k0_pay24) (xendK cv x2 x5 x6) (k0_pay43 (k0_pay12 cv)) (k0_pay45 (h1K h))

/-- The inputs weighted by their step sizes. -/
def xdtK (cv : FVec F S128x1024 .f32) (x2 : Vec F S128x128 .f32) (x5 : Vec F S1x128 .f32) : FVec F S128x512 .bf16 :=
  k0_pay29 (k0_pay11 cv) (k0_pay25 (k0_pay14 x2 x5))

/-- The outputs of heads 0 to 3. -/
def ylowK (cv : FVec F S128x1024 .f32) (x2 : Vec F S128x128 .f32) (x5 x6 : Vec F S1x128 .f32) (h : Vec F S2x128x256 .f32) : FVec F S128x256 .f32 :=
  k0_pay38 k0_pay16 (csK x2 x5 x6) (cstK x2 x5 x6) (xdtK cv x2 x5) k0_pay31 (k0_pay34 (k0_pay12 cv) (k0_pay13 cv))
    (k0_pay36 (k0_pay13 cv) (ecsK x2 x5 x6) k0_pay24 (ecsHK x2 x5 x6) (h0K h)) (k0_pay37 (csK x2 x5 x6) (cstK x2 x5 x6))

/-- The outputs of all heads. -/
def yK (cv : FVec F S128x1024 .f32) (x2 : Vec F S128x128 .f32) (x5 x6 : Vec F S1x128 .f32) (x7 : Vec F S1x512 .f32) (h : Vec F S2x128x256 .f32) : FVec F S128x512 .f32 :=
  k0_pay52 (k0_pay11 cv) k0_pay16 (csK x2 x5 x6) (cstK x2 x5 x6) (xdtK cv x2 x5) k0_pay31 (ylowK cv x2 x5 x6 h)
    (k0_pay44 (k0_pay12 cv) (k0_pay13 cv))
    (k0_pay46 (k0_pay13 cv) (k0_pay27 (ecsK x2 x5 x6) k0_pay24 (ecsHK x2 x5 x6)) (h1K h))
    (k0_pay47 (k0_pay12 cv) (k0_pay13 cv) k0_pay16 (csK x2 x5 x6) (cstK x2 x5 x6) (xdtK cv x2 x5))
    (k0_pay48 (k0_pay12 cv) (k0_pay13 cv) k0_pay16 (csK x2 x5 x6) (cstK x2 x5 x6) (xdtK cv x2 x5))
    (k0_pay49 (csK x2 x5 x6) (cstK x2 x5 x6)) k0_pay50 x7

/-- The gated and normalised rows. -/
def outK (cv : FVec F S128x1024 .f32) (x0 : Vec F S128x512 .f32) (x2 : Vec F S128x128 .f32) (x5 x6 : Vec F S1x128 .f32) (x7 x8 : Vec F S1x512 .f32) (h : Vec F S2x128x256 .f32) : FVec F S128x512 .f32 :=
  k0_pay1 (yK cv x2 x5 x6 x7 h) (k0_pay53 x0) (k0_pay54 x8) (k0_pay55 x0) (FloatOps.ofBits .f32 0x3F800000#32)

/-- A load through a rectangle of pieces is the load of the array they make. -/
theorem readCov_eq_canon_unit {κ : Kind} {sp : Space} {s : Shape} {e : EltTy} (v : View sig κ sp s e) (L : List (View.Piece (Elt F) s e)) (r : Rect s) :
    v.readCov L r.toLoadRect = View.ld (View.canon L) r := View.readCov_eq_canon' v L r.toLoadRect

/-- The scratch after the chunk's rows are stored at its row 8. -/
theorem readB (a : Memref sig .tc .vmem S136x1024 .f32) (ha : a.IsWhole) (xs0 : Vec F S136x1024 .f32) (x1 : Vec F S128x1024 .f32) :
    a.view.read (Elt F) (a.view.writes (Elt F) (ha.unread xs0) [⟨Rect.unit ![8, 0] ![128, 1024] inb_S136x1024_S128x1024_8_0, k0_pay7 x1⟩])
      = winB xs0 x1 := by
  funext y
  rw [View.read_writes_cons_rows (d := ![136, 1024]) (off := ![8, 0]) (size := ![128, 1024]) (o := 8) (W := 128) a.view _ _ _ _ y rfl rfl rfl]
  unfold winB
  have hy : (y 0).val < 136 := (y 0).isLt
  by_cases h : 8 ≤ (y 0).val
  · rw [dif_pos ⟨h, by omega⟩, dif_pos h]
    unfold k0_pay7
    pointwise
    refine congrArg x1 ?_
    funext a
    refine Fin.ext ?_
    fin_cases a <;> simp [Rect.unitLocal_val]
  · rw [dif_neg (fun h' => h h'.1), dif_neg h]
    show a.view.read (Elt F) (ha.unread xs0) y = _
    rw [ha.read_unread]

/-- Case A writes the gated rows of the chunk. -/
theorem open_out0_A_9 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : cond0_0 i) (hc1 : ¬cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = outK (cvK (winA x1) x1 x3 x4) x0 x2 x5 x6 x7 x8 k0_pay6 := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

/-- Case A leaves the window: the last eight rows carried to its head. -/
theorem open_sout0_A_0 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : cond0_0 i) (hc1 : ¬cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = tailA x1 := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

/-- Case A leaves the two halves of the state. -/
theorem open_sout0_A_1 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : cond0_0 i) (hc1 : ¬cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 = View.canon [⟨Rect.unit ![1, 0, 0] ![1, 128, 256] inb_S2x128x256_S1x128x256_1_0_0, st1K (cvK (winA x1) x1 x3 x4) x2 x5 x6 k0_pay6⟩, ⟨Rect.unit ![0, 0, 0] ![1, 128, 256] inb_S2x128x256_S1x128x256_0_0_0, st0K (cvK (winA x1) x1 x3 x4) x2 x5 x6 k0_pay6⟩, ⟨Rect.unit ![0, 0, 0] ![2, 128, 256] inb_S2x128x256_S2x128x256_0_0_0, k0_pay6⟩] := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

/-- Case B writes the gated rows of the chunk. -/
theorem open_out0_B_9 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : ¬cond0_0 i) (hc1 : ¬cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) (xs0 : Vec F S136x1024 .f32) (xs1 : Vec F S2x128x256 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = outK (cvK (winB xs0 x1) x1 x3 x4) x0 x2 x5 x6 x7 x8 xs1 := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

/-- Case B leaves the window: the last eight rows carried to its head. -/
theorem open_sout0_B_0 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : ¬cond0_0 i) (hc1 : ¬cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) (xs0 : Vec F S136x1024 .f32) (xs1 : Vec F S2x128x256 .f32) :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = tailB x1 := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

/-- Case B leaves the two halves of the state. -/
theorem open_sout0_B_1 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : ¬cond0_0 i) (hc1 : ¬cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) (xs0 : Vec F S136x1024 .f32) (xs1 : Vec F S2x128x256 .f32) :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = View.canon [⟨Rect.unit ![1, 0, 0] ![1, 128, 256] inb_S2x128x256_S1x128x256_1_0_0, st1K (cvK (winB xs0 x1) x1 x3 x4) x2 x5 x6 xs1⟩, ⟨Rect.unit ![0, 0, 0] ![1, 128, 256] inb_S2x128x256_S1x128x256_0_0_0, st0K (cvK (winB xs0 x1) x1 x3 x4) x2 x5 x6 xs1⟩] := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

/-- Case C writes the gated rows of the chunk. -/
theorem open_out0_C_9 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : ¬cond0_0 i) (hc1 : cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) (xs0 : Vec F S136x1024 .f32) (xs1 : Vec F S2x128x256 .f32) :
    out0_C_9 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = outK (cvK (winB xs0 x1) x1 x3 x4) x0 x2 x5 x6 x7 x8 xs1 := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

/-- The last chunk of a sequence writes the state, transposed. -/
theorem open_out0_C_10 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : ¬cond0_0 i) (hc1 : cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) (xs0 : Vec F S136x1024 .f32) (xs1 : Vec F S2x128x256 .f32) :
    out0_C_10 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = View.canon [⟨Rect.unit ![0, 256, 0] ![1, 256, 128] inb_S1x512x128_S1x256x128_0_256_0, k0_pay3 (st1K (cvK (winB xs0 x1) x1 x3 x4) x2 x5 x6 xs1)⟩, ⟨Rect.unit ![0, 0, 0] ![1, 256, 128] inb_S1x512x128_S1x256x128_0_0_0, k0_pay2 (st0K (cvK (winB xs0 x1) x1 x3 x4) x2 x5 x6 xs1)⟩] := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

/-- The last chunk of a sequence writes the last three rows. -/
theorem open_out0_C_11 (c : Dev nD) (i : grid0.Coords) (arg2 : Memref sig .tc .vmem S128x512 .f32) (harg2 : arg2.IsWhole) (arg3 : Memref sig .tc .vmem S128x1024 .f32) (harg3 : arg3.IsWhole) (arg4 : Memref sig .tc .vmem S128x128 .f32) (harg4 : arg4.IsWhole) (arg5 : Memref sig .tc .vmem S4x1024 .f32) (harg5 : arg5.IsWhole) (arg6 : Memref sig .tc .vmem S1x1024 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S128x512 .f32) (harg11 : arg11.IsWhole) (arg12 : Memref sig .tc .vmem S1x512x128 .f32) (harg12 : arg12.IsWhole) (arg13 : Memref sig .tc .vmem S1x3x1024 .f32) (harg13 : arg13.IsWhole) (arg14 : Memref sig .tc .vmem S136x1024 .f32) (harg14 : arg14.IsWhole) (arg15 : Memref sig .tc .vmem S2x128x256 .f32) (harg15 : arg15.IsWhole) (hc0 : ¬cond0_0 i) (hc1 : cond0_1 i)
    (x0 : Vec F S128x512 .f32) (x1 : Vec F S128x1024 .f32) (x2 : Vec F S128x128 .f32) (x3 : Vec F S4x1024 .f32) (x4 : Vec F S1x1024 .f32) (x5 : Vec F S1x128 .f32) (x6 : Vec F S1x128 .f32) (x7 : Vec F S1x512 .f32) (x8 : Vec F S1x512 .f32) (xs0 : Vec F S136x1024 .f32) (xs1 : Vec F S2x128x256 .f32) :
    out0_C_11 c i arg2 harg2 arg3 harg3 arg4 harg4 arg5 harg5 arg6 harg6 arg7 harg7 arg8 harg8 arg9 harg9 arg10 harg10 arg11 harg11 arg12 harg12 arg13 harg13 arg14 harg14 arg15 harg15 hc0 hc1 x0 x1 x2 x3 x4 x5 x6 x7 x8 xs0 xs1 = k0_pay4 (k0_pay9 (lastRows x1)) := by
  frame_open
  simp (disch := decide) only [↓ View.readCov_skip, ↓ View.readCov_cons_toLoadRect, ↓ View.readCov_fill]
  frame_out
  try simp only [readCov_eq_canon_unit]
  try simp only [readB]
  first | done | rfl | (unfold outK yK ylowK xdtK csK cstK ecsK ecsHK h0K h1K cvK; rfl)

end Cert.Ssd

end
-- ==== Proof.SsdSpec.lean ====
/-
  One chunk of the scan over the extended reals: the activations, the running sums of the decay rates, a row's output and
  the state the chunk leaves, over a flat channel axis of eight heads by 64 and two groups of four heads.
-/
module

public import Idealize.ShloMosaic.Lib.Pointwise

@[expose] public section

noncomputable section

namespace Cert.Ssd

open Idealize.ShloMosaic

/-! ## Sums with zero-one weights -/

/-- Off plus infinity, adding a number's difference with itself changes nothing. -/
theorem add_sub_self_of_ne_top {x : EReal} (h : x ≠ ⊤) : x + (x - x) = x := by
  induction x with
  | bot => simp
  | top => exact absurd rfl h
  | coe r => rw [← EReal.coe_sub, ← EReal.coe_add]; simp

/-- A sum picked by a zero-one weight, taken with its own remainder: the picked term. -/
theorem split_pick {n : ℕ} (x : Fin n → EReal) (w : Fin n → EReal) (q : Fin n) (hw : ∀ k, w k = if k = q then 1 else 0)
    (hx : x q ≠ ⊤) : (∑ k, x k * w k) + (∑ k, (x k - x k) * w k) = x q := by
  simp only [hw, mul_ite, mul_one, mul_zero, Finset.sum_ite_eq', Finset.mem_univ, if_true]
  exact add_sub_self_of_ne_top hx

/-- A sum with zero-one weights, taken with its remainders: the sum itself. -/
theorem split_sum {n : ℕ} (x : Fin n → EReal) (w : Fin n → EReal) (p : Fin n → Prop) [DecidablePred p]
    (hw : ∀ k, w k = if p k then 1 else 0) (hx : ∀ k, x k ≠ ⊤) :
    (∑ k, w k * x k) + (∑ k, w k * (x k - x k)) = ∑ k, if p k then x k else 0 := by
  rw [← Finset.sum_add_distrib]
  refine Finset.sum_congr rfl fun k _ => ?_
  rw [hw]
  split
  · rw [one_mul, one_mul, add_sub_self_of_ne_top (hx k)]
  · simp

/-! ## The chunk -/

/-- The head of a channel. -/
def hd (j : Fin 512) : Fin 8 := ⟨j.val / 64, by omega⟩
/-- The group of a channel. -/
def gr (j : Fin 512) : Fin 2 := ⟨j.val / 256, by omega⟩
/-- The lane of a head. -/
def lane (h : Fin 8) : Fin 128 := ⟨h.val, by omega⟩
/-- The channel of x. -/
def chX (j : Fin 512) : Fin 1024 := ⟨j.val, by omega⟩
/-- The channel of B. -/
def chB (g : Fin 2) (n : Fin 128) : Fin 1024 := ⟨512 + 128 * g.val + n.val, by omega⟩
/-- The channel of C. -/
def chC (g : Fin 2) (n : Fin 128) : Fin 1024 := ⟨768 + 128 * g.val + n.val, by omega⟩

/-- The sigmoid-weighted unit. -/
def silu (v : EReal) : EReal := Ideal.div v (1 + Ideal.exp (-v))
/-- The softplus. -/
def softplus (v : EReal) : EReal := max v 0 + Ideal.log1p (Ideal.exp (-(max v (-v))))

/-- The running sum over the rows up to `l`. -/
def cs (da : Fin 128 → Fin 8 → EReal) (l : Fin 128) (h : Fin 8) : EReal := ∑ s, if s ≤ l then da s h else 0

/-- The decay from row `s` to row `l`, nothing when `s` is later. -/
def decay (da : Fin 128 → Fin 8 → EReal) (l s : Fin 128) (h : Fin 8) : EReal :=
  Ideal.exp (if s ≤ l then cs da l h - cs da s h else ⊥)

/-- A row's output of a channel. -/
def yS (cv : Fin 128 → Fin 1024 → EReal) (dt da : Fin 128 → Fin 8 → EReal) (D : Fin 8 → EReal)
    (H : Fin 512 → Fin 128 → EReal) (l : Fin 128) (j : Fin 512) : EReal :=
  (∑ s, (∑ n, silu (cv l (chC (gr j) n)) * silu (cv s (chB (gr j) n))) * decay da l s (hd j)
      * (silu (cv s (chX j)) * dt s (hd j)))
    + (∑ n, silu (cv l (chC (gr j) n)) * H j n) * Ideal.exp (cs da l (hd j))
    + D (hd j) * silu (cv l (chX j))

/-- The state after the chunk. -/
def hS (cv : Fin 128 → Fin 1024 → EReal) (dt da : Fin 128 → Fin 8 → EReal)
    (H : Fin 512 → Fin 128 → EReal) (j : Fin 512) (n : Fin 128) : EReal :=
  H j n * Ideal.exp (cs da 127 (hd j))
    + ∑ l, silu (cv l (chB (gr j) n))
        * (silu (cv l (chX j)) * (dt l (hd j) * Ideal.exp (cs da 127 (hd j) - cs da l (hd j))))

/-- A channel of a group. -/
def chG (g : Fin 2) (c : Fin 256) : Fin 512 := ⟨256 * g.val + c.val, by omega⟩

/-- A row gated by `z`, normalised over its group and weighted. -/
def gatedS (y z w : Fin 512 → EReal) (j : Fin 512) : EReal :=
  y j * silu (z j)
    * Ideal.rsqrt (Ideal.div (∑ c : Fin 256, (y (chG (gr j) c) * silu (z (chG (gr j) c))) * (y (chG (gr j) c) * silu (z (chG (gr j) c))))
        (Ideal.ofBits .f32 0x43800000#32) + Ideal.ofBits .f32 0x3727C5AC#32)
    * w j

/-! ## Signs -/

theorem exp_nonneg (x : EReal) : 0 ≤ Ideal.exp x := by
  induction x with
  | bot => exact le_refl _
  | top => exact le_top
  | coe r => exact EReal.coe_nonneg.mpr (Real.exp_pos r).le

theorem exp_le_one {x : EReal} (hx : x ≤ 0) : Ideal.exp x ≤ 1 := by
  induction x with
  | bot => exact zero_le_one
  | top => exact absurd hx (by simp)
  | coe r =>
    have hr : r ≤ 0 := EReal.coe_nonpos.mp hx
    have : ((Real.exp r : ℝ) : EReal) ≤ ((1 : ℝ) : EReal) := EReal.coe_le_coe_iff.mpr (Real.exp_le_one_iff.mpr hr)
    exact this

theorem exp_ne_top {x : EReal} (hx : x ≤ 0) : Ideal.exp x ≠ ⊤ := fun h => by
  have := exp_le_one hx
  rw [h] at this
  exact absurd (top_le_iff.mp this) (EReal.coe_ne_top 1)

/-- The logarithm's term of the softplus is a number that is not negative. -/
theorem log1p_exp_neg (x : EReal) (hx : x ≤ 0) : ∃ r : ℝ, 0 ≤ r ∧ Ideal.log1p (Ideal.exp x) = (r : EReal) := by
  induction x with
  | bot =>
    refine ⟨0, le_refl _, ?_⟩
    show Ideal.log (1 + (0 : EReal)) = _
    rw [add_zero]
    show (if (1 : ℝ) ≤ 0 then (⊥ : EReal) else ((Real.log 1 : ℝ) : EReal)) = _
    simp
  | top => exact absurd hx (by simp)
  | coe r =>
    have hp := Real.exp_pos r
    refine ⟨Real.log (1 + Real.exp r), Real.log_nonneg (by linarith), ?_⟩
    show Ideal.log (((1 : ℝ) : EReal) + ((Real.exp r : ℝ) : EReal)) = _
    rw [← EReal.coe_add]
    show (if (1 + Real.exp r : ℝ) ≤ 0 then (⊥ : EReal) else ((Real.log (1 + Real.exp r) : ℝ) : EReal)) = _
    rw [if_neg (by linarith)]

theorem neg_max_neg_nonpos (x : EReal) : -(max x (-x)) ≤ 0 := by
  rw [EReal.neg_le, neg_zero]
  rcases le_total 0 x with h | h
  · exact le_max_of_le_left h
  · exact le_max_of_le_right (by rw [EReal.le_neg, neg_zero]; exact h)

theorem softplus_nonneg (x : EReal) : 0 ≤ softplus x := by
  obtain ⟨r, hr, e⟩ := log1p_exp_neg _ (neg_max_neg_nonpos x)
  unfold softplus
  rw [e]
  exact add_nonneg (le_max_right _ _) (EReal.coe_nonneg.mpr hr)

theorem softplus_ne_top {x : EReal} (hx : x ≠ ⊤) : softplus x ≠ ⊤ := by
  obtain ⟨r, hr, e⟩ := log1p_exp_neg _ (neg_max_neg_nonpos x)
  unfold softplus
  rw [e]
  have hm : max x 0 ≠ ⊤ := by
    rcases max_choice x 0 with h | h <;> rw [h]
    · exact hx
    · simp
  exact EReal.add_ne_top hm (EReal.coe_ne_top r)

/-- One plus an exponential is not zero. -/
theorem one_add_exp_ne_zero (x : EReal) : 1 + Ideal.exp x ≠ 0 := fun e => by
  have h1 : (1 : EReal) ≤ 1 + Ideal.exp x := le_add_of_nonneg_right (exp_nonneg x)
  rw [e] at h1
  exact absurd h1 (by simp)

theorem cs_nonpos (da : Fin 128 → Fin 8 → EReal) (hda : ∀ l h, da l h ≤ 0) (l : Fin 128) (h : Fin 8) : cs da l h ≤ 0 := by
  unfold cs
  refine Finset.sum_nonpos fun s _ => ?_
  split
  · exact hda s h
  · exact le_refl _

/-- The last running sum is no greater than any. -/
theorem cs_last_le (da : Fin 128 → Fin 8 → EReal) (hda : ∀ l h, da l h ≤ 0) (l : Fin 128) (h : Fin 8) :
    cs da 127 h ≤ cs da l h := by
  unfold cs
  refine Finset.sum_le_sum fun s _ => ?_
  have h127 : s ≤ 127 := Fin.le_iff_val_le_val.mpr (by have := s.isLt; change s.val ≤ 127; omega)
  rw [if_pos h127]
  split
  · exact le_refl _
  · exact hda s h

end Cert.Ssd

end
-- ==== Proof.SsdPay.lean ====
/-
  The kernel's payloads of one chunk, at an index.
-/
module

public import proofs.«01_k».proof.Proof.Gen.KernelIdeal.Skeleton
public import proofs.«01_k».proof.Proof.SsdSpec
public import Idealize.ShloMosaic.Lib.Pointwise

@[expose] public section

set_option maxRecDepth 16384

noncomputable section

namespace Cert.Ssd

open Idealize.ShloMosaic Cert.KernelIdeal Cert.KernelIdeal.Gen

/-- The causal mask. -/
theorem pay16_apply (l s : Fin 128) : k0_pay16 (ix2 l s) = if s ≤ l then 1#1 else 0#1 := by
  pointwise [k0_pay16]
  revert l s
  decide +kernel

theorem pay17_apply (l s : Fin 128) : (k0_pay17 (F := Ideal) (ix2 l s) : EReal) = if s ≤ l then (1 : EReal) else 0 := by
  pointwise [k0_pay17]
  rw [pay16_apply]
  split <;> rfl

/-- The heads' zero-one matrix. -/
theorem pay24_apply (h : Fin 128) (j : Fin 512) : (k0_pay24 (F := Ideal) (ix2 h j) : EReal) = if h = lane (hd j) then (1 : EReal) else 0 := by
  pointwise [k0_pay24]
  have hq : ∀ j : Fin 512, Scalar.select
          (IntOp.andi
            (IntOp.cmpi CmpIPredicate.ne
              (IntOp.subi (BitVec.setWidth 32 (IntOp.cmpi CmpIPredicate.sgt (BitVec.ofNat 32 j.val) 0#32))
                (BitVec.setWidth 32 (IntOp.cmpi CmpIPredicate.slt (BitVec.ofNat 32 j.val) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 j.val) 64#32) 0#32))
          (IntOp.subi (IntOp.divsi ArithUnit.vector (BitVec.ofNat 32 j.val) 64#32) 1#32)
          (IntOp.divsi ArithUnit.vector (BitVec.ofNat 32 j.val) 64#32) = BitVec.ofNat 32 (hd j).val := by
    decide +kernel
  rw [hq j]
  have hc : ∀ (h : Fin 128) (q : Fin 8), IntOp.cmpi CmpIPredicate.eq (BitVec.ofNat 32 q.val) (BitVec.ofNat 32 h.val)
      = if h = lane q then 1#1 else 0#1 := by decide +kernel
  rw [hc]
  split <;> rfl

theorem pay31_apply (l c : Fin 128) : k0_pay31 (ix2 l c) = if c.val < 64 then 1#1 else 0#1 := by
  pointwise [k0_pay31]
  revert c
  decide +kernel

theorem pay14_apply (x : Vec Ideal S128x128 .f32) (b : Vec Ideal S1x128 .f32) (l h : Fin 128) :
    (k0_pay14 x b (ix2 l h) : EReal) = softplus (x (ix2 l h) + b (ix2 0 h)) := by
  pointwise [k0_pay14]
  simp only [softplus, zero_sub]
  rfl

theorem pay15_apply (x : Vec Ideal S128x128 .f32) (b a : Vec Ideal S1x128 .f32) (l h : Fin 128) :
    (k0_pay15 x b a (ix2 l h) : EReal) = softplus (x (ix2 l h) + b (ix2 0 h)) * -(Ideal.exp (a (ix2 0 h))) := by
  pointwise [k0_pay15]
  rw [pay14_apply, zero_sub]

theorem pay20_apply (da : FVec Ideal S128x128 .f32) (w hi : FVec Ideal S128x128 .bf16) (f : FVec Ideal S128x128 .f32) (l h : Fin 128) :
    (k0_pay20 da w hi f (ix2 l h) : EReal) = ∑ x, w (ix2 l x) * hi (ix2 x h) + ∑ x, w (ix2 l x) * (da (ix2 x h) - f (ix2 x h)) := by
  pointwise [k0_pay20]

theorem pay8_apply (v8 v11 v17 v22 v27 : Vec Ideal S1x1024 .f32) (v10 v16 v21 v26 : Vec Ideal S128x1024 .f32) (l : Fin 128) (c : Fin 1024) :
    (k0_pay8 v8 v10 v11 v16 v17 v21 v22 v26 v27 (ix2 l c) : EReal) = v8 (ix2 0 c) + v10 (ix2 l c) * v11 (ix2 0 c) + v16 (ix2 l c) * v17 (ix2 0 c)
      + v21 (ix2 l c) * v22 (ix2 0 c) + v26 (ix2 l c) * v27 (ix2 0 c) := by
  pointwise [k0_pay8]

theorem pay10_apply (v : FVec Ideal S128x1024 .f32) (l : Fin 128) (c : Fin 1024) :
    (k0_pay10 v (ix2 l c) : EReal) = silu (v (ix2 l c)) := by
  pointwise [k0_pay10]
  simp only [silu, zero_sub]

theorem pay11_apply (v : FVec Ideal S128x1024 .f32) (l : Fin 128) (j : Fin 512) :
    (k0_pay11 v (ix2 l j) : EReal) = silu (v (ix2 l (chX j))) := by
  pointwise [k0_pay11]
  rw [← pay10_apply]
  congr 1

theorem pay33_apply (v : FVec Ideal S128x1024 .f32) (l n : Fin 128) :
    (k0_pay33 (k0_pay12 v) (ix2 l n) : EReal) = silu (v (ix2 l (chB 0 n))) := by
  pointwise [k0_pay33, k0_pay12]
  rw [← pay10_apply]
  congr 1

theorem pay43_apply (v : FVec Ideal S128x1024 .f32) (l n : Fin 128) :
    (k0_pay43 (k0_pay12 v) (ix2 l n) : EReal) = silu (v (ix2 l (chB 1 n))) := by
  pointwise [k0_pay43, k0_pay12]
  rw [← pay10_apply]
  refine congrArg (k0_pay10 v) (congrArg (ix2 l) (Fin.ext ?_))
  simp only [chB]; simp; omega

theorem pay32_apply (v : FVec Ideal S128x1024 .f32) (l n : Fin 128) :
    (k0_pay32 (k0_pay13 v) (ix2 l n) : EReal) = silu (v (ix2 l (chC 0 n))) := by
  pointwise [k0_pay32, k0_pay13]
  rw [← pay10_apply]
  congr 1

theorem pay42_apply (v : FVec Ideal S128x1024 .f32) (l n : Fin 128) :
    (k0_pay42 (k0_pay13 v) (ix2 l n) : EReal) = silu (v (ix2 l (chC 1 n))) := by
  pointwise [k0_pay42, k0_pay13]
  rw [← pay10_apply]
  refine congrArg (k0_pay10 v) (congrArg (ix2 l) (Fin.ext ?_))
  simp only [chC]; simp; omega

theorem pay34_apply (v42 v43 : FVec Ideal S128x256 .f32) (l s : Fin 128) :
    (k0_pay34 v42 v43 (ix2 l s) : EReal) = ∑ n, k0_pay32 v43 (ix2 l n) * k0_pay33 v42 (ix2 s n) := by
  pointwise [k0_pay34]

theorem pay44_apply (v42 v43 : FVec Ideal S128x256 .f32) (l s : Fin 128) :
    (k0_pay44 v42 v43 (ix2 l s) : EReal) = ∑ n, k0_pay42 v43 (ix2 l n) * k0_pay43 v42 (ix2 s n) := by
  pointwise [k0_pay44]

theorem pay25_apply (v : FVec Ideal S128x128 .f32) (l : Fin 128) (j : Fin 512) :
    (k0_pay25 v (ix2 l j) : EReal) = ∑ k, v (ix2 l k) * k0_pay24 (F := Ideal) (ix2 k j)
      + ∑ k, (v (ix2 l k) - v (ix2 l k)) * k0_pay24 (F := Ideal) (ix2 k j) := by
  pointwise [k0_pay25]

theorem pay27_apply (v : FVec Ideal S128x128 .f32) (e : FVec Ideal S128x512 .bf16) (hi : FVec Ideal S128x128 .bf16) (l : Fin 128) (j : Fin 512) :
    (k0_pay27 v e hi (ix2 l j) : EReal) = ∑ k, hi (ix2 l k) * e (ix2 k j)
      + ∑ k, (v (ix2 l k) - hi (ix2 l k)) * e (ix2 k j) := by
  pointwise [k0_pay27]

theorem pay28_apply (v : FVec Ideal S1x128 .f32) (e : FVec Ideal S128x512 .bf16) (j : Fin 512) :
    (k0_pay28 v e (ix2 0 j) : EReal) = ∑ k, Ideal.exp (v (ix2 0 k)) * e (ix2 k j)
      + ∑ k, (Ideal.exp (v (ix2 0 k)) - Ideal.exp (v (ix2 0 k))) * e (ix2 k j) := by
  pointwise [k0_pay28]

theorem pay29_apply (x d : FVec Ideal S128x512 .f32) (l : Fin 128) (j : Fin 512) :
    (k0_pay29 x d (ix2 l j) : EReal) = x (ix2 l j) * d (ix2 l j) := by
  pointwise [k0_pay29]

theorem pay30_apply (x : FVec Ideal S128x512 .f32) (d c : FVec Ideal S128x128 .f32) (r : FVec Ideal S1x128 .f32) (e : FVec Ideal S128x512 .bf16)
    (l : Fin 128) (j : Fin 512) :
    (k0_pay30 x d c r e (ix2 l j) : EReal) = x (ix2 l j) * (∑ k, (d (ix2 l k) * Ideal.exp (r (ix2 0 k) - c (ix2 l k))) * e (ix2 k j)
      + ∑ k, (d (ix2 l k) * Ideal.exp (r (ix2 0 k) - c (ix2 l k)) - d (ix2 l k) * Ideal.exp (r (ix2 0 k) - c (ix2 l k))) * e (ix2 k j)) := by
  pointwise [k0_pay30]

theorem pay36_apply (v43 : FVec Ideal S128x256 .f32) (e : FVec Ideal S128x128 .f32) (m : FVec Ideal S128x512 .bf16) (hi : FVec Ideal S128x128 .bf16)
    (h : Vec Ideal S1x128x256 .f32) (l : Fin 128) (c : Fin 256) :
    (k0_pay36 v43 e m hi h (ix2 l c) : EReal) = (∑ n, k0_pay32 v43 (ix2 l n) * h (ix3 0 n c)) * k0_pay27 e m hi (ix2 l (chG 0 c)) := by
  pointwise [k0_pay36, k0_pay35]
  rw [show chG 0 c = ⟨c.val, by omega⟩ from Fin.ext (by simp [chG])]

theorem pay46_apply (v43 : FVec Ideal S128x256 .f32) (m : FVec Ideal S128x512 .f32)
    (h : Vec Ideal S1x128x256 .f32) (l : Fin 128) (c : Fin 256) :
    (k0_pay46 v43 m h (ix2 l c) : EReal) = (∑ n, k0_pay42 v43 (ix2 l n) * h (ix3 0 n c)) * m (ix2 l (chG 1 c)) := by
  pointwise [k0_pay46, k0_pay45]
  rw [show chG 1 c = ⟨256 + c.val, by omega⟩ from Fin.ext (by simp [chG])]

theorem pay41_apply (b : FVec Ideal S128x128 .bf16) (r : FVec Ideal S1x512 .f32) (h : Vec Ideal S1x128x256 .f32) (x : FVec Ideal S128x512 .bf16) (n : Fin 128) (c : Fin 256) :
    (k0_pay41 b (k0_pay39 r (k0_pay35 h)) (k0_pay40 x) (constant S128x256 .f32 0x00000000#32) (ix3 0 n c) : EReal)
      = h (ix3 0 n c) * r (ix2 0 (chG 0 c)) + ∑ l, b (ix2 l n) * x (ix2 l (chG 0 c)) := by
  pointwise [k0_pay41, k0_pay39, k0_pay35, k0_pay40]
  rw [show chG 0 c = ⟨c.val, by omega⟩ from Fin.ext (by simp [chG])]

theorem pay51_apply (b : FVec Ideal S128x128 .bf16) (r : FVec Ideal S1x512 .f32) (h : Vec Ideal S1x128x256 .f32) (x : FVec Ideal S128x512 .bf16) (n : Fin 128) (c : Fin 256) :
    (k0_pay51 r x b (k0_pay45 h) (ix3 0 n c) : EReal)
      = h (ix3 0 n c) * r (ix2 0 (chG 1 c)) + ∑ l, b (ix2 l n) * x (ix2 l (chG 1 c)) := by
  pointwise [k0_pay51, k0_pay45]
  rw [show chG 1 c = ⟨256 + c.val, by omega⟩ from Fin.ext (by simp [chG])]

end Cert.Ssd
-- ==== Proof.SsdPay2.lean ====
/-
  The kernel's payloads of one chunk that gather the heads, at an index.
-/
module

public import proofs.«01_k».proof.Proof.Gen.KernelIdeal.Skeleton
public import proofs.«01_k».proof.Proof.SsdPay
public import Idealize.ShloMosaic.Lib.Pointwise

@[expose] public section

set_option maxRecDepth 16384

noncomputable section

namespace Cert.Ssd

open Idealize.ShloMosaic Cert.KernelIdeal Cert.KernelIdeal.Gen

theorem ofBits_neg_inf : (Ideal.ofBits .f32 0xFF800000#32 : EReal) = ⊥ := by
  simp [Ideal.ofBits, Ideal.ieee]

theorem select_mask (p : Prop) [Decidable p] (a b : EReal) : Scalar.select (if p then 1#1 else 0#1) a b = if p then a else b := by
  split <;> rfl

/-- The decay of head `k` from row `s` to row `l`. -/
def segE (c ct : FVec Ideal S128x128 .f32) (l s k : Fin 128) : EReal :=
  Ideal.exp (if s ≤ l then c (ix2 l k) - ct (ix2 k s) else ⊥)

theorem pay37_apply (c ct : FVec Ideal S128x128 .f32) (l s : Fin 128) :
    (k0_pay37 c ct (ix2 l s) : EReal) = c (ix2 l 0) - ct (ix2 0 s) := by
  pointwise [k0_pay37]

theorem pay49_apply (c ct : FVec Ideal S128x128 .f32) (l s : Fin 128) :
    (k0_pay49 c ct (ix2 l s) : EReal) = c (ix2 l 6) - ct (ix2 6 s) := by
  pointwise [k0_pay49]

theorem pay50_apply (l s : Fin 128) : (k0_pay50 (F := Ideal) (ix2 l s) : EReal) = ⊥ := by
  pointwise [k0_pay50]
  exact ofBits_neg_inf

theorem pay47_apply (v42 v43 : FVec Ideal S128x256 .f32) (c ct : FVec Ideal S128x128 .f32) (x : FVec Ideal S128x512 .bf16) (l k : Fin 128) :
    (k0_pay47 v42 v43 k0_pay16 c ct x (ix2 l k) : EReal) = ∑ s, k0_pay44 v42 v43 (ix2 l s) * segE c ct l s 4 * x (ix2 s ⟨256 + k.val, by omega⟩) := by
  pointwise [k0_pay47]
  simp only [pay16_apply, ofBits_neg_inf, select_mask, segE]

theorem pay48_apply (v42 v43 : FVec Ideal S128x256 .f32) (c ct : FVec Ideal S128x128 .f32) (x : FVec Ideal S128x512 .bf16) (l k : Fin 128) :
    (k0_pay48 v42 v43 k0_pay16 c ct x (ix2 l k) : EReal) = ∑ s, k0_pay44 v42 v43 (ix2 l s) * segE c ct l s 5 * x (ix2 s ⟨256 + k.val, by omega⟩) := by
  pointwise [k0_pay48]
  simp only [pay16_apply, ofBits_neg_inf, select_mask, segE]

theorem pay38_apply (c ct : FVec Ideal S128x128 .f32) (x : FVec Ideal S128x512 .bf16) (cb : FVec Ideal S128x128 .f32) (y : FVec Ideal S128x256 .f32) (l : Fin 128) (k : Fin 256) :
    (k0_pay38 k0_pay16 c ct x k0_pay31 cb y (k0_pay37 c ct) (ix2 l k) : EReal)
      = ∑ s, cb (ix2 l s) * segE c ct l s (lane (hd (chG 0 k))) * x (ix2 s (chG 0 k)) + y (ix2 l k) := by
  have hg : chG 0 k = ⟨k.val, by omega⟩ := Fin.ext (by simp [chG])
  rw [hg]
  pointwise [k0_pay38]
  simp only [pay16_apply, pay31_apply, pay37_apply, ofBits_neg_inf, select_mask]
  refine congrArg (· + y (ix2 l k)) ?_
  have key : ∀ (q : Fin 128) (i : Fin 512), q = lane (hd ⟨k.val, by omega⟩) → i = ⟨k.val, by omega⟩ →
      (∑ s, cb (ix2 l s) * Ideal.exp (if s ≤ l then c (ix2 l q) - ct (ix2 q s) else ⊥) * x (ix2 s i))
        = ∑ s, cb (ix2 l s) * segE c ct l s (lane (hd ⟨k.val, by omega⟩)) * x (ix2 s ⟨k.val, by omega⟩) := by
    rintro _ _ rfl rfl
    rfl
  have hk := k.isLt
  by_cases h1 : k.val < 128
  · by_cases h2 : k.val < 64
    · simp only [h1, h2, ↓reduceIte, ↓reduceDIte]
      exact key 0 _ (Fin.ext (show 0 = k.val / 64 by omega)) rfl
    · simp only [h1, h2, ↓reduceIte, ↓reduceDIte]
      exact key 1 _ (Fin.ext (show 1 = k.val / 64 by omega)) rfl
  · by_cases h2 : k.val - 128 < 64
    · simp only [h1, h2, ↓reduceIte, ↓reduceDIte]
      exact key 2 _ (Fin.ext (show 2 = k.val / 64 by omega)) (Fin.ext (show 128 + (k.val - 128) = k.val by omega))
    · simp only [h1, h2, ↓reduceIte, ↓reduceDIte]
      exact key 3 _ (Fin.ext (show 3 = k.val / 64 by omega)) (Fin.ext (show 128 + (k.val - 128) = k.val by omega))

theorem pay52_apply (x : FVec Ideal S128x512 .f32) (c ct : FVec Ideal S128x128 .f32) (xd : FVec Ideal S128x512 .bf16) (lo : FVec Ideal S128x256 .f32) (v42 v43 : FVec Ideal S128x256 .f32) (y : FVec Ideal S128x256 .f32) (D : Vec Ideal S1x512 .f32) (l : Fin 128) (j : Fin 512) :
    (k0_pay52 x k0_pay16 c ct xd k0_pay31 lo (k0_pay44 v42 v43) y (k0_pay47 v42 v43 k0_pay16 c ct xd) (k0_pay48 v42 v43 k0_pay16 c ct xd) (k0_pay49 c ct) k0_pay50 D (ix2 l j) : EReal)
      = (if h : j.val < 256 then lo (ix2 l ⟨j.val, h⟩)
          else ∑ s, k0_pay44 v42 v43 (ix2 l s) * segE c ct l s (lane (hd j)) * xd (ix2 s j) + y (ix2 l ⟨j.val - 256, by omega⟩))
        + D (ix2 0 j) * x (ix2 l j) := by
  pointwise [k0_pay52]
  simp only [pay16_apply, pay31_apply, pay47_apply, pay48_apply, pay49_apply, pay50_apply, ofBits_neg_inf, select_mask]
  refine congrArg (· + D (ix2 0 j) * x (ix2 l j)) ?_
  have key : ∀ (q : Fin 128) (i : Fin 512), q = lane (hd j) → i = j →
      (∑ s, k0_pay44 v42 v43 (ix2 l s) * segE c ct l s q * xd (ix2 s i))
        = ∑ s, k0_pay44 v42 v43 (ix2 l s) * segE c ct l s (lane (hd j)) * xd (ix2 s j) := by
    rintro _ _ rfl rfl
    rfl
  have hk := j.isLt
  by_cases h0 : j.val < 256
  · simp only [h0, ↓reduceDIte]
  by_cases h1 : j.val - 256 < 128
  · by_cases h2 : j.val - 256 < 64
    · simp only [h0, h1, h2, ↓reduceIte, ↓reduceDIte]
      exact congrArg (· + y _) (key 4 _ (Fin.ext (show 4 = j.val / 64 by omega)) (Fin.ext (show 256 + (j.val - 256) = j.val by omega)))
    · simp only [h0, h1, h2, ↓reduceIte, ↓reduceDIte]
      exact congrArg (· + y _) (key 5 _ (Fin.ext (show 5 = j.val / 64 by omega)) (Fin.ext (show 256 + (j.val - 256) = j.val by omega)))
  · by_cases h2 : j.val - 256 - 128 < 64
    · simp only [h0, h1, h2, ↓reduceIte, ↓reduceDIte]
      exact congrArg (· + y _) (key 6 _ (Fin.ext (show 6 = j.val / 64 by omega)) (Fin.ext (show 384 + (j.val - 256 - 128) = j.val by omega)))
    · simp only [h0, h1, h2, ↓reduceIte, ↓reduceDIte]
      exact congrArg (· + y _) (key 7 _ (Fin.ext (show 7 = j.val / 64 by omega)) (Fin.ext (show 384 + (j.val - 256 - 128) = j.val by omega)))

theorem pay1_apply (y z : FVec Ideal S128x512 .f32) (x0 : Vec Ideal S128x512 .f32) (w : Vec Ideal S1x512 .f32) (l : Fin 128) (j : Fin 512) :
    (k0_pay1 y (k0_pay53 x0) (k0_pay54 w) (k0_pay55 x0) (FloatOps.ofBits .f32 0x3F800000#32) (ix2 l j) : EReal)
      = gatedS (fun j => y (ix2 l j)) (fun j => x0 (ix2 l j)) (fun j => w (ix2 0 j)) j := by
  pointwise [k0_pay1, k0_pay53, k0_pay54, k0_pay55]
  simp only [zero_sub]
  have hk := j.isLt
  unfold gatedS
  refine congrArg (· * w (ix2 0 j)) ?_
  by_cases h0 : j.val < 256
  · simp only [h0, ↓reduceIte, ↓reduceDIte]
    have hg : gr j = 0 := Fin.ext (show j.val / 256 = 0 by omega)
    have hc : ∀ c : Fin 256, chG (gr j) c = ⟨c.val, by omega⟩ := fun c => Fin.ext (by rw [hg]; simp [chG])
    simp only [hc]
    rfl
  · simp only [h0, ↓reduceIte, ↓reduceDIte]
    have hg : gr j = 1 := Fin.ext (show j.val / 256 = 1 by omega)
    have hc : ∀ c : Fin 256, chG (gr j) c = ⟨256 + c.val, by omega⟩ := fun c => Fin.ext (by rw [hg]; simp [chG])
    have hj : (⟨256 + (j.val - 256), by omega⟩ : Fin 512) = j := Fin.ext (show 256 + (j.val - 256) = j.val by omega)
    simp only [hc, hj]
    rfl

theorem pay2_apply (h : Vec Ideal S1x128x256 .f32) (c : Fin 256) (n : Fin 128) : (k0_pay2 h (ix3 0 c n) : EReal) = h (ix3 0 n c) := by
  pointwise [k0_pay2]

theorem pay3_apply (h : Vec Ideal S1x128x256 .f32) (c : Fin 256) (n : Fin 128) : (k0_pay3 h (ix3 0 c n) : EReal) = h (ix3 0 n c) := by
  pointwise [k0_pay3]

theorem pay4_apply (x : Vec Ideal S8x1024 .f32) (r : Fin 3) (c : Fin 1024) :
    (k0_pay4 (k0_pay9 x) (ix3 0 r c) : EReal) = x (ix2 ⟨5 + r.val, by omega⟩ c) := by
  pointwise [k0_pay4, k0_pay9]

end Cert.Ssd
-- ==== Proof.SsdChunk.lean ====
/-
  The kernel's chunk is the chunk of the specification: its running sums, its weighted inputs, its rows and its state.
-/
module

public import proofs.«01_k».proof.Proof.SsdOpen
public import proofs.«01_k».proof.Proof.SsdPay2

@[expose] public section

set_option maxRecDepth 16384

noncomputable section

namespace Cert.Ssd

open Idealize.ShloMosaic Cert.KernelIdeal Cert.KernelIdeal.Gen

/-- The step sizes of a chunk. -/
def dtL (x2 : Vec Ideal S128x128 .f32) (x5 : Vec Ideal S1x128 .f32) (l : Fin 128) (h : Fin 8) : EReal :=
  softplus (x2 (ix2 l (lane h)) + x5 (ix2 0 (lane h)))
/-- The decay rates of a chunk. -/
def daL (x2 : Vec Ideal S128x128 .f32) (x5 x6 : Vec Ideal S1x128 .f32) (l : Fin 128) (h : Fin 8) : EReal :=
  dtL x2 x5 l h * -(Ideal.exp (x6 (ix2 0 (lane h))))

/-- A rate is not positive. -/
theorem rate_nonpos {a b : EReal} (ha : 0 ≤ a) (hb : 0 ≤ b) : a * -b ≤ 0 := by
  rw [mul_neg, EReal.neg_le, neg_zero]
  exact mul_nonneg ha hb

theorem sub_nonpos_of_le {a b : EReal} (hab : a ≤ b) : a - b ≤ 0 := by
  induction a with
  | bot => simp
  | top => rw [top_le_iff.mp hab]; exact bot_le
  | coe r =>
    induction b with
    | bot => exact absurd (le_bot_iff.mp hab) (EReal.coe_ne_bot r)
    | top => simp
    | coe q =>
      rw [← EReal.coe_sub]
      exact EReal.coe_nonpos.mpr (by have := EReal.coe_le_coe_iff.mp hab; linarith)

variable (cv : FVec Ideal S128x1024 .f32) (x0 : Vec Ideal S128x512 .f32) (x2 : Vec Ideal S128x128 .f32) (x5 x6 : Vec Ideal S1x128 .f32)
  (x7 x8 : Vec Ideal S1x512 .f32) (h : Vec Ideal S2x128x256 .f32)
  (hx : ∀ (l : Fin 128) (q : Fin 8), x2 (ix2 l (lane q)) + x5 (ix2 0 (lane q)) ≠ (⊤ : EReal))

theorem daL_nonpos (l : Fin 128) (q : Fin 8) : daL x2 x5 x6 l q ≤ 0 :=
  rate_nonpos (softplus_nonneg _) (exp_nonneg _)

theorem csK_apply (l : Fin 128) (q : Fin 8) : (csK x2 x5 x6 (ix2 l (lane q)) : EReal) = cs (daL x2 x5 x6) l q := by
  unfold csK
  rw [pay20_apply]
  have e18 : ∀ s : Fin 128, (k0_pay18 x2 x5 x6 (ix2 s (lane q)) : EReal) = daL x2 x5 x6 s q := fun s => by
    pointwise [k0_pay18]
    rw [pay15_apply]
    rfl
  have e19 : ∀ s : Fin 128, (k0_pay19 x2 x5 x6 (ix2 s (lane q)) : EReal) = daL x2 x5 x6 s q := fun s => by
    pointwise [k0_pay19]
    exact e18 s
  have e15 : ∀ s : Fin 128, (k0_pay15 x2 x5 x6 (ix2 s (lane q)) : EReal) = daL x2 x5 x6 s q := fun s => by
    rw [pay15_apply]
    rfl
  simp only [e18, e19, e15]
  exact split_sum (fun s => daL x2 x5 x6 s q) (fun s => k0_pay17 (F := Ideal) (ix2 l s)) (fun s => s ≤ l) (fun s => pay17_apply l s)
    (fun s => ne_of_lt (lt_of_le_of_lt (daL_nonpos x2 x5 x6 s q) EReal.zero_lt_top))

theorem cstK_apply (l : Fin 128) (q : Fin 8) : (cstK x2 x5 x6 (ix2 (lane q) l) : EReal) = cs (daL x2 x5 x6) l q := by
  rw [← csK_apply]
  unfold cstK csK
  pointwise [k0_pay21]

theorem cslK_apply (q : Fin 8) : (cslK x2 x5 x6 (ix2 0 (lane q)) : EReal) = cs (daL x2 x5 x6) 127 q := by
  rw [← csK_apply]
  unfold cslK csK
  pointwise [k0_pay22]

theorem ecsK_apply (l k : Fin 128) : (ecsK x2 x5 x6 (ix2 l k) : EReal) = Ideal.exp (csK x2 x5 x6 (ix2 l k)) := by
  unfold ecsK csK
  pointwise [k0_pay23]

theorem ecsHK_apply (l k : Fin 128) : (ecsHK x2 x5 x6 (ix2 l k) : EReal) = Ideal.exp (csK x2 x5 x6 (ix2 l k)) := by
  rw [← ecsK_apply]
  unfold ecsHK ecsK
  pointwise [k0_pay26]

theorem ecsE_apply (l : Fin 128) (j : Fin 512) :
    (k0_pay27 (ecsK x2 x5 x6) k0_pay24 (ecsHK x2 x5 x6) (ix2 l j) : EReal) = Ideal.exp (cs (daL x2 x5 x6) l (hd j)) := by
  rw [pay27_apply]
  simp only [ecsK_apply, ecsHK_apply]
  rw [split_pick (fun k => Ideal.exp (csK x2 x5 x6 (ix2 l k))) (fun k => k0_pay24 (F := Ideal) (ix2 k j)) (lane (hd j)) (fun k => pay24_apply k j)]
  · show Ideal.exp (csK x2 x5 x6 (ix2 l (lane (hd j)))) = _
    rw [csK_apply]
  · show Ideal.exp (csK x2 x5 x6 (ix2 l (lane (hd j)))) ≠ ⊤
    rw [csK_apply]
    exact exp_ne_top (cs_nonpos _ (daL_nonpos x2 x5 x6) _ _)

theorem ecslE_apply (j : Fin 512) :
    (k0_pay28 (cslK x2 x5 x6) k0_pay24 (ix2 0 j) : EReal) = Ideal.exp (cs (daL x2 x5 x6) 127 (hd j)) := by
  rw [pay28_apply]
  rw [split_pick (fun k => Ideal.exp (cslK x2 x5 x6 (ix2 0 k))) (fun k => k0_pay24 (F := Ideal) (ix2 k j)) (lane (hd j)) (fun k => pay24_apply k j)]
  · show Ideal.exp (cslK x2 x5 x6 (ix2 0 (lane (hd j)))) = _
    rw [cslK_apply]
  · show Ideal.exp (cslK x2 x5 x6 (ix2 0 (lane (hd j)))) ≠ ⊤
    rw [cslK_apply]
    exact exp_ne_top (cs_nonpos _ (daL_nonpos x2 x5 x6) _ _)

include hx in
theorem xdtK_apply (l : Fin 128) (j : Fin 512) :
    (xdtK cv x2 x5 (ix2 l j) : EReal) = silu (cv (ix2 l (chX j))) * dtL x2 x5 l (hd j) := by
  unfold xdtK
  rw [pay29_apply, pay11_apply, pay25_apply]
  simp only [pay14_apply]
  rw [split_pick (fun k => softplus (x2 (ix2 l k) + x5 (ix2 0 k))) (fun k => k0_pay24 (F := Ideal) (ix2 k j)) (lane (hd j)) (fun k => pay24_apply k j)]
  · rfl
  · exact softplus_ne_top (hx l (hd j))

include hx in
theorem xendK_apply (l : Fin 128) (j : Fin 512) :
    (xendK cv x2 x5 x6 (ix2 l j) : EReal) = silu (cv (ix2 l (chX j)))
      * (dtL x2 x5 l (hd j) * Ideal.exp (cs (daL x2 x5 x6) 127 (hd j) - cs (daL x2 x5 x6) l (hd j))) := by
  unfold xendK
  rw [pay30_apply, pay11_apply]
  simp only [pay14_apply]
  rw [split_pick (fun k => softplus (x2 (ix2 l k) + x5 (ix2 0 k)) * Ideal.exp (cslK x2 x5 x6 (ix2 0 k) - csK x2 x5 x6 (ix2 l k)))
    (fun k => k0_pay24 (F := Ideal) (ix2 k j)) (lane (hd j)) (fun k => pay24_apply k j)]
  · show _ * (softplus _ * Ideal.exp (cslK x2 x5 x6 (ix2 0 (lane (hd j))) - csK x2 x5 x6 (ix2 l (lane (hd j))))) = _
    rw [cslK_apply, csK_apply]
    rfl
  · show softplus _ * Ideal.exp (cslK x2 x5 x6 (ix2 0 (lane (hd j))) - csK x2 x5 x6 (ix2 l (lane (hd j)))) ≠ ⊤
    rw [cslK_apply, csK_apply]
    have hs : cs (daL x2 x5 x6) 127 (hd j) - cs (daL x2 x5 x6) l (hd j) ≤ 0 :=
      sub_nonpos_of_le (cs_last_le _ (daL_nonpos x2 x5 x6) _ _)
    have h1 := exp_le_one hs
    have h2 : softplus (x2 (ix2 l (lane (hd j))) + x5 (ix2 0 (lane (hd j)))) * Ideal.exp (cs (daL x2 x5 x6) 127 (hd j) - cs (daL x2 x5 x6) l (hd j))
        ≤ softplus (x2 (ix2 l (lane (hd j))) + x5 (ix2 0 (lane (hd j)))) := by
      calc _ ≤ softplus (x2 (ix2 l (lane (hd j))) + x5 (ix2 0 (lane (hd j)))) * 1 := mul_le_mul_of_nonneg_left h1 (softplus_nonneg _)
        _ = _ := mul_one _
    exact ne_of_lt (lt_of_le_of_lt h2 (lt_top_iff_ne_top.mpr (softplus_ne_top (hx l (hd j)))))

theorem segE_apply (l s : Fin 128) (q : Fin 8) : segE (csK x2 x5 x6) (cstK x2 x5 x6) l s (lane q) = decay (daL x2 x5 x6) l s q := by
  unfold segE decay
  rw [csK_apply, cstK_apply]

/-- The specification's reading of the kernel's state scratch. -/
def stateOf (j : Fin 512) (n : Fin 128) : EReal := h (ix3 (gr j) n ⟨j.val % 256, Nat.mod_lt _ (by decide)⟩)

theorem stateOf_chG (g : Fin 2) (c : Fin 256) (n : Fin 128) : stateOf h (chG g c) n = h (ix3 g n c) := by
  unfold stateOf
  have h1 : gr (chG g c) = g := Fin.ext (show (256 * g.val + c.val) / 256 = g.val by omega)
  have h2 : (⟨(chG g c).val % 256, Nat.mod_lt _ (by decide)⟩ : Fin 256) = c := Fin.ext (show (256 * g.val + c.val) % 256 = c.val by omega)
  rw [h1, h2]

theorem h0K_apply (n : Fin 128) (c : Fin 256) : (h0K h (ix3 0 n c) : EReal) = h (ix3 0 n c) :=
  View.ld_unit_apply_of _ _ _ _ _ _ (by intro a; fin_cases a <;> simp)

theorem h1K_apply (n : Fin 128) (c : Fin 256) : (h1K h (ix3 0 n c) : EReal) = h (ix3 1 n c) :=
  View.ld_unit_apply_of _ _ _ _ _ _ (by intro a; fin_cases a <;> simp)

include hx in
theorem st0K_apply (n : Fin 128) (c : Fin 256) :
    (st0K cv x2 x5 x6 h (ix3 0 n c) : EReal) = hS (fun l k => cv (ix2 l k)) (dtL x2 x5) (daL x2 x5 x6) (stateOf h) (chG 0 c) n := by
  unfold st0K hS
  rw [pay41_apply, ecslE_apply, stateOf_chG, h0K_apply]
  have hg : gr (chG 0 c) = 0 := Fin.ext (show (256 * 0 + c.val) / 256 = 0 by omega)
  simp only [pay33_apply, xendK_apply cv x2 x5 x6 hx, hg]

include hx in
theorem st1K_apply (n : Fin 128) (c : Fin 256) :
    (st1K cv x2 x5 x6 h (ix3 0 n c) : EReal) = hS (fun l k => cv (ix2 l k)) (dtL x2 x5) (daL x2 x5 x6) (stateOf h) (chG 1 c) n := by
  unfold st1K hS
  rw [pay51_apply, ecslE_apply, stateOf_chG, h1K_apply]
  have hg : gr (chG 1 c) = 1 := Fin.ext (show (256 * 1 + c.val) / 256 = 1 by omega)
  simp only [pay43_apply, xendK_apply cv x2 x5 x6 hx, hg]

include hx in
theorem yK_apply (D : Fin 8 → EReal) (hD : ∀ j : Fin 512, x7 (ix2 0 j) = D (hd j)) (l : Fin 128) (j : Fin 512) :
    (yK cv x2 x5 x6 x7 h (ix2 l j) : EReal) = yS (fun l k => cv (ix2 l k)) (dtL x2 x5) (daL x2 x5 x6) D (stateOf h) l j := by
  unfold yK yS
  rw [pay52_apply, hD, pay11_apply]
  refine congrArg (· + D (hd j) * silu (cv (ix2 l (chX j)))) ?_
  have hj := j.isLt
  by_cases h0 : j.val < 256
  · rw [dif_pos h0]
    have hg : gr j = 0 := Fin.ext (show j.val / 256 = 0 by omega)
    have hc : chG 0 ⟨j.val, h0⟩ = j := Fin.ext (show 256 * 0 + j.val = j.val by omega)
    unfold ylowK
    rw [pay38_apply, pay36_apply, ecsE_apply, hc, hg]
    have hst : ∀ n, stateOf h j n = h (ix3 0 n ⟨j.val, h0⟩) := fun n => by rw [← stateOf_chG h 0 ⟨j.val, h0⟩ n, hc]
    simp only [pay34_apply, pay32_apply, pay33_apply, segE_apply, xdtK_apply cv x2 x5 hx, h0K_apply, hst]
  · rw [dif_neg h0]
    have hg : gr j = 1 := Fin.ext (show j.val / 256 = 1 by omega)
    have hc : chG 1 ⟨j.val - 256, by omega⟩ = j := Fin.ext (show 256 * 1 + (j.val - 256) = j.val by omega)
    rw [pay46_apply, ecsE_apply, hc, hg]
    have hst : ∀ n, stateOf h j n = h (ix3 1 n ⟨j.val - 256, by omega⟩) := fun n => by rw [← stateOf_chG h 1 ⟨j.val - 256, by omega⟩ n, hc]
    simp only [pay44_apply, pay42_apply, pay43_apply, segE_apply, xdtK_apply cv x2 x5 hx, h1K_apply, hst]

include hx in
theorem outK_apply (D : Fin 8 → EReal) (hD : ∀ j : Fin 512, x7 (ix2 0 j) = D (hd j)) (l : Fin 128) (j : Fin 512) :
    (outK cv x0 x2 x5 x6 x7 x8 h (ix2 l j) : EReal)
      = gatedS (fun j => yS (fun l k => cv (ix2 l k)) (dtL x2 x5) (daL x2 x5 x6) D (stateOf h) l j) (fun j => x0 (ix2 l j)) (fun j => x8 (ix2 0 j)) j := by
  unfold outK
  rw [pay1_apply]
  · simp only [yK_apply cv x2 x5 x6 x7 h hx D hD]
  · exact x0

/-! ## The windows and the scratch at an index -/

theorem pay7_apply (x1 : Vec Ideal S128x1024 .f32) (l : Fin 128) (c : Fin 1024) : (k0_pay7 x1 (ix2 l c) : EReal) = x1 (ix2 l c) := by
  pointwise [k0_pay7]

theorem winB_lo (xs0 : Vec Ideal S136x1024 .f32) (x1 : Vec Ideal S128x1024 .f32) (r : Fin 136) (c : Fin 1024) (hr : r.val < 8) :
    (winB xs0 x1 (ix2 r c) : EReal) = xs0 (ix2 r c) := by
  unfold winB
  rw [dif_neg (by show ¬ 8 ≤ r.val; omega)]

theorem winB_hi (xs0 : Vec Ideal S136x1024 .f32) (x1 : Vec Ideal S128x1024 .f32) (r : Fin 136) (c : Fin 1024) (hr : 8 ≤ r.val) :
    (winB xs0 x1 (ix2 r c) : EReal) = x1 (ix2 ⟨r.val - 8, by omega⟩ c) := by
  unfold winB
  rw [dif_pos (by show 8 ≤ r.val; omega)]
  rfl

theorem winA_apply (x1 : Vec Ideal S128x1024 .f32) (r : Fin 136) (c : Fin 1024) :
    (winA x1 (ix2 r c) : EReal) = if h : 8 ≤ r.val then x1 (ix2 ⟨r.val - 8, by omega⟩ c) else 0 := by
  unfold winA
  by_cases h : 8 ≤ r.val
  · rw [dif_pos h]
    rw [show (ix2 r c : S136x1024.Idx) = (Rect.unit (s := S136x1024) ![8, 0] ![128, 1024] inb_S136x1024_S128x1024_8_0).emb (ix2 ⟨r.val - 8, by omega⟩ c) from by
      funext a; apply Fin.ext; fin_cases a
      · show r.val = 8 + 1 * (r.val - 8); omega
      · show c.val = 0 + 1 * c.val; omega]
    rw [View.canon_cons_emb, pay7_apply]
  · rw [dif_neg h, View.canon_cons_of_not_mem]
    · rw [show (ix2 r c : S136x1024.Idx) = (Rect.unit (s := S136x1024) ![0, 0] ![8, 1024] inb_S136x1024_S8x1024_0_0).emb (ix2 ⟨r.val, by omega⟩ c) from by
        funext a; apply Fin.ext; fin_cases a
        · show r.val = 0 + 1 * r.val; omega
        · show c.val = 0 + 1 * c.val; omega]
      rw [View.canon_cons_emb]
      pointwise [k0_pay5]
    · rw [Rect.mem_set_unit]
      intro hall
      have := (hall 0).1
      change 8 ≤ r.val at this
      omega

theorem lastRows_apply (x1 : Vec Ideal S128x1024 .f32) (r : Fin 8) (c : Fin 1024) :
    (lastRows x1 (ix2 r c) : EReal) = x1 (ix2 ⟨120 + r.val, by omega⟩ c) := by
  unfold lastRows
  rw [View.ld_unit_apply_of _ _ _ _ _ (ix2 ⟨128 + r.val, by omega⟩ c) (by intro a; fin_cases a <;> simp)]
  rw [show (ix2 ⟨128 + r.val, by omega⟩ c : S136x1024.Idx) = (Rect.unit (s := S136x1024) ![8, 0] ![128, 1024] inb_S136x1024_S128x1024_8_0).emb (ix2 ⟨120 + r.val, by omega⟩ c) from by
    funext a; apply Fin.ext; fin_cases a <;> simp; omega]
  rw [View.canon_cons_emb, pay7_apply]

theorem tailB_apply (x1 : Vec Ideal S128x1024 .f32) (r : Fin 8) (c : Fin 1024) :
    (tailB x1 (ix2 ⟨r.val, by omega⟩ c) : EReal) = x1 (ix2 ⟨120 + r.val, by omega⟩ c) := by
  unfold tailB
  rw [show (ix2 ⟨r.val, by omega⟩ c : S136x1024.Idx) = (Rect.unit (s := S136x1024) ![0, 0] ![8, 1024] inb_S136x1024_S8x1024_0_0).emb (ix2 r c) from by
    funext a; apply Fin.ext; fin_cases a <;> simp]
  rw [View.canon_cons_emb]
  pointwise [k0_pay9]
  exact lastRows_apply x1 r c

theorem tailA_apply (x1 : Vec Ideal S128x1024 .f32) (r : Fin 8) (c : Fin 1024) :
    (tailA x1 (ix2 ⟨r.val, by omega⟩ c) : EReal) = x1 (ix2 ⟨120 + r.val, by omega⟩ c) := by
  unfold tailA
  rw [show (ix2 ⟨r.val, by omega⟩ c : S136x1024.Idx) = (Rect.unit (s := S136x1024) ![0, 0] ![8, 1024] inb_S136x1024_S8x1024_0_0).emb (ix2 r c) from by
    funext a; apply Fin.ext; fin_cases a <;> simp]
  rw [View.canon_cons_emb]
  pointwise [k0_pay9]
  refine Eq.trans (b := (winA x1 (ix2 ⟨128 + r.val, by omega⟩ c) : EReal)) rfl ?_
  rw [winA_apply, dif_pos (by show 8 ≤ 128 + r.val; omega)]
  exact congrArg x1 (congrArg (fun q => ix2 q c) (Fin.ext (show 128 + r.val - 8 = 120 + r.val by omega)))

theorem cvK_apply (w : Vec Ideal S136x1024 .f32) (x1 : Vec Ideal S128x1024 .f32) (x3 : Vec Ideal S4x1024 .f32) (x4 : Vec Ideal S1x1024 .f32) (l : Fin 128) (c : Fin 1024) :
    (cvK w x1 x3 x4 (ix2 l c) : EReal) = x4 (ix2 0 c) + w (ix2 ⟨5 + l.val, by omega⟩ c) * x3 (ix2 0 c) + w (ix2 ⟨6 + l.val, by omega⟩ c) * x3 (ix2 1 c)
      + w (ix2 ⟨7 + l.val, by omega⟩ c) * x3 (ix2 2 c) + x1 (ix2 l c) * x3 (ix2 3 c) := by
  unfold cvK
  rw [pay8_apply, pay7_apply]
  rw [View.ld_unit_apply_of w _ _ _ _ (ix2 ⟨5 + l.val, by omega⟩ c) (by intro a; fin_cases a <;> simp),
    View.ld_unit_apply_of w _ _ _ _ (ix2 ⟨6 + l.val, by omega⟩ c) (by intro a; fin_cases a <;> simp),
    View.ld_unit_apply_of w _ _ _ _ (ix2 ⟨7 + l.val, by omega⟩ c) (by intro a; fin_cases a <;> simp),
    View.ld_unit_apply_of x3 _ _ _ _ (ix2 0 c) (by intro a; fin_cases a <;> simp),
    View.ld_unit_apply_of x3 _ _ _ _ (ix2 1 c) (by intro a; fin_cases a <;> simp),
    View.ld_unit_apply_of x3 _ _ _ _ (ix2 2 c) (by intro a; fin_cases a <;> simp),
    View.ld_unit_apply_of x3 _ _ _ _ (ix2 3 c) (by intro a; fin_cases a <;> simp)]

/-- Two stored halves make the state they were computed from. -/
theorem canon_state (a b : FVec Ideal S1x128x256 .f32) (G : Fin 512 → Fin 128 → EReal)
    (ha : ∀ n c, (a (ix3 0 n c) : EReal) = G (chG 0 c) n) (hb : ∀ n c, (b (ix3 0 n c) : EReal) = G (chG 1 c) n)
    (L : List (View.Piece (Elt Ideal) S2x128x256 .f32)) (j : Fin 512) (n : Fin 128) :
    stateOf (View.canon (⟨Rect.unit ![1, 0, 0] ![1, 128, 256] inb_S2x128x256_S1x128x256_1_0_0, b⟩ :: ⟨Rect.unit ![0, 0, 0] ![1, 128, 256] inb_S2x128x256_S1x128x256_0_0_0, a⟩ :: L)) j n = G j n := by
  unfold stateOf
  have hj := j.isLt
  by_cases h0 : j.val < 256
  · have hc : chG 0 ⟨j.val % 256, Nat.mod_lt _ (by decide)⟩ = j := Fin.ext (show 256 * 0 + j.val % 256 = j.val by omega)
    rw [View.canon_cons_of_not_mem]
    · rw [show (ix3 (gr j) n ⟨j.val % 256, Nat.mod_lt _ (by decide)⟩ : S2x128x256.Idx) = (Rect.unit (s := S2x128x256) ![0, 0, 0] ![1, 128, 256] inb_S2x128x256_S1x128x256_0_0_0).emb (ix3 0 n ⟨j.val % 256, Nat.mod_lt _ (by decide)⟩) from by
        funext a; apply Fin.ext; fin_cases a
        · show j.val / 256 = 0 + 1 * 0; omega
        · show n.val = 0 + 1 * n.val; omega
        · show j.val % 256 = 0 + 1 * (j.val % 256); omega]
      rw [View.canon_cons_emb, ha, hc]
    · rw [Rect.mem_set_unit]
      intro hall
      have := (hall 0).1
      change 1 ≤ j.val / 256 at this
      omega
  · have hc : chG 1 ⟨j.val % 256, Nat.mod_lt _ (by decide)⟩ = j := Fin.ext (show 256 * 1 + j.val % 256 = j.val by omega)
    rw [show (ix3 (gr j) n ⟨j.val % 256, Nat.mod_lt _ (by decide)⟩ : S2x128x256.Idx) = (Rect.unit (s := S2x128x256) ![1, 0, 0] ![1, 128, 256] inb_S2x128x256_S1x128x256_1_0_0).emb (ix3 0 n ⟨j.val % 256, Nat.mod_lt _ (by decide)⟩) from by
      funext a; apply Fin.ext; fin_cases a
      · show j.val / 256 = 1 + 1 * 0; omega
      · show n.val = 0 + 1 * n.val; omega
      · show j.val % 256 = 0 + 1 * (j.val % 256); omega]
    rw [View.canon_cons_emb, hb, hc]

/-- The two transposed halves make the state, channel first. -/
theorem canon_hout (a b : FVec Ideal S1x128x256 .f32) (G : Fin 512 → Fin 128 → EReal)
    (ha : ∀ n c, (a (ix3 0 n c) : EReal) = G (chG 0 c) n) (hb : ∀ n c, (b (ix3 0 n c) : EReal) = G (chG 1 c) n)
    (j : Fin 512) (n : Fin 128) :
    (View.canon (Val := Elt Ideal) (s := S1x512x128) (e := .f32) [⟨Rect.unit ![0, 256, 0] ![1, 256, 128] inb_S1x512x128_S1x256x128_0_256_0, k0_pay3 (F := Ideal) b⟩, ⟨Rect.unit ![0, 0, 0] ![1, 256, 128] inb_S1x512x128_S1x256x128_0_0_0, k0_pay2 (F := Ideal) a⟩] (ix3 0 j n) : EReal) = G j n := by
  have hj := j.isLt
  by_cases h0 : j.val < 256
  · have hc : chG 0 ⟨j.val, h0⟩ = j := Fin.ext (show 256 * 0 + j.val = j.val by omega)
    rw [View.canon_cons_of_not_mem]
    · rw [show (ix3 0 j n : S1x512x128.Idx) = (Rect.unit (s := S1x512x128) ![0, 0, 0] ![1, 256, 128] inb_S1x512x128_S1x256x128_0_0_0).emb (ix3 0 ⟨j.val, h0⟩ n) from by
        funext a; apply Fin.ext; fin_cases a
        · show 0 = 0 + 1 * 0; omega
        · show j.val = 0 + 1 * j.val; omega
        · show n.val = 0 + 1 * n.val; omega]
      rw [View.canon_cons_emb, pay2_apply, ha, hc]
    · rw [Rect.mem_set_unit]
      intro hall
      have := (hall 1).1
      change 256 ≤ j.val at this
      omega
  · have hc : chG 1 ⟨j.val - 256, by omega⟩ = j := Fin.ext (show 256 * 1 + (j.val - 256) = j.val by omega)
    rw [show (ix3 0 j n : S1x512x128.Idx) = (Rect.unit (s := S1x512x128) ![0, 256, 0] ![1, 256, 128] inb_S1x512x128_S1x256x128_0_256_0).emb (ix3 0 ⟨j.val - 256, by omega⟩ n) from by
      funext a; apply Fin.ext; fin_cases a
      · show 0 = 0 + 1 * 0; omega
      · show j.val = 256 + 1 * (j.val - 256); omega
      · show n.val = 0 + 1 * n.val; omega]
    rw [View.canon_cons_emb, pay3_apply, hb, hc]

end Cert.Ssd

end
-- ==== Proof.SsdBlocks.lean ====
/-
  The blocks a grid point reads, in terms of the kernel's arguments.
-/
module

public import proofs.«01_k».proof.Proof.SsdChunk
public import Idealize.ShloMosaic.Lib.Claim

@[expose] public section

set_option maxRecDepth 16384

noncomputable section

namespace Cert.Ssd

open Idealize.ShloMosaic Cert.KernelIdeal Cert.KernelIdeal.Gen Idealize.ShloMosaic.TcCoe Idealize.SL.Sem

variable (m : (ℓ : Loc nD τ sig) → Buf (Elt Ideal) ℓ) (c : Dev nD)

theorem t_lt (t : Fin cfg0.N) : t.val < 128 := lt_of_lt_of_eq t.isLt N_0

/-- The sequence of a point. -/
def bT (t : Fin cfg0.N) : Fin 2 := ⟨t.val / 64, by have := t_lt t; omega⟩
/-- The position in its sequence of a row of a point's chunk. -/
def rT (t : Fin cfg0.N) (l : Fin 128) : Fin 8192 := ⟨128 * (t.val % 64) + l.val, by omega⟩

theorem idx012 : ∀ t : Fin cfg0.N, win0_0.index t = ![t.val, 0] ∧ win0_1.index t = ![t.val, 0] ∧ win0_2.index t = ![t.val, 0] :=
  (by decide +kernel : ∀ t : Fin grid0.N, _)
theorem idx38 : ∀ t : Fin cfg0.N, win0_3.index t = ![0, 0] ∧ win0_4.index t = ![0, 0] ∧ win0_5.index t = ![0, 0] ∧ win0_6.index t = ![0, 0]
    ∧ win0_7.index t = ![0, 0] ∧ win0_8.index t = ![0, 0] :=
  (by decide +kernel : ∀ t : Fin grid0.N, _)

theorem blk0 (t : Fin cfg0.N) (l : Fin 128) (j : Fin 512) :
    (iblk m c 0 t (ix2 l j) : EReal) = m ((c : Thread nD τ).loc main_arg0) (ix3 (bT t) (rT t l) j) := by
  have ht := t_lt t
  blk_simp [iblk]
  entry_read
  pointwise
  have e0 : (((View.whole main_v14).slice (win0_0.rect t)).emb (ix2 l j) 0).val = t.val * 128 + l.val := by blk_simp [(idx012 t).1]
  have e1 : (((View.whole main_v14).slice (win0_0.rect t)).emb (ix2 l j) 1).val = j.val := by blk_simp [(idx012 t).1]
  refine congrArg (m (c, Proc.tc.devRef main_arg0)) (congr (congrArg₂ ix3 ?_ ?_) ?_) <;> apply Fin.ext
  · show _ / 8192 = t.val / 64; rw [e0]; omega
  · show _ % 8192 = 128 * (t.val % 64) + l.val; rw [e0]; omega
  · exact e1

theorem blk1 (t : Fin cfg0.N) (l : Fin 128) (j : Fin 1024) :
    (iblk m c 1 t (ix2 l j) : EReal) = m ((c : Thread nD τ).loc main_arg1) (ix3 (bT t) (rT t l) j) := by
  have ht := t_lt t
  blk_simp [iblk]
  entry_read
  pointwise
  have e0 : (((View.whole main_v15).slice (win0_1.rect t)).emb (ix2 l j) 0).val = t.val * 128 + l.val := by blk_simp [(idx012 t).2.1]
  have e1 : (((View.whole main_v15).slice (win0_1.rect t)).emb (ix2 l j) 1).val = j.val := by blk_simp [(idx012 t).2.1]
  refine congrArg (m (c, Proc.tc.devRef main_arg1)) (congr (congrArg₂ ix3 ?_ ?_) ?_) <;> apply Fin.ext
  · show _ / 8192 = t.val / 64; rw [e0]; omega
  · show _ % 8192 = 128 * (t.val % 64) + l.val; rw [e0]; omega
  · exact e1

theorem blk2 (t : Fin cfg0.N) (l : Fin 128) (h : Fin 8) :
    (iblk m c 2 t (ix2 l (lane h)) : EReal) = m ((c : Thread nD τ).loc main_arg2) (ix3 (bT t) (rT t l) h) := by
  have ht := t_lt t
  blk_simp [iblk]
  entry_read
  pointwise
  have e0 : (((View.whole main_v13).slice (win0_2.rect t)).emb (ix2 l (lane h)) 0).val = t.val * 128 + l.val := by blk_simp [(idx012 t).2.2]
  have e1 : (((View.whole main_v13).slice (win0_2.rect t)).emb (ix2 l (lane h)) 1).val = h.val := by blk_simp [(idx012 t).2.2]; simp [lane]
  rw [dif_pos (by rw [e1]; exact h.isLt)]
  refine congrArg (m (c, Proc.tc.devRef main_arg2)) (congr (congrArg₂ ix3 ?_ ?_) ?_) <;> apply Fin.ext
  · show _ / 8192 = t.val / 64; rw [e0]; omega
  · show _ % 8192 = 128 * (t.val % 64) + l.val; rw [e0]; omega
  · exact e1

theorem blk3 (t : Fin cfg0.N) (i : Fin 4) (k : Fin 1024) :
    (iblk m c 3 t (ix2 i k) : EReal) = m ((c : Thread nD τ).loc main_arg3) (ix2 i k) := by
  blk_ext [iblk, V, idx38 t]

theorem blk4 (t : Fin cfg0.N) (k : Fin 1024) :
    (iblk m c 4 t (ix2 0 k) : EReal) = m ((c : Thread nD τ).loc main_arg4) (ix1 k) := by
  blk_simp [iblk]
  entry_read
  pointwise
  have e1 : (((View.whole main_v0).slice (win0_4.rect t)).emb (ix2 0 k) 1).val = k.val := by blk_simp [idx38 t]
  exact congrArg (m (c, Proc.tc.devRef main_arg4)) (congrArg ix1 (Fin.ext e1))

theorem blk5 (t : Fin cfg0.N) (h : Fin 8) :
    (iblk m c 5 t (ix2 0 (lane h)) : EReal) = m ((c : Thread nD τ).loc main_arg5) (ix1 h) := by
  blk_simp [iblk]
  entry_read
  pointwise
  have e1 : (((View.whole main_v3).slice (win0_5.rect t)).emb (ix2 0 (lane h)) 1).val = h.val := by blk_simp [idx38 t]; simp [lane]
  rw [dif_pos (by rw [e1]; exact h.isLt)]
  exact congrArg (m (c, Proc.tc.devRef main_arg5)) (congrArg ix1 (Fin.ext e1))

theorem blk6 (t : Fin cfg0.N) (h : Fin 8) :
    (iblk m c 6 t (ix2 0 (lane h)) : EReal) = m ((c : Thread nD τ).loc main_arg6) (ix1 h) := by
  blk_simp [iblk]
  entry_read
  pointwise
  have e1 : (((View.whole main_v6).slice (win0_6.rect t)).emb (ix2 0 (lane h)) 1).val = h.val := by blk_simp [idx38 t]; simp [lane]
  rw [dif_pos (by rw [e1]; exact h.isLt)]
  exact congrArg (m (c, Proc.tc.devRef main_arg6)) (congrArg ix1 (Fin.ext e1))

theorem blk7 (t : Fin cfg0.N) (j : Fin 512) :
    (iblk m c 7 t (ix2 0 j) : EReal) = m ((c : Thread nD τ).loc main_arg7) (ix1 (hd j)) := by
  blk_simp [iblk]
  entry_read
  pointwise
  have e1 : (((View.whole main_v9).slice (win0_7.rect t)).emb (ix2 0 j) 1).val = j.val := by blk_simp [idx38 t]
  refine congrArg (m (c, Proc.tc.devRef main_arg7)) (congrArg ix1 (Fin.ext ?_))
  show _ / 64 = j.val / 64
  rw [e1]

theorem blk8 (t : Fin cfg0.N) (j : Fin 512) :
    (iblk m c 8 t (ix2 0 j) : EReal) = m ((c : Thread nD τ).loc main_arg8) (ix1 j) := by
  blk_simp [iblk]
  entry_read
  pointwise
  have e1 : (((View.whole main_v10).slice (win0_8.rect t)).emb (ix2 0 j) 1).val = j.val := by blk_simp [idx38 t]
  exact congrArg (m (c, Proc.tc.devRef main_arg8)) (congrArg ix1 (Fin.ext e1))

end Cert.Ssd

end
-- ==== Proof.SsdGlob.lean ====
/-
  The scan of both sequences from the arrays it is called with: the causal convolution, the step sizes and rates, the state
  before every chunk and every row's gated output.
-/
module

public import proofs.«01_k».proof.Proof.SsdSpec

@[expose] public section

noncomputable section

namespace Cert.Ssd

open Idealize.ShloMosaic

/-- The arrays the scan reads. -/
structure Args where
  /-- The gates. -/
  z : Fin 2 → Fin 8192 → Fin 512 → EReal
  /-- The rows before the convolution. -/
  x : Fin 2 → Fin 8192 → Fin 1024 → EReal
  /-- The step sizes before the bias. -/
  dr : Fin 2 → Fin 8192 → Fin 8 → EReal
  /-- The taps. -/
  w : Fin 4 → Fin 1024 → EReal
  /-- The convolution's bias. -/
  bi : Fin 1024 → EReal
  /-- The step sizes' bias. -/
  db : Fin 8 → EReal
  /-- The rates' logarithms. -/
  al : Fin 8 → EReal
  /-- The skips. -/
  D : Fin 8 → EReal
  /-- The norm's weights. -/
  nw : Fin 512 → EReal

variable (A : Args)

/-- The position of a row of a chunk. -/
def pos (k : ℕ) (l : Fin 128) : Fin 8192 := ⟨128 * (k % 64) + l.val, by omega⟩

/-- The row `3 - i` before position `p`, nothing before the first. -/
def tap (b : Fin 2) (p : Fin 8192) (i : ℕ) (hi : i ≤ 3) (c : Fin 1024) : EReal :=
  if 3 ≤ p.val + i then A.x b ⟨p.val + i - 3, by omega⟩ c else 0

/-- The convolution at a position. -/
def cvP (b : Fin 2) (p : Fin 8192) (c : Fin 1024) : EReal :=
  A.bi c + tap A b p 0 (by decide) c * A.w 0 c + tap A b p 1 (by decide) c * A.w 1 c + tap A b p 2 (by decide) c * A.w 2 c
    + A.x b p c * A.w 3 c

/-- The step size at a position. -/
def dtP (b : Fin 2) (p : Fin 8192) (h : Fin 8) : EReal := softplus (A.dr b p h + A.db h)

/-- The rate at a position. -/
def daP (b : Fin 2) (p : Fin 8192) (h : Fin 8) : EReal := dtP A b p h * -(Ideal.exp (A.al h))

/-- The convolution of a chunk. -/
def CV (b : Fin 2) (k : ℕ) (l : Fin 128) (c : Fin 1024) : EReal := cvP A b (pos k l) c
/-- The step sizes of a chunk. -/
def DT (b : Fin 2) (k : ℕ) (l : Fin 128) (h : Fin 8) : EReal := dtP A b (pos k l) h
/-- The rates of a chunk. -/
def DA (b : Fin 2) (k : ℕ) (l : Fin 128) (h : Fin 8) : EReal := daP A b (pos k l) h

/-- The state before a chunk. -/
def HS (b : Fin 2) : ℕ → Fin 512 → Fin 128 → EReal
  | 0 => fun _ _ => 0
  | k + 1 => hS (CV A b k) (DT A b k) (DA A b k) (HS b k)

/-- A row's output. -/
def YG (b : Fin 2) (k : ℕ) (l : Fin 128) (j : Fin 512) : EReal :=
  gatedS (fun j => yS (CV A b k) (DT A b k) (DA A b k) A.D (HS A b k) l j) (A.z b (pos k l)) A.nw j

end Cert.Ssd

end
-- ==== Proof.SsdPoints.lean ====
/-
  What every grid point leaves: the chunk's gated rows, the last rows for the next chunk's convolution, and the state.
-/
module

public import proofs.«01_k».proof.Proof.SsdBlocks
public import proofs.«01_k».proof.Proof.SsdGlob
public import proofs.«01_k».proof.Proof.Gen.KernelIdeal.Value

@[expose] public section

set_option maxRecDepth 16384

noncomputable section

namespace Cert.Ssd

open Idealize.ShloMosaic Cert.KernelIdeal Cert.KernelIdeal.Gen Cert.KernelIdeal.Value Idealize.ShloMosaic.TcCoe Idealize.SL.Sem

variable (m : (ℓ : Loc nD τ sig) → Buf (Elt Ideal) ℓ) (c : Dev nD)

/-- The kernel's arguments as the scan's arrays. -/
def argsK : Args where
  z b p j := m ((c : Thread nD τ).loc main_arg0) (ix3 b p j)
  x b p j := m ((c : Thread nD τ).loc main_arg1) (ix3 b p j)
  dr b p h := m ((c : Thread nD τ).loc main_arg2) (ix3 b p h)
  w i k := m ((c : Thread nD τ).loc main_arg3) (ix2 i k)
  bi k := m ((c : Thread nD τ).loc main_arg4) (ix1 k)
  db h := m ((c : Thread nD τ).loc main_arg5) (ix1 h)
  al h := m ((c : Thread nD τ).loc main_arg6) (ix1 h)
  D h := m ((c : Thread nD τ).loc main_arg7) (ix1 h)
  nw j := m ((c : Thread nD τ).loc main_arg8) (ix1 j)

/-- The carried tuple. -/
abbrev St := Vec Ideal S128x512 .f32 × Vec Ideal S1x512x128 .f32 × Vec Ideal S1x3x1024 .f32 × Vec Ideal S136x1024 .f32 × Vec Ideal S2x128x256 .f32

variable (hx : ∀ (b : Fin 2) (p : Fin 8192) (h : Fin 8), (argsK m c).dr b p h + (argsK m c).db h ≠ ⊤)

/-- The chunk of a point. -/
abbrev kT (t : Fin cfg0.N) : ℕ := t.val % 64

theorem rT_eq (t : Fin cfg0.N) (l : Fin 128) : rT t l = pos (kT t) l := Fin.ext (by show 128 * (t.val % 64) + l.val = 128 * (t.val % 64 % 64) + l.val; omega)

/-- A window holding the chunk's rows from row 8 and the rows before them above gives the chunk's convolution. -/
theorem cvK_CV (t : Fin cfg0.N) (w : Vec Ideal S136x1024 .f32)
    (hw : ∀ (r : Fin 136) (k : Fin 1024), (w (ix2 r k) : EReal) = if h : 8 ≤ 128 * kT t + r.val then (argsK m c).x (bT t) ⟨128 * kT t + r.val - 8, by have := Nat.mod_lt t.val (show 0 < 64 by decide); show 128 * (t.val % 64) + r.val - 8 < 8192; omega⟩ k else 0)
    (l : Fin 128) (k : Fin 1024) :
    (cvK w (iblk m c 1 t) (iblk m c 3 t) (iblk m c 4 t) (ix2 l k) : EReal) = CV (argsK m c) (bT t) (kT t) l k := by
  have hk : kT t < 64 := Nat.mod_lt _ (by decide)
  have hm : kT t % 64 = kT t := Nat.mod_eq_of_lt hk
  rw [cvK_apply, blk4, blk3, blk3, blk3, blk3, blk1, rT_eq, hw, hw, hw]
  have key : ∀ (i : ℕ) (hi : i ≤ 3) (r : Fin 136) (hr : r.val = 5 + i + l.val),
      (if h : 8 ≤ 128 * kT t + r.val then (argsK m c).x (bT t) ⟨128 * kT t + r.val - 8, by omega⟩ k else 0)
        = tap (argsK m c) (bT t) (pos (kT t) l) i hi k := by
    intro i hi r hr
    unfold tap
    have hp : (pos (kT t) l).val = 128 * kT t + l.val := by show 128 * (kT t % 64) + l.val = _; rw [hm]
    by_cases h : 8 ≤ 128 * kT t + r.val
    · rw [dif_pos h, if_pos (by omega)]
      exact congrArg (fun q => (argsK m c).x (bT t) q k) (Fin.ext (by show 128 * kT t + r.val - 8 = (pos (kT t) l).val + i - 3; omega))
    · rw [dif_neg h, if_neg (by omega)]
  rw [key 0 (by decide) _ rfl, key 1 (by decide) _ rfl, key 2 (by decide) _ rfl]
  rfl

include hx in
theorem hx_blk (t : Fin cfg0.N) (l : Fin 128) (q : Fin 8) : @HAdd.hAdd EReal EReal EReal _ (iblk m c 2 t (ix2 l (lane q))) (iblk m c 5 t (ix2 0 (lane q))) ≠ ⊤ := by
  rw [blk2, blk5]
  exact hx (bT t) (rT t l) q

theorem dt_blk (t : Fin cfg0.N) : dtL (iblk m c 2 t) (iblk m c 5 t) = DT (argsK m c) (bT t) (kT t) := by
  funext l q
  unfold dtL
  rw [blk2, blk5, rT_eq]
  rfl

theorem da_blk (t : Fin cfg0.N) : daL (iblk m c 2 t) (iblk m c 5 t) (iblk m c 6 t) = DA (argsK m c) (bT t) (kT t) := by
  funext l q
  unfold daL
  rw [dt_blk, blk6]
  rfl

include hx in
/-- The chunk's rows, from the window's convolution and the state before it. -/
theorem out_YG (t : Fin cfg0.N) (cv : FVec Ideal S128x1024 .f32) (h : Vec Ideal S2x128x256 .f32)
    (hcv : ∀ l k, (cv (ix2 l k) : EReal) = CV (argsK m c) (bT t) (kT t) l k)
    (hh : ∀ j n, stateOf h j n = HS (argsK m c) (bT t) (kT t) j n) (l : Fin 128) (j : Fin 512) :
    (outK cv (iblk m c 0 t) (iblk m c 2 t) (iblk m c 5 t) (iblk m c 6 t) (iblk m c 7 t) (iblk m c 8 t) h (ix2 l j) : EReal)
      = YG (argsK m c) (bT t) (kT t) l j := by
  rw [outK_apply cv _ _ _ _ _ _ h (hx_blk m c hx t) (argsK m c).D (fun j => blk7 m c t j)]
  rw [dt_blk, da_blk, show (fun l k => (cv (ix2 l k) : EReal)) = CV (argsK m c) (bT t) (kT t) from funext fun l => funext fun k => hcv l k,
    show stateOf h = HS (argsK m c) (bT t) (kT t) from funext fun j => funext fun n => hh j n]
  unfold YG
  congr 1
  · funext j; rw [blk0, rT_eq]; rfl
  · funext j; rw [blk8]; rfl

include hx in
theorem st0_HS (t : Fin cfg0.N) (cv : FVec Ideal S128x1024 .f32) (h : Vec Ideal S2x128x256 .f32)
    (hcv : ∀ l k, (cv (ix2 l k) : EReal) = CV (argsK m c) (bT t) (kT t) l k)
    (hh : ∀ j n, stateOf h j n = HS (argsK m c) (bT t) (kT t) j n) (n : Fin 128) (q : Fin 256) :
    (st0K cv (iblk m c 2 t) (iblk m c 5 t) (iblk m c 6 t) h (ix3 0 n q) : EReal) = HS (argsK m c) (bT t) (kT t + 1) (chG 0 q) n := by
  rw [st0K_apply cv _ _ _ h (hx_blk m c hx t)]
  rw [dt_blk, da_blk, show (fun l k => (cv (ix2 l k) : EReal)) = CV (argsK m c) (bT t) (kT t) from funext fun l => funext fun k => hcv l k,
    show stateOf h = HS (argsK m c) (bT t) (kT t) from funext fun j => funext fun n => hh j n]
  rfl

include hx in
theorem st1_HS (t : Fin cfg0.N) (cv : FVec Ideal S128x1024 .f32) (h : Vec Ideal S2x128x256 .f32)
    (hcv : ∀ l k, (cv (ix2 l k) : EReal) = CV (argsK m c) (bT t) (kT t) l k)
    (hh : ∀ j n, stateOf h j n = HS (argsK m c) (bT t) (kT t) j n) (n : Fin 128) (q : Fin 256) :
    (st1K cv (iblk m c 2 t) (iblk m c 5 t) (iblk m c 6 t) h (ix3 0 n q) : EReal) = HS (argsK m c) (bT t) (kT t + 1) (chG 1 q) n := by
  rw [st1K_apply cv _ _ _ h (hx_blk m c hx t)]
  rw [dt_blk, da_blk, show (fun l k => (cv (ix2 l k) : EReal)) = CV (argsK m c) (bT t) (kT t) from funext fun l => funext fun k => hcv l k,
    show stateOf h = HS (argsK m c) (bT t) (kT t) from funext fun j => funext fun n => hh j n]
  rfl

theorem zero_state (j : Fin 512) (n : Fin 128) : stateOf (k0_pay6 (F := Ideal)) j n = 0 := by
  unfold stateOf
  pointwise [k0_pay6]

theorem winA_rows (t : Fin cfg0.N) (h0 : t.val % 64 = 0) (r : Fin 136) (k : Fin 1024) :
    (winA (iblk m c 1 t) (ix2 r k) : EReal) = if h : 8 ≤ 128 * kT t + r.val then (argsK m c).x (bT t) ⟨128 * kT t + r.val - 8, by have := Nat.mod_lt t.val (show 0 < 64 by decide); show 128 * (t.val % 64) + r.val - 8 < 8192; omega⟩ k else 0 := by
  have hk : kT t = 0 := h0
  rw [winA_apply]
  by_cases h : 8 ≤ r.val
  · rw [dif_pos h, dif_pos (by omega), blk1]
    exact congrArg (fun q => (argsK m c).x (bT t) q k) (Fin.ext (by show 128 * (t.val % 64) + (r.val - 8) = 128 * kT t + r.val - 8; rw [hk]; omega))
  · rw [dif_neg h, dif_neg (by omega)]

theorem winB_rows (t : Fin cfg0.N) (h0 : ¬t.val % 64 = 0) (xs0 : Vec Ideal S136x1024 .f32)
    (hs : ∀ (r : Fin 8) (k : Fin 1024), (xs0 (ix2 ⟨r.val, by omega⟩ k) : EReal) = (argsK m c).x (bT t) (pos (kT t - 1) ⟨120 + r.val, by omega⟩) k)
    (r : Fin 136) (k : Fin 1024) :
    (winB xs0 (iblk m c 1 t) (ix2 r k) : EReal) = if h : 8 ≤ 128 * kT t + r.val then (argsK m c).x (bT t) ⟨128 * kT t + r.val - 8, by have := Nat.mod_lt t.val (show 0 < 64 by decide); show 128 * (t.val % 64) + r.val - 8 < 8192; omega⟩ k else 0 := by
  have hk : kT t < 64 := Nat.mod_lt _ (by decide)
  have hk0 : kT t ≠ 0 := h0
  by_cases h : 8 ≤ r.val
  · rw [winB_hi _ _ _ _ h, dif_pos (by omega), blk1]
    exact congrArg (fun q => (argsK m c).x (bT t) q k) (Fin.ext (by show 128 * kT t + (r.val - 8) = 128 * kT t + r.val - 8; omega))
  · rw [winB_lo _ _ _ _ (by omega), dif_pos (by omega)]
    refine (hs ⟨r.val, by omega⟩ k).trans ?_
    exact congrArg (fun q => (argsK m c).x (bT t) q k) (Fin.ext (by show 128 * ((kT t - 1) % 64) + (120 + r.val) = 128 * kT t + r.val - 8; omega))

/-- What a point that does not end a sequence leaves for the next. -/
def Leaves (t : Fin cfg0.N) (S : St) : Prop :=
  (∀ (r : Fin 8) (k : Fin 1024), (S.2.2.2.1 (ix2 ⟨r.val, by omega⟩ k) : EReal) = (argsK m c).x (bT t) (pos (kT t) ⟨120 + r.val, by omega⟩) k)
    ∧ ∀ j n, stateOf S.2.2.2.2 j n = HS (argsK m c) (bT t) (kT t + 1) j n

/-- What a point that does not begin a sequence finds. -/
def Finds (t : Fin cfg0.N) (S : St) : Prop :=
  (∀ (r : Fin 8) (k : Fin 1024), (S.2.2.2.1 (ix2 ⟨r.val, by omega⟩ k) : EReal) = (argsK m c).x (bT t) (pos (kT t - 1) ⟨120 + r.val, by omega⟩) k)
    ∧ ∀ j n, stateOf S.2.2.2.2 j n = HS (argsK m c) (bT t) (kT t) j n

/-- The rows a point writes. -/
def Rows (t : Fin cfg0.N) (S : St) : Prop := ∀ l j, (S.1 (ix2 l j) : EReal) = YG (argsK m c) (bT t) (kT t) l j

include hx in
theorem point_A (t : Fin cfg0.N) (acc : St) (h0 : t.val % 64 = 0) (h1 : ¬t.val % 64 = 63) :
    Leaves m c t (stAt0 m c t.val t.isLt acc) ∧ Rows m c t (stAt0 m c t.val t.isLt acc) := by
  have hcv := cvK_CV m c t (winA (iblk m c 1 t)) (winA_rows m c t h0)
  have hh : ∀ j n, stateOf (k0_pay6 (F := Ideal)) j n = HS (argsK m c) (bT t) (kT t) j n := fun j n => by
    rw [zero_state, show kT t = 0 from h0]; rfl
  rw [stAt0_A m c t acc h0 h1]
  refine ⟨⟨fun r k => ?_, fun j n => ?_⟩, fun l j => ?_⟩
  · dsimp only
    rw [open_sout0_A_0, tailA_apply, blk1, rT_eq]
    rfl
  · dsimp only
    rw [open_sout0_A_1]
    exact canon_state _ _ (HS (argsK m c) (bT t) (kT t + 1)) (st0_HS m c hx t _ _ hcv hh) (st1_HS m c hx t _ _ hcv hh) _ j n
  · dsimp only
    rw [open_out0_A_9]
    exact out_YG m c hx t _ _ hcv hh l j

include hx in
theorem point_B (t : Fin cfg0.N) (acc : St) (h0 : ¬t.val % 64 = 0) (h1 : ¬t.val % 64 = 63) (ha : Finds m c t acc) :
    Leaves m c t (stAt0 m c t.val t.isLt acc) ∧ Rows m c t (stAt0 m c t.val t.isLt acc) := by
  have hcv := cvK_CV m c t (winB acc.2.2.2.1 (iblk m c 1 t)) (winB_rows m c t h0 _ ha.1)
  have hh := ha.2
  rw [stAt0_B m c t acc h0 h1]
  refine ⟨⟨fun r k => ?_, fun j n => ?_⟩, fun l j => ?_⟩
  · dsimp only
    rw [open_sout0_B_0, tailB_apply, blk1, rT_eq]
    rfl
  · dsimp only
    rw [open_sout0_B_1]
    exact canon_state _ _ (HS (argsK m c) (bT t) (kT t + 1)) (st0_HS m c hx t _ _ hcv hh) (st1_HS m c hx t _ _ hcv hh) _ j n
  · dsimp only
    rw [open_out0_B_9]
    exact out_YG m c hx t _ _ hcv hh l j

/-- What a sequence's last point writes of the state and of the rows. -/
def Ends (t : Fin cfg0.N) (S : St) : Prop :=
  (∀ j n, (S.2.1 (ix3 0 j n) : EReal) = HS (argsK m c) (bT t) (kT t + 1) j n)
    ∧ ∀ (r : Fin 3) (k : Fin 1024), (S.2.2.1 (ix3 0 r k) : EReal) = (argsK m c).x (bT t) (pos (kT t) ⟨125 + r.val, by omega⟩) k

include hx in
theorem point_C (t : Fin cfg0.N) (acc : St) (h0 : ¬t.val % 64 = 0) (h1 : t.val % 64 = 63) (ha : Finds m c t acc) :
    Ends m c t (stAt0 m c t.val t.isLt acc) ∧ Rows m c t (stAt0 m c t.val t.isLt acc) := by
  have hcv := cvK_CV m c t (winB acc.2.2.2.1 (iblk m c 1 t)) (winB_rows m c t h0 _ ha.1)
  have hh := ha.2
  rw [stAt0_C m c t acc h0 h1]
  refine ⟨⟨fun j n => ?_, fun r k => ?_⟩, fun l j => ?_⟩
  · dsimp only
    rw [open_out0_C_10]
    exact canon_hout _ _ (HS (argsK m c) (bT t) (kT t + 1)) (st0_HS m c hx t _ _ hcv hh) (st1_HS m c hx t _ _ hcv hh) j n
  · dsimp only
    rw [open_out0_C_11, pay4_apply, lastRows_apply, blk1, rT_eq]
    exact congrArg (fun q => (argsK m c).x (bT t) (pos (kT t) q) k) (Fin.ext (by show 120 + (5 + r.val) = 125 + r.val; omega))
  · dsimp only
    rw [open_out0_C_9]
    exact out_YG m c hx t _ _ hcv hh l j

/-- Everything said of a point. -/
def Good (t : Fin cfg0.N) (S : St) : Prop :=
  Rows m c t S ∧ (¬t.val % 64 = 63 → Leaves m c t S) ∧ (t.val % 64 = 63 → Ends m c t S)

include hx in
theorem good (t : Fin cfg0.N) (acc : St) (ha : ¬t.val % 64 = 0 → Finds m c t acc) : Good m c t (stAt0 m c t.val t.isLt acc) := by
  by_cases h0 : t.val % 64 = 0
  · have h1 : ¬t.val % 64 = 63 := by omega
    have := point_A m c hx t acc h0 h1
    exact ⟨this.2, fun _ => this.1, fun h => absurd h h1⟩
  · by_cases h1 : t.val % 64 = 63
    · have := point_C m c hx t acc h0 h1 (ha h0)
      exact ⟨this.2, fun h => absurd h1 h, fun _ => this.1⟩
    · have := point_B m c hx t acc h0 h1 (ha h0)
      exact ⟨this.2, fun _ => this.1, fun h => absurd h h1⟩

theorem finds_of_leaves (n : ℕ) (hn : n + 1 < cfg0.N) (S : St) (h0 : ¬(n + 1) % 64 = 0) (hl : Leaves m c ⟨n, Nat.lt_of_succ_lt hn⟩ S) :
    Finds m c ⟨n + 1, hn⟩ S := by
  have hb : bT ⟨n + 1, hn⟩ = bT ⟨n, Nat.lt_of_succ_lt hn⟩ := Fin.ext (by show (n + 1) / 64 = n / 64; omega)
  have hk : kT ⟨n + 1, hn⟩ = kT ⟨n, Nat.lt_of_succ_lt hn⟩ + 1 := by show (n + 1) % 64 = n % 64 + 1; omega
  unfold Finds
  rw [hb, hk]
  exact hl

include hx in
/-- Every point of the grid. -/
theorem all_good : ∀ (n : ℕ) (hn : n < cfg0.N), Good m c ⟨n, hn⟩ (outsAt0 m c n hn)
  | 0, hn => by
    rw [outsAt0_zero]
    exact good m c hx ⟨0, hn⟩ _ (fun h => absurd rfl h)
  | n + 1, hn => by
    rw [outsAt0_succ]
    refine good m c hx ⟨n + 1, hn⟩ _ fun h0 => ?_
    have h0' : ¬(n + 1) % 64 = 0 := h0
    exact finds_of_leaves m c n hn _ h0' ((all_good n (Nat.lt_of_succ_lt hn)).2.1 (by show ¬n % 64 = 63; omega))

include hx in
/-- The rows' array at the end. -/
theorem G9_eq (r : Fin 16384) (j : Fin 512) : (G9 m c (ix2 r j) : EReal) = YG (argsK m c) ⟨r.val / 8192, by omega⟩ (r.val % 8192 / 128) ⟨r.val % 128, Nat.mod_lt _ (by decide)⟩ j := by
  have hp : pt9Of (ix2 r j) = r.val / 128 := by
    show 1 * (r.val / 128 - 0) + 1 * (j.val / 512 - 0) = _
    have := j.isLt
    omega
  have hn : r.val / 128 < cfg0.N := by rw [show cfg0.N = 128 from N_0]; omega
  unfold G9
  rw [dif_pos (by rw [hp]; exact hn), fold0_congr m c _ _ _ (by rw [Nat.zero_add]; exact hn) hp, ← outsAt0_sweep m c _ hn]
  have hl : loc9Of (ix2 r j) = ix2 ⟨r.val % 128, Nat.mod_lt _ (by decide)⟩ j := by
    funext a; apply Fin.ext
    match a with
    | ⟨0, _⟩ => rfl
    | ⟨1, _⟩ => exact Nat.mod_eq_of_lt j.isLt
  rw [hl, (all_good m c hx _ hn).1]
  congr 1
  · exact Fin.ext (by show r.val / 128 / 64 = r.val / 8192; omega)
  · show r.val / 128 % 64 = r.val % 8192 / 128; omega

include hx in
/-- The states' array at the end. -/
theorem G10_eq (b : Fin 2) (j : Fin 512) (n : Fin 128) : (G10 m c (ix3 b j n) : EReal) = HS (argsK m c) b 64 j n := by
  have hp : pt10Of (ix3 b j n) = 64 * b.val + 63 := by
    show 64 * (1 * (b.val / 1 - 0) + 1 * (j.val / 512 - 0) + 1 * (n.val / 128 - 0)) + 63 = _
    have := j.isLt; have := n.isLt
    omega
  have hn : 64 * b.val + 63 < cfg0.N := by rw [show cfg0.N = 128 from N_0]; omega
  unfold G10
  rw [dif_pos (by rw [hp]; exact hn), fold0_congr m c _ _ _ (by rw [Nat.zero_add]; exact hn) hp, ← outsAt0_sweep m c _ hn]
  have hl : loc10Of (ix3 b j n) = ix3 0 j n := by
    funext a; apply Fin.ext
    match a with
    | ⟨0, _⟩ => exact Nat.mod_one _
    | ⟨1, _⟩ => exact Nat.mod_eq_of_lt j.isLt
    | ⟨2, _⟩ => exact Nat.mod_eq_of_lt n.isLt
  have hk : kT ⟨64 * b.val + 63, hn⟩ = 63 := by show (64 * b.val + 63) % 64 = 63; omega
  have hb : bT ⟨64 * b.val + 63, hn⟩ = b := Fin.ext (by show (64 * b.val + 63) / 64 = b.val; omega)
  have := ((all_good m c hx _ hn).2.2 hk).1 j n
  rw [hl, this, hk, hb]

include hx in
/-- The last rows' array at the end. -/
theorem G11_eq (b : Fin 2) (r : Fin 3) (k : Fin 1024) : (G11 m c (ix3 b r k) : EReal) = (argsK m c).x b ⟨8189 + r.val, by omega⟩ k := by
  have hp : pt11Of (ix3 b r k) = 64 * b.val + 63 := by
    show 64 * (1 * (b.val / 1 - 0) + 1 * (r.val / 3 - 0) + 1 * (k.val / 1024 - 0)) + 63 = _
    have := r.isLt; have := k.isLt
    omega
  have hn : 64 * b.val + 63 < cfg0.N := by rw [show cfg0.N = 128 from N_0]; omega
  unfold G11
  rw [dif_pos (by rw [hp]; exact hn), fold0_congr m c _ _ _ (by rw [Nat.zero_add]; exact hn) hp, ← outsAt0_sweep m c _ hn]
  have hl : loc11Of (ix3 b r k) = ix3 0 r k := by
    funext a; apply Fin.ext
    match a with
    | ⟨0, _⟩ => exact Nat.mod_one _
    | ⟨1, _⟩ => exact Nat.mod_eq_of_lt r.isLt
    | ⟨2, _⟩ => exact Nat.mod_eq_of_lt k.isLt
  have hk : kT ⟨64 * b.val + 63, hn⟩ = 63 := by show (64 * b.val + 63) % 64 = 63; omega
  have hb : bT ⟨64 * b.val + 63, hn⟩ = b := Fin.ext (by show (64 * b.val + 63) / 64 = b.val; omega)
  have := ((all_good m c hx _ hn).2.2 hk).2 r k
  rw [hl, this, hb]
  exact congrArg (fun q => (argsK m c).x b q k) (Fin.ext (by show 128 * (kT ⟨64 * b.val + 63, hn⟩ % 64) + (125 + r.val) = 8189 + r.val; rw [hk]; omega))

end Cert.Ssd

end
-- ==== Proof.SsdRef.lean ====
/-
  The reference's operations in stages, and what each stage holds at an index.
-/
module

public import proofs.«01_k».proof.Proof.SsdGlob
public import proofs.«01_k».proof.Proof.Gen.ReferenceIdeal.Step
public import Idealize.ShloMosaic.Lib.Pointwise
public import Idealize.ShloMosaic.Lib.IdealHost

@[expose] public section

set_option maxRecDepth 16384

noncomputable section

namespace Cert.Ssd

open Idealize.ShloMosaic Cert.ReferenceIdeal Cert.ReferenceIdeal.Gen

/-- The convolution. -/
def convR (arg1 : FVec Ideal S2x8192x1024 .f32) (arg3 : FVec Ideal S4x1024 .f32) (arg4 : FVec Ideal S1024 .f32) : FVec Ideal S2x8192x1024 .f32 :=
  (addf (addf (addf (addf (broadcastInDim S2x8192x1024 ![0, 1, 2] bcast_S1x1x1024_S2x8192x1024_0_1_2 (broadcastInDim S1x1x1024 ![2] bcast_S1024_S1x1x1024_2 arg4)) (mulf (extractStridedSlice S2x8192x1024 ![0, 0, 0] (concatenate S2x8195x1024 1 [⟨S2x3x1024, (broadcastInDim S2x3x1024 ![] bcast_S_S2x3x1024 (constant S_ .f32 0x00000000#32))⟩, ⟨S2x8192x1024, arg1⟩] concatenates_S2x3x1024_S2x8192x1024_S2x8195x1024_d1) slices_S2x8195x1024_S2x8192x1024_0_0_0) (broadcastInDim S2x8192x1024 ![0, 1, 2] bcast_S1x1x1024_S2x8192x1024_0_1_2 (broadcastInDim S1x1x1024 ![2] bcast_S1024_S1x1x1024_2 (shapeCast _ (extractStridedSlice S1x1024 ![0, 0] arg3 slices_S4x1024_S1x1024_0_0) shapeCasts_S1x1024_S1024))))) (mulf (extractStridedSlice S2x8192x1024 ![0, 1, 0] (concatenate S2x8195x1024 1 [⟨S2x3x1024, (broadcastInDim S2x3x1024 ![] bcast_S_S2x3x1024 (constant S_ .f32 0x00000000#32))⟩, ⟨S2x8192x1024, arg1⟩] concatenates_S2x3x1024_S2x8192x1024_S2x8195x1024_d1) slices_S2x8195x1024_S2x8192x1024_0_1_0) (broadcastInDim S2x8192x1024 ![0, 1, 2] bcast_S1x1x1024_S2x8192x1024_0_1_2 (broadcastInDim S1x1x1024 ![2] bcast_S1024_S1x1x1024_2 (shapeCast _ (extractStridedSlice S1x1024 ![1, 0] arg3 slices_S4x1024_S1x1024_1_0) shapeCasts_S1x1024_S1024))))) (mulf (extractStridedSlice S2x8192x1024 ![0, 2, 0] (concatenate S2x8195x1024 1 [⟨S2x3x1024, (broadcastInDim S2x3x1024 ![] bcast_S_S2x3x1024 (constant S_ .f32 0x00000000#32))⟩, ⟨S2x8192x1024, arg1⟩] concatenates_S2x3x1024_S2x8192x1024_S2x8195x1024_d1) slices_S2x8195x1024_S2x8192x1024_0_2_0) (broadcastInDim S2x8192x1024 ![0, 1, 2] bcast_S1x1x1024_S2x8192x1024_0_1_2 (broadcastInDim S1x1x1024 ![2] bcast_S1024_S1x1x1024_2 (shapeCast _ (extractStridedSlice S1x1024 ![2, 0] arg3 slices_S4x1024_S1x1024_2_0) shapeCasts_S1x1024_S1024))))) (mulf (extractStridedSlice S2x8192x1024 ![0, 3, 0] (concatenate S2x8195x1024 1 [⟨S2x3x1024, (broadcastInDim S2x3x1024 ![] bcast_S_S2x3x1024 (constant S_ .f32 0x00000000#32))⟩, ⟨S2x8192x1024, arg1⟩] concatenates_S2x3x1024_S2x8192x1024_S2x8195x1024_d1) slices_S2x8195x1024_S2x8192x1024_0_3_0) (broadcastInDim S2x8192x1024 ![0, 1, 2] bcast_S1x1x1024_S2x8192x1024_0_1_2 (broadcastInDim S1x1x1024 ![2] bcast_S1024_S1x1x1024_2 (shapeCast _ (extractStridedSlice S1x1024 ![3, 0] arg3 slices_S4x1024_S1x1024_3_0) shapeCasts_S1x1024_S1024)))))
/-- The activations. -/
def actR (cv : FVec Ideal S2x8192x1024 .f32) : FVec Ideal S2x8192x1024 .f32 :=
  (mulf cv (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf cv)))))
/-- The step sizes. -/
def dtR (arg2 : FVec Ideal S2x8192x8 .f32) (arg5 : FVec Ideal S8 .f32) : FVec Ideal S2x8192x8 .f32 :=
  (select (cmpf .une (subf (addf arg2 (broadcastInDim S2x8192x8 ![0, 1, 2] bcast_S1x1x8_S2x8192x8_0_1_2 (broadcastInDim S1x1x8 ![2] bcast_S8_S1x1x8_2 arg5))) (broadcastInDim S2x8192x8 ![] bcast_S_S2x8192x8 (constant S_ .f32 0x00000000#32))) (subf (addf arg2 (broadcastInDim S2x8192x8 ![0, 1, 2] bcast_S1x1x8_S2x8192x8_0_1_2 (broadcastInDim S1x1x8 ![2] bcast_S8_S1x1x8_2 arg5))) (broadcastInDim S2x8192x8 ![] bcast_S_S2x8192x8 (constant S_ .f32 0x00000000#32)))) (addf (addf arg2 (broadcastInDim S2x8192x8 ![0, 1, 2] bcast_S1x1x8_S2x8192x8_0_1_2 (broadcastInDim S1x1x8 ![2] bcast_S8_S1x1x8_2 arg5))) (broadcastInDim S2x8192x8 ![] bcast_S_S2x8192x8 (constant S_ .f32 0x00000000#32))) (addf (maximumf (addf arg2 (broadcastInDim S2x8192x8 ![0, 1, 2] bcast_S1x1x8_S2x8192x8_0_1_2 (broadcastInDim S1x1x8 ![2] bcast_S8_S1x1x8_2 arg5))) (broadcastInDim S2x8192x8 ![] bcast_S_S2x8192x8 (constant S_ .f32 0x00000000#32))) (Host.log1p (Host.exp (Host.negf (Host.absf (subf (addf arg2 (broadcastInDim S2x8192x8 ![0, 1, 2] bcast_S1x1x8_S2x8192x8_0_1_2 (broadcastInDim S1x1x8 ![2] bcast_S8_S1x1x8_2 arg5))) (broadcastInDim S2x8192x8 ![] bcast_S_S2x8192x8 (constant S_ .f32 0x00000000#32)))))))))
/-- The rates. -/
def daR (dt : FVec Ideal S2x8192x8 .f32) (arg6 : FVec Ideal S8 .f32) : FVec Ideal S2x8192x8 .f32 :=
  (mulf dt (broadcastInDim S2x8192x8 ![0, 1, 2] bcast_S1x1x8_S2x8192x8_0_1_2 (broadcastInDim S1x1x8 ![2] bcast_S8_S1x1x8_2 (Host.negf (Host.exp arg6)))))
/-- The running sums of the rates in each chunk. -/
def csR (da : FVec Ideal S2x8192x8 .f32) : FVec Ideal S2x64x128x8 .f32 :=
  (Host.reduceWindowAdd ![1, 1, 128, 1] ![1, 1, 1, 1] ![0, 0, 127, 0] ![0, 0, 0, 0] (shapeCast _ da shapeCasts_S2x8192x8_S2x64x128x8) (broadcastInDim S_ ![] bcast_S_S_ (constant S_ .f32 0x00000000#32)) reduceWindows_S2x64x128x8_S2x64x128x8_w1s1p0_0_w1s1p0_0_w128s1p127_0_w1s1p0_0 h_S_)
/-- The channels of x by head. -/
def xsR (ac : FVec Ideal S2x8192x1024 .f32) : FVec Ideal S2x8192x8x64 .f32 :=
  (shapeCast _ (extractStridedSlice S2x8192x512 ![0, 0, 0] ac slices_S2x8192x1024_S2x8192x512_0_0_0) shapeCasts_S2x8192x512_S2x8192x8x64)
/-- The scaled channels of x in chunks. -/
def XR (xs : FVec Ideal S2x8192x8x64 .f32) (dt : FVec Ideal S2x8192x8 .f32) : FVec Ideal S2x64x128x8x64 .f32 :=
  (shapeCast _ (mulf xs (broadcastInDim S2x8192x8x64 ![0, 1, 2, 3] bcast_S2x8192x8x1_S2x8192x8x64_0_1_2_3 (broadcastInDim S2x8192x8x1 ![0, 1, 2] bcast_S2x8192x8_S2x8192x8x1_0_1_2 dt))) shapeCasts_S2x8192x8x64_S2x64x128x8x64)
/-- The channels of B per head in chunks. -/
def BR (ac : FVec Ideal S2x8192x1024 .f32) : FVec Ideal S2x64x128x8x128 .f32 :=
  (shapeCast _ (shapeCast _ (broadcastInDim S2x8192x2x4x128 ![0, 1, 2, 4] bcast_S2x8192x2x128_S2x8192x2x4x128_0_1_2_4 (shapeCast _ (extractStridedSlice S2x8192x256 ![0, 0, 512] ac slices_S2x8192x1024_S2x8192x256_0_0_512) shapeCasts_S2x8192x256_S2x8192x2x128)) shapeCasts_S2x8192x2x4x128_S2x8192x8x128) shapeCasts_S2x8192x8x128_S2x64x128x8x128)
/-- The channels of C per head in chunks. -/
def CR (ac : FVec Ideal S2x8192x1024 .f32) : FVec Ideal S2x64x128x8x128 .f32 :=
  (shapeCast _ (shapeCast _ (broadcastInDim S2x8192x2x4x128 ![0, 1, 2, 4] bcast_S2x8192x2x128_S2x8192x2x4x128_0_1_2_4 (shapeCast _ (extractStridedSlice S2x8192x256 ![0, 0, 768] ac slices_S2x8192x1024_S2x8192x256_0_0_768) shapeCasts_S2x8192x256_S2x8192x2x128)) shapeCasts_S2x8192x2x4x128_S2x8192x8x128) shapeCasts_S2x8192x8x128_S2x64x128x8x128)
/-- The products of C and B. -/
def scR (B : FVec Ideal S2x64x128x8x128 .f32) (C : FVec Ideal S2x64x128x8x128 .f32) : FVec Ideal S2x64x128x128x8 .f32 :=
  (transpose S2x64x128x128x8 [0, 1, 4, 3, 2] (Host.dotGeneral dot_S2x64x128x8x128_S2x64x128x8x128_S2x64x8x128x128_4_4_2_2_013_013 none B C) transposes_S2x64x8x128x128_S2x64x128x128x8_0_1_4_3_2)
/-- The decays between a chunk's rows. -/
def dcR (cu : FVec Ideal S2x64x128x8 .f32) : FVec Ideal S2x64x128x128x8 .f32 :=
  (Host.exp (select (broadcastInDim S2x64x128x128x8 ![0, 1, 2, 3, 4] bcast_S1x1x128x128x1_S2x64x128x128x8_0_1_2_3_4 (broadcastInDim S1x1x128x128x1 ![2, 3] bcast_S128x128_S1x1x128x128x1_2_3 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1))))) (subf (broadcastInDim S2x64x128x128x8 ![0, 1, 2, 3, 4] bcast_S2x64x128x1x8_S2x64x128x128x8_0_1_2_3_4 (broadcastInDim S2x64x128x1x8 ![0, 1, 2, 4] bcast_S2x64x128x8_S2x64x128x1x8_0_1_2_4 cu)) (broadcastInDim S2x64x128x128x8 ![0, 1, 2, 3, 4] bcast_S2x64x1x128x8_S2x64x128x128x8_0_1_2_3_4 (broadcastInDim S2x64x1x128x8 ![0, 1, 3, 4] bcast_S2x64x128x8_S2x64x1x128x8_0_1_3_4 cu))) (broadcastInDim S2x64x128x128x8 ![] bcast_S_S2x64x128x128x8 (id (constant S_ .f32 0xFF800000#32)))))
/-- A chunk's output from its own rows. -/
def ydR (X : FVec Ideal S2x64x128x8x64 .f32) (sc : FVec Ideal S2x64x128x128x8 .f32) (dc : FVec Ideal S2x64x128x128x8 .f32) : FVec Ideal S2x64x128x8x64 .f32 :=
  (transpose S2x64x128x8x64 [0, 1, 4, 2, 3] (Host.dotGeneral dot_S2x64x128x8x64_S2x64x128x128x8_S2x64x8x64x128_2_3_4_2_013_014 none X (mulf sc dc)) transposes_S2x64x8x64x128_S2x64x128x8x64_0_1_4_2_3)
/-- A chunk's output from the state before it. -/
def yoR (stk : FVec Ideal S64x2x8x64x128 .f32) (C : FVec Ideal S2x64x128x8x128 .f32) (cu : FVec Ideal S2x64x128x8 .f32) : FVec Ideal S2x64x128x8x64 .f32 :=
  (mulf (transpose S2x64x128x8x64 [0, 1, 4, 2, 3] (Host.dotGeneral dot_S2x64x8x64x128_S2x64x128x8x128_S2x64x8x64x128_4_4_3_2_012_013 none (transpose S2x64x8x64x128 [1, 0, 2, 3, 4] stk transposes_S64x2x8x64x128_S2x64x8x64x128_1_0_2_3_4) C) transposes_S2x64x8x64x128_S2x64x128x8x64_0_1_4_2_3) (broadcastInDim S2x64x128x8x64 ![0, 1, 2, 3, 4] bcast_S2x64x128x8x1_S2x64x128x8x64_0_1_2_3_4 (broadcastInDim S2x64x128x8x1 ![0, 1, 2, 3] bcast_S2x64x128x8_S2x64x128x8x1_0_1_2_3 (Host.exp cu))))
/-- The output before the gate. -/
def yR (yd : FVec Ideal S2x64x128x8x64 .f32) (yo : FVec Ideal S2x64x128x8x64 .f32) (xs : FVec Ideal S2x8192x8x64 .f32) (arg7 : FVec Ideal S8 .f32) : FVec Ideal S2x8192x512 .f32 :=
  (shapeCast _ (addf (shapeCast _ (addf yd yo) shapeCasts_S2x64x128x8x64_S2x8192x8x64) (mulf (broadcastInDim S2x8192x8x64 ![0, 1, 2, 3] bcast_S1x1x8x1_S2x8192x8x64_0_1_2_3 (broadcastInDim S1x1x8x1 ![2, 3] bcast_S8x1_S1x1x8x1_2_3 (broadcastInDim S8x1 ![0] bcast_S8_S8x1_0 arg7))) xs)) shapeCasts_S2x8192x8x64_S2x8192x512)
/-- The gated output. -/
def gR (y : FVec Ideal S2x8192x512 .f32) (arg0 : FVec Ideal S2x8192x512 .f32) : FVec Ideal S2x8192x512 .f32 :=
  (mulf y (mulf arg0 (Host.divf (broadcastInDim S2x8192x512 ![] bcast_S_S2x8192x512 (constant S_ .f32 0x3F800000#32)) (addf (broadcastInDim S2x8192x512 ![] bcast_S_S2x8192x512 (constant S_ .f32 0x3F800000#32)) (Host.exp (Host.negf arg0))))))
/-- The normalised output. -/
def oR (g : FVec Ideal S2x8192x512 .f32) (arg8 : FVec Ideal S512 .f32) : FVec Ideal S16384x512 .f32 :=
  (shapeCast _ (mulf (shapeCast _ (mulf (shapeCast _ g shapeCasts_S2x8192x512_S2x8192x2x256) (broadcastInDim S2x8192x2x256 ![0, 1, 2, 3] bcast_S2x8192x2x1_S2x8192x2x256_0_1_2_3 (Host.rsqrt (addf (Host.divf (broadcastInDim S2x8192x2x1 ![0, 1, 2] bcast_S2x8192x2_S2x8192x2x1_0_1_2 (Host.reduceAdd (mulf (shapeCast _ g shapeCasts_S2x8192x512_S2x8192x2x256) (shapeCast _ g shapeCasts_S2x8192x512_S2x8192x2x256)) (constant S_ .f32 0x00000000#32) reducesTo_S2x8192x2x256_S2x8192x2_d3 h_S_)) (broadcastInDim S2x8192x2x1 ![] bcast_S_S2x8192x2x1 (constant S_ .f32 0x43800000#32))) (broadcastInDim S2x8192x2x1 ![] bcast_S_S2x8192x2x1 (constant S_ .f32 0x3727C5AC#32)))))) shapeCasts_S2x8192x2x256_S2x8192x512) (broadcastInDim S2x8192x512 ![0, 1, 2] bcast_S1x1x512_S2x8192x512_0_1_2 (broadcastInDim S1x1x512 ![2] bcast_S512_S1x1x512_2 arg8))) shapeCasts_S2x8192x512_S16384x512)
/-! ## At an index -/

/-- A comparison of two small numbers as words. -/
theorem sge_small (a b : Fin 128) : Scalar.select (IntOp.cmpi .sge (BitVec.ofNat 32 a.val) (BitVec.ofNat 32 b.val)) 1#1 0#1 = if b ≤ a then 1#1 else 0#1 := by
  have h : ∀ a b : Fin 128, Scalar.select (IntOp.cmpi .sge (BitVec.ofNat 32 a.val) (BitVec.ofNat 32 b.val)) 1#1 0#1 = if b ≤ a then 1#1 else 0#1 := by
    decide +kernel
  exact h a b

/-- The row `3 - i` before a position, nothing before the first. -/
def tapR (a1 : FVec Ideal S2x8192x1024 .f32) (b : Fin 2) (p : Fin 8192) (i : ℕ) (hi : i ≤ 3) (c : Fin 1024) : EReal :=
  if h : 3 ≤ p.val + i then a1 (ix3 b ⟨p.val + i - 3, by omega⟩ c) else 0

theorem convR_apply (a1 : FVec Ideal S2x8192x1024 .f32) (a3 : FVec Ideal S4x1024 .f32) (a4 : FVec Ideal S1024 .f32) (b : Fin 2) (p : Fin 8192) (c : Fin 1024) :
    (convR a1 a3 a4 (ix3 b p c) : EReal) = a4 (ix1 c) + tapR a1 b p 0 (by decide) c * a3 (ix2 0 c)
      + tapR a1 b p 1 (by decide) c * a3 (ix2 1 c)
      + tapR a1 b p 2 (by decide) c * a3 (ix2 2 c) + a1 (ix3 b p c) * a3 (ix2 3 c) := by
  pointwise [convR]
  have k0 : (if h : p.val < 3 then (0 : EReal) else a1 (ix3 b ⟨p.val - 3, by omega⟩ c)) = if h : 3 ≤ p.val + 0 then a1 (ix3 b ⟨p.val + 0 - 3, by omega⟩ c) else 0 := by
    by_cases h : p.val < 3
    · rw [dif_pos h, dif_neg (by omega)]
    · rw [dif_neg h, dif_pos (by omega)]; rfl
  have k1 : (if h : 1 + p.val < 3 then (0 : EReal) else a1 (ix3 b ⟨1 + p.val - 3, by omega⟩ c)) = if h : 3 ≤ p.val + 1 then a1 (ix3 b ⟨p.val + 1 - 3, by omega⟩ c) else 0 := by
    by_cases h : 1 + p.val < 3
    · rw [dif_pos h, dif_neg (by omega)]
    · rw [dif_neg h, dif_pos (by omega)]
      exact congrArg (fun q => a1 (ix3 b q c)) (Fin.ext (by show 1 + p.val - 3 = p.val + 1 - 3; omega))
  have k2 : (if h : 2 + p.val < 3 then (0 : EReal) else a1 (ix3 b ⟨2 + p.val - 3, by omega⟩ c)) = if h : 3 ≤ p.val + 2 then a1 (ix3 b ⟨p.val + 2 - 3, by omega⟩ c) else 0 := by
    by_cases h : 2 + p.val < 3
    · rw [dif_pos h, dif_neg (by omega)]
    · rw [dif_neg h, dif_pos (by omega)]
      exact congrArg (fun q => a1 (ix3 b q c)) (Fin.ext (by show 2 + p.val - 3 = p.val + 2 - 3; omega))
  rw [k0, k1, k2]
  rfl

theorem actR_apply (cv : FVec Ideal S2x8192x1024 .f32) (b : Fin 2) (p : Fin 8192) (c : Fin 1024) :
    (actR cv (ix3 b p c) : EReal) = silu (cv (ix3 b p c)) := by
  pointwise [actR]
  unfold silu
  rw [Ideal.mul_one_div]
  exact one_add_exp_ne_zero _

theorem dtR_apply (a2 : FVec Ideal S2x8192x8 .f32) (a5 : FVec Ideal S8 .f32) (b : Fin 2) (p : Fin 8192) (h : Fin 8) :
    (dtR a2 a5 (ix3 b p h) : EReal) = softplus (a2 (ix3 b p h) + a5 (ix1 h)) := by
  pointwise [dtR]
  rw [if_neg (fun h => h rfl)]
  rfl

theorem daR_apply (dt : FVec Ideal S2x8192x8 .f32) (a6 : FVec Ideal S8 .f32) (b : Fin 2) (p : Fin 8192) (h : Fin 8) :
    (daR dt a6 (ix3 b p h) : EReal) = dt (ix3 b p h) * -(Ideal.exp (a6 (ix1 h))) := by
  pointwise [daR]

theorem xsR_apply (ac : FVec Ideal S2x8192x1024 .f32) (b : Fin 2) (p : Fin 8192) (h : Fin 8) (q : Fin 64) :
    (xsR ac (ix4 b p h q) : EReal) = ac (ix3 b p ⟨64 * h.val + q.val, by omega⟩) := by
  pointwise [xsR]
  exact congrArg (fun c => ac (ix3 b p c)) (Fin.ext (by show h.val * 64 + q.val = 64 * h.val + q.val; omega))

theorem XR_apply (xs : FVec Ideal S2x8192x8x64 .f32) (dt : FVec Ideal S2x8192x8 .f32) (b : Fin 2) (k : Fin 64) (l : Fin 128) (h : Fin 8) (q : Fin 64) :
    (XR xs dt (ix5 b k l h q) : EReal) = xs (ix4 b (pos k l) h q) * dt (ix3 b (pos k l) h) := by
  pointwise [XR]
  have hp : (⟨k.val * 128 + l.val, by omega⟩ : Fin 8192) = pos k l := Fin.ext (by show k.val * 128 + l.val = 128 * (k.val % 64) + l.val; omega)
  rw [hp]

theorem BR_apply (ac : FVec Ideal S2x8192x1024 .f32) (b : Fin 2) (k : Fin 64) (l : Fin 128) (h : Fin 8) (n : Fin 128) :
    (BR ac (ix5 b k l h n) : EReal) = ac (ix3 b (pos k l) (chB ⟨h.val / 4, by omega⟩ n)) := by
  pointwise [BR]
  have hp : (⟨k.val * 128 + l.val, by omega⟩ : Fin 8192) = pos k l := Fin.ext (by show k.val * 128 + l.val = 128 * (k.val % 64) + l.val; omega)
  rw [hp]
  exact congrArg (fun c => ac (ix3 b (pos k l) c)) (Fin.ext (by show 512 + (h.val / 4 * 128 + n.val) = 512 + 128 * (h.val / 4) + n.val; omega))

theorem CR_apply (ac : FVec Ideal S2x8192x1024 .f32) (b : Fin 2) (k : Fin 64) (l : Fin 128) (h : Fin 8) (n : Fin 128) :
    (CR ac (ix5 b k l h n) : EReal) = ac (ix3 b (pos k l) (chC ⟨h.val / 4, by omega⟩ n)) := by
  pointwise [CR]
  have hp : (⟨k.val * 128 + l.val, by omega⟩ : Fin 8192) = pos k l := Fin.ext (by show k.val * 128 + l.val = 128 * (k.val % 64) + l.val; omega)
  rw [hp]
  exact congrArg (fun c => ac (ix3 b (pos k l) c)) (Fin.ext (by show 768 + (h.val / 4 * 128 + n.val) = 768 + 128 * (h.val / 4) + n.val; omega))

theorem scR_apply (B C : FVec Ideal S2x64x128x8x128 .f32) (b : Fin 2) (k : Fin 64) (l s : Fin 128) (h : Fin 8) :
    (scR B C (ix5 b k l s h) : EReal) = ∑ n : Fin 128, C (ix5 b k l h n) * B (ix5 b k s h n) := by
  pointwise [scR]
  exact Finset.sum_congr rfl fun n _ => mul_comm _ _

theorem dcR_apply (cu : FVec Ideal S2x64x128x8 .f32) (b : Fin 2) (k : Fin 64) (l s : Fin 128) (h : Fin 8) :
    (dcR cu (ix5 b k l s h) : EReal) = Ideal.exp (if s ≤ l then cu (ix4 b k l h) - cu (ix4 b k s h) else ⊥) := by
  pointwise [dcR]
  rw [show IntOp.addi (BitVec.ofNat 32 l.val) 0#32 = BitVec.ofNat 32 l.val from BitVec.add_zero _, sge_small, show (id (constant (F := Ideal) S_ .f32 0xFF800000#32) ix0 : EReal) = ⊥ from by simp [constant, Ideal.ofBits, Ideal.ieee]]
  by_cases h : s ≤ l
  · rw [if_pos h, if_pos (by exact h)]; rfl
  · rw [if_neg h, if_neg (by exact h)]; rfl

theorem ydR_apply (X : FVec Ideal S2x64x128x8x64 .f32) (sc dc : FVec Ideal S2x64x128x128x8 .f32) (b : Fin 2) (k : Fin 64) (l : Fin 128) (h : Fin 8) (q : Fin 64) :
    (ydR X sc dc (ix5 b k l h q) : EReal) = ∑ s : Fin 128, X (ix5 b k s h q) * (sc (ix5 b k l s h) * dc (ix5 b k l s h)) := by
  pointwise [ydR]

theorem yoR_apply (stk : FVec Ideal S64x2x8x64x128 .f32) (C : FVec Ideal S2x64x128x8x128 .f32) (cu : FVec Ideal S2x64x128x8 .f32) (b : Fin 2) (k : Fin 64) (l : Fin 128) (h : Fin 8) (q : Fin 64) :
    (yoR stk C cu (ix5 b k l h q) : EReal) = (∑ n : Fin 128, stk (ix5 k b h q n) * C (ix5 b k l h n)) * Ideal.exp (cu (ix4 b k l h)) := by
  pointwise [yoR]

theorem yR_apply (yd yo : FVec Ideal S2x64x128x8x64 .f32) (xs : FVec Ideal S2x8192x8x64 .f32) (a7 : FVec Ideal S8 .f32) (b : Fin 2) (k : Fin 64) (l : Fin 128) (j : Fin 512) :
    (yR yd yo xs a7 (ix3 b (pos k l) j) : EReal) = yd (ix5 b k l (hd j) ⟨j.val % 64, Nat.mod_lt _ (by decide)⟩) + yo (ix5 b k l (hd j) ⟨j.val % 64, Nat.mod_lt _ (by decide)⟩)
      + a7 (ix1 (hd j)) * xs (ix4 b (pos k l) (hd j) ⟨j.val % 64, Nat.mod_lt _ (by decide)⟩) := by
  pointwise [yR]
  have hk : (⟨(pos k l).val / 128, by omega⟩ : Fin 64) = k := Fin.ext (by show (128 * (k.val % 64) + l.val) / 128 = k.val; omega)
  have hl : (⟨(pos k l).val % 128, by omega⟩ : Fin 128) = l := Fin.ext (by show (128 * (k.val % 64) + l.val) % 128 = l.val; omega)
  rw [hk, hl]
  rfl

theorem gR_apply (y a0 : FVec Ideal S2x8192x512 .f32) (b : Fin 2) (p : Fin 8192) (j : Fin 512) :
    (gR y a0 (ix3 b p j) : EReal) = y (ix3 b p j) * silu (a0 (ix3 b p j)) := by
  pointwise [gR]
  congr 1
  unfold silu
  rw [Ideal.mul_one_div]
  exact one_add_exp_ne_zero _

theorem oR_apply (g : FVec Ideal S2x8192x512 .f32) (a8 : FVec Ideal S512 .f32) (r : Fin 16384) (j : Fin 512) :
    (oR g a8 (ix2 r j) : EReal) = g (ix3 ⟨r.val / 8192, by omega⟩ ⟨r.val % 8192, by omega⟩ j)
      * Ideal.rsqrt (Ideal.div (∑ x : Fin 256, g (ix3 ⟨r.val / 8192, by omega⟩ ⟨r.val % 8192, by omega⟩ (chG (gr j) x)) * g (ix3 ⟨r.val / 8192, by omega⟩ ⟨r.val % 8192, by omega⟩ (chG (gr j) x)))
          (Ideal.ofBits .f32 0x43800000#32) + Ideal.ofBits .f32 0x3727C5AC#32)
      * a8 (ix1 j) := by
  pointwise [oR]
  have hg : ∀ x : Fin 256, (⟨j.val / 256 * 256 + x.val, by omega⟩ : Fin 512) = chG (gr j) x := fun x => Fin.ext (by show j.val / 256 * 256 + x.val = 256 * (j.val / 256) + x.val; omega)
  simp only [hg]

/-! ## The running sums -/

theorem foldl_add {n : ℕ} (f : Fin n → EReal) (v : EReal) : (List.finRange n).foldl (fun r i => r + f i) v = v + ∑ i, f i := by
  rw [Fin.sum_univ_def]
  generalize List.finRange n = L
  induction L generalizing v with
  | nil => simp
  | cons a L ih => rw [List.foldl_cons, ih, List.map_cons, List.sum_cons, add_assoc]

/-- The window's indices, numbered by its one long axis. -/
def winEquiv : Fin 128 ≃ (⟨4, ![1, 1, 128, 1]⟩ : Shape).Idx where
  toFun w := ix4 0 0 w 0
  invFun i := i 2
  left_inv _ := rfl
  right_inv i := by
    funext a
    match a with
    | ⟨0, _⟩ => exact Subsingleton.elim (α := Fin 1) _ _
    | ⟨1, _⟩ => exact Subsingleton.elim (α := Fin 1) _ _
    | ⟨2, _⟩ => rfl
    | ⟨3, _⟩ => exact Subsingleton.elim (α := Fin 1) _ _

/-- The entries of a window that lie on the array are those up to its end. -/
theorem sum_win (f : Fin 128 → EReal) (l : Fin 128) :
    (∑ w : Fin 128, if h : 127 ≤ l.val + w.val then f ⟨l.val + w.val - 127, by omega⟩ else 0) = ∑ s : Fin 128, if s ≤ l then f s else 0 := by
  rw [← Finset.sum_filter]
  rw [show (∑ w : Fin 128, if h : 127 ≤ l.val + w.val then f ⟨l.val + w.val - 127, by omega⟩ else 0)
      = ∑ w ∈ Finset.univ.filter (fun w : Fin 128 => 127 ≤ l.val + w.val), f ⟨(l.val + w.val - 127) % 128, Nat.mod_lt _ (by decide)⟩ from by
    rw [Finset.sum_filter]
    refine Finset.sum_congr rfl fun w _ => ?_
    by_cases h : 127 ≤ l.val + w.val
    · rw [dif_pos h, if_pos h]
      exact congrArg f (Fin.ext (by show l.val + w.val - 127 = (l.val + w.val - 127) % 128; omega))
    · rw [dif_neg h, if_neg h]]
  refine Finset.sum_nbij' (fun w => ⟨(l.val + w.val - 127) % 128, Nat.mod_lt _ (by decide)⟩) (fun s => ⟨(s.val + 127 - l.val) % 128, Nat.mod_lt _ (by decide)⟩) ?_ ?_ ?_ ?_ ?_
  · intro w hw
    have hw := (Finset.mem_filter.mp hw).2
    refine Finset.mem_filter.mpr ⟨Finset.mem_univ _, ?_⟩
    show (l.val + w.val - 127) % 128 ≤ l.val
    omega
  · intro s hs
    have hs : s.val ≤ l.val := (Finset.mem_filter.mp hs).2
    refine Finset.mem_filter.mpr ⟨Finset.mem_univ _, ?_⟩
    show 127 ≤ l.val + (s.val + 127 - l.val) % 128
    omega
  · intro w hw
    have hw := (Finset.mem_filter.mp hw).2
    apply Fin.ext
    show ((l.val + w.val - 127) % 128 + 127 - l.val) % 128 = w.val
    omega
  · intro s hs
    have hs : s.val ≤ l.val := (Finset.mem_filter.mp hs).2
    apply Fin.ext
    show (l.val + (s.val + 127 - l.val) % 128 - 127) % 128 = s.val
    omega
  · intro w _
    rfl

theorem csR_apply (da : FVec Ideal S2x8192x8 .f32) (b : Fin 2) (k : Fin 64) (l : Fin 128) (h : Fin 8) :
    (csR da (ix4 b k l h) : EReal) = cs (fun l h => da (ix3 b (pos k l) h)) l h := by
  have hx : ∀ s : Fin 128, (shapeCast S2x64x128x8 da shapeCasts_S2x8192x8_S2x64x128x8 (ix4 b k s h) : EReal) = da (ix3 b (pos k s) h) := fun s => by
    pointwise
    exact congrArg (fun p => da (ix3 b p h)) (Fin.ext (by show k.val * 128 + s.val = 128 * (k.val % 64) + s.val; omega))
  have hi : (broadcastInDim S_ ![] bcast_S_S_ (constant (F := Ideal) S_ .f32 0x00000000#32) (Shape.Idx.first h_S_) : EReal) = 0 := by
    show Ideal.ofBits .f32 0x00000000#32 = 0
    simp
  unfold csR
  show Ideal.hostReduceWindowAdd (s := S2x64x128x8) ![1, 1, 128, 1] ![1, 1, 1, 1] ![0, 0, 127, 0] ![0, 0, 0, 0] reduceWindows_S2x64x128x8_S2x64x128x8_w1s1p0_0_w1s1p0_0_w128s1p127_0_w1s1p0_0 (shapeCast S2x64x128x8 da shapeCasts_S2x8192x8_S2x64x128x8) (broadcastInDim S_ ![] bcast_S_S_ (constant (F := Ideal) S_ .f32 0x00000000#32) (Shape.Idx.first h_S_)) (ix4 b k l h) = _
  rw [hi]
  generalize hX : shapeCast S2x64x128x8 da shapeCasts_S2x8192x8_S2x64x128x8 = X at hx
  unfold Ideal.hostReduceWindowAdd Host.reduceWindow
  dsimp only
  refine (foldl_add _ _).trans ?_
  rw [zero_add]
  unfold cs
  rw [← sum_win]
  refine (Fintype.sum_equiv (winEquiv.trans (Shape.rowMajor _)) _ _ fun w => ?_).symm
  have hw : (Shape.rowMajor (⟨4, ![1, 1, 128, 1]⟩ : Shape)).symm ((winEquiv.trans (Shape.rowMajor _)) w) = ix4 0 0 w 0 := (Shape.rowMajor _).symm_apply_apply _
  simp only [hw]
  by_cases h' : 127 ≤ l.val + w.val
  · rw [dif_pos h', dif_pos (by
      intro a
      match a with
      | ⟨0, _⟩ => exact ⟨Nat.zero_le _, by show b.val * 1 + 0 - 0 < 2; omega⟩
      | ⟨1, _⟩ => exact ⟨Nat.zero_le _, by show k.val * 1 + 0 - 0 < 64; omega⟩
      | ⟨2, _⟩ => exact ⟨by show 127 ≤ l.val * 1 + w.val; omega, by show l.val * 1 + w.val - 127 < 128; omega⟩
      | ⟨3, _⟩ => exact ⟨Nat.zero_le _, by show h.val * 1 + 0 - 0 < 8; omega⟩)]
    refine (hx ⟨l.val + w.val - 127, by omega⟩).symm.trans (congrArg X ?_)
    funext a
    apply Fin.ext
    match a with
    | ⟨0, _⟩ => show b.val = b.val * 1 + 0 - 0; omega
    | ⟨1, _⟩ => show k.val = k.val * 1 + 0 - 0; omega
    | ⟨2, _⟩ => show l.val + w.val - 127 = l.val * 1 + w.val - 127; omega
    | ⟨3, _⟩ => show h.val = h.val * 1 + 0 - 0; omega
  · rw [dif_neg h', dif_neg (fun hall => h' (by
      have := (hall 2).1
      change 127 ≤ l.val * 1 + w.val at this
      omega))]

end Cert.Ssd

end
-- ==== Proof.SsdRef2.lean ====
/-
  The loop of the reference: every trip's state, and the results after the last.
-/
module

public import proofs.«01_k».proof.Proof.SsdRef
public import Idealize.ShloMosaic.Lib.DynamicIndex

@[expose] public section

set_option maxRecDepth 16384

noncomputable section

namespace Cert.Ssd

open Idealize.ShloMosaic Cert.ReferenceIdeal Cert.ReferenceIdeal.Gen Cert.ReferenceIdeal.Step

/-- The chunks' own states. -/
def hR (cu : FVec Ideal S2x64x128x8 .f32) (X : FVec Ideal S2x64x128x8x64 .f32) (B : FVec Ideal S2x64x128x8x128 .f32) : FVec Ideal S64x2x8x64x128 .f32 :=
  transpose S64x2x8x64x128 [1, 0, 2, 3, 4] (Host.dotGeneral dot_S2x64x128x8x64_S2x64x128x8x128_S2x64x8x64x128_2_2_4_4_013_013 none (mulf (broadcastInDim S2x64x128x8x64 ![0, 1, 2, 3, 4] bcast_S2x64x128x8x1_S2x64x128x8x64_0_1_2_3_4 (broadcastInDim S2x64x128x8x1 ![0, 1, 2, 3] bcast_S2x64x128x8_S2x64x128x8x1_0_1_2_3 (Host.exp (subf (broadcastInDim S2x64x128x8 ![0, 1, 2, 3] bcast_S2x64x1x8_S2x64x128x8_0_1_2_3 (extractStridedSlice S2x64x1x8 ![0, 0, 127, 0] cu slices_S2x64x128x8_S2x64x1x8_0_0_127_0)) cu)))) X) B) transposes_S2x64x8x64x128_S64x2x8x64x128_1_0_2_3_4

/-- The chunks' decays. -/
def eR (cu : FVec Ideal S2x64x128x8 .f32) : FVec Ideal S64x2x8 .f32 :=
  transpose S64x2x8 [1, 0, 2] (Host.exp (shapeCast S2x64x8 (extractStridedSlice S2x64x1x8 ![0, 0, 127, 0] cu slices_S2x64x128x8_S2x64x1x8_0_0_127_0) shapeCasts_S2x64x1x8_S2x64x8)) transposes_S2x64x8_S64x2x8_1_0_2

theorem hR_apply (cu : FVec Ideal S2x64x128x8 .f32) (X : FVec Ideal S2x64x128x8x64 .f32) (B : FVec Ideal S2x64x128x8x128 .f32) (b : Fin 2) (k : Fin 64) (h : Fin 8) (q : Fin 64) (n : Fin 128) :
    (hR cu X B (ix5 k b h q n) : EReal) = ∑ l : Fin 128, Ideal.exp (cu (ix4 b k 127 h) - cu (ix4 b k l h)) * X (ix5 b k l h q) * B (ix5 b k l h n) := by
  pointwise [hR]

theorem eR_apply (cu : FVec Ideal S2x64x128x8 .f32) (b : Fin 2) (k : Fin 64) (h : Fin 8) :
    (eR cu (ix3 k b h) : EReal) = Ideal.exp (cu (ix4 b k 127 h)) := by
  pointwise [eR]

theorem word_toInt (j : Fin 64) : (BitVec.ofNat 32 j.val).toInt = j.val := by
  have : ∀ j : Fin 64, (BitVec.ofNat 32 j.val).toInt = j.val := by decide +kernel
  exact this j

theorem sl5 (j : Fin 64) : S64x2x8x64x128.Slices ![j.val, 0, 0, 0, 0] S1x2x8x64x128 :=
  ⟨rfl, fun a => by have := j.isLt; match a with
    | ⟨0, _⟩ => show j.val + 1 ≤ 64; omega
    | ⟨1, _⟩ => show 0 + 2 ≤ 2; omega
    | ⟨2, _⟩ => show 0 + 8 ≤ 8; omega
    | ⟨3, _⟩ => show 0 + 64 ≤ 64; omega
    | ⟨4, _⟩ => show 0 + 128 ≤ 128; omega⟩

theorem sl3 (j : Fin 64) : S64x2x8.Slices ![j.val, 0, 0] S1x2x8 :=
  ⟨rfl, fun a => by have := j.isLt; match a with
    | ⟨0, _⟩ => show j.val + 1 ≤ 64; omega
    | ⟨1, _⟩ => show 0 + 2 ≤ 2; omega
    | ⟨2, _⟩ => show 0 + 8 ≤ 8; omega⟩

theorem b4_eq (s : State Ideal) (j : Fin 64) : b4 j.val s = extractStridedSlice S1x2x8x64x128 ![j.val, 0, 0, 0, 0] s.main_v75_0 (sl5 j) :=
  Host.dynamicSlice_eq_extractStridedSlice _ _ _ _ _ (sl5 j) fun a => by
    match a with
    | ⟨0, _⟩ => exact word_toInt j
    | ⟨1, _⟩ => rfl
    | ⟨2, _⟩ => rfl
    | ⟨3, _⟩ => rfl
    | ⟨4, _⟩ => rfl

theorem b8_eq (s : State Ideal) (j : Fin 64) : b8 j.val s = extractStridedSlice S1x2x8 ![j.val, 0, 0] s.main_v75_1 (sl3 j) :=
  Host.dynamicSlice_eq_extractStridedSlice _ _ _ _ _ (sl3 j) fun a => by
    match a with
    | ⟨0, _⟩ => exact word_toInt j
    | ⟨1, _⟩ => rfl
    | ⟨2, _⟩ => rfl

theorem b19_eq (s : State Ideal) (j : Fin 64) : b19 j.val s = updateSlice s.main_v75_4 (b14 j.val s) ![j.val, 0, 0, 0, 0] (sl5 j) :=
  Host.dynamicUpdateSlice_eq_updateSlice _ _ _ _ _ (fun a => by
    have hj := j.isLt
    match a with
    | ⟨0, _⟩ =>
      show (min (max (BitVec.ofNat 32 j.val).toInt 0) ((64 - 1 : Nat) : Int)).toNat = j.val
      rw [word_toInt]
      omega
    | ⟨1, _⟩ => rfl
    | ⟨2, _⟩ => rfl
    | ⟨3, _⟩ => rfl
    | ⟨4, _⟩ => rfl) (sl5 j)

theorem b13_apply (s : State Ideal) (j : Fin 64) (b : Fin 2) (h : Fin 8) (q : Fin 64) (n : Fin 128) :
    (b13 j.val s (ix4 b h q n) : EReal) = s.main_v75_3 (ix4 b h q n) * s.main_v75_1 (ix3 j b h) + s.main_v75_0 (ix5 j b h q n) := by
  unfold b13 b12 b11 b10 b9 b5
  rw [b4_eq, b8_eq]
  pointwise

theorem b19_apply (s : State Ideal) (j k : Fin 64) (b : Fin 2) (h : Fin 8) (q : Fin 64) (n : Fin 128) :
    (b19 j.val s (ix5 k b h q n) : EReal) = if k = j then s.main_v75_3 (ix4 b h q n) else s.main_v75_4 (ix5 k b h q n) := by
  rw [b19_eq]
  unfold b14
  pointwise
  by_cases h : k = j
  · subst h
    rw [dif_pos ⟨le_refl _, by omega⟩, if_pos rfl]
  · rw [dif_neg (fun hh => h (Fin.ext (by omega))), if_neg h]

variable (a0 : FVec Ideal S2x8192x512 .f32) (a1 : FVec Ideal S2x8192x1024 .f32) (a2 : FVec Ideal S2x8192x8 .f32) (a3 : FVec Ideal S4x1024 .f32)
  (a4 : FVec Ideal S1024 .f32) (a5 a6 a7 : FVec Ideal S8 .f32) (a8 : FVec Ideal S512 .f32)

/-- The activations. -/
def acV : FVec Ideal S2x8192x1024 .f32 := actR (convR a1 a3 a4)
/-- The running sums. -/
def cuV : FVec Ideal S2x64x128x8 .f32 := csR (daR (dtR a2 a5) a6)

set_option maxHeartbeats 1000000 in
theorem v72_eq : A_main_v72 (F := Ideal) a1 a2 a3 a4 a5 a6 = hR (cuV a2 a5 a6) (XR (xsR (acV a1 a3 a4)) (dtR a2 a5)) (BR (acV a1 a3 a4)) := rfl

set_option maxHeartbeats 1000000 in
theorem v73_eq : A_main_v73 (F := Ideal) a1 a2 a3 a4 a5 a6 = eR (cuV a2 a5 a6) := rfl

set_option maxHeartbeats 1000000 in
theorem v183_eq (s : State Ideal) : R_main_v183 s a0 a1 a2 a3 a4 a5 a6 a7 a8
    = oR (gR (yR (ydR (XR (xsR (acV a1 a3 a4)) (dtR a2 a5)) (scR (BR (acV a1 a3 a4)) (CR (acV a1 a3 a4))) (dcR (cuV a2 a5 a6)))
        (yoR s.main_v75_4 (CR (acV a1 a3 a4)) (cuV a2 a5 a6)) (xsR (acV a1 a3 a4)) a7) a0) a8 := by
  unfold R_main_v183
  rfl

theorem v184_apply (s : State Ideal) (b : Fin 2) (j : Fin 512) (n : Fin 128) :
    (R_main_v184 s (ix3 b j n) : EReal) = s.main_v75_3 (ix4 b (hd j) ⟨j.val % 64, Nat.mod_lt _ (by decide)⟩ n) := by
  pointwise [R_main_v184]
  rfl

theorem v185_apply (s : State Ideal) (b : Fin 2) (r : Fin 3) (c : Fin 1024) :
    (R_main_v185 s a1 (ix3 b r c) : EReal) = a1 (ix3 b ⟨8189 + r.val, by omega⟩ c) := by
  pointwise [R_main_v185]
  rw [dif_neg (by omega)]
  exact congrArg (fun p => a1 (ix3 b p c)) (Fin.ext (by show 8192 + r.val - 3 = 8189 + r.val; omega))

end Cert.Ssd

end
-- ==== Proof.SsdRef3.lean ====
/-
  The reference's results in the scan's own terms: every trip's state is the state before its chunk, and a row's output is
  the row's output of the chunk.
-/
module

public import proofs.«01_k».proof.Proof.SsdRef2
public import proofs.«01_k».proof.Proof.SsdGlob

@[expose] public section

set_option maxRecDepth 16384

noncomputable section

namespace Cert.Ssd

open Idealize.ShloMosaic Cert.ReferenceIdeal Cert.ReferenceIdeal.Gen Cert.ReferenceIdeal.Step

variable (a0 : FVec Ideal S2x8192x512 .f32) (a1 : FVec Ideal S2x8192x1024 .f32) (a2 : FVec Ideal S2x8192x8 .f32) (a3 : FVec Ideal S4x1024 .f32)
  (a4 : FVec Ideal S1024 .f32) (a5 a6 a7 : FVec Ideal S8 .f32) (a8 : FVec Ideal S512 .f32)

/-- The arrays of the reference's call. -/
def argsV : Args where
  z b p j := a0 (ix3 b p j)
  x b p j := a1 (ix3 b p j)
  dr b p h := a2 (ix3 b p h)
  w i k := a3 (ix2 i k)
  bi k := a4 (ix1 k)
  db h := a5 (ix1 h)
  al h := a6 (ix1 h)
  D h := a7 (ix1 h)
  nw j := a8 (ix1 j)

theorem tapR_eq (b : Fin 2) (p : Fin 8192) (i : ℕ) (hi : i ≤ 3) (c : Fin 1024) :
    tapR a1 b p i hi c = tap (argsV a0 a1 a2 a3 a4 a5 a6 a7 a8) b p i hi c := by
  unfold tapR tap
  by_cases h : 3 ≤ p.val + i
  · rw [dif_pos h, if_pos h]; rfl
  · rw [dif_neg h, if_neg h]

theorem act_eq (b : Fin 2) (p : Fin 8192) (c : Fin 1024) :
    (acV a1 a3 a4 (ix3 b p c) : EReal) = silu (cvP (argsV a0 a1 a2 a3 a4 a5 a6 a7 a8) b p c) := by
  unfold acV
  rw [actR_apply, convR_apply, tapR_eq a0 a1 a2 a3 a4 a5 a6 a7 a8, tapR_eq a0 a1 a2 a3 a4 a5 a6 a7 a8, tapR_eq a0 a1 a2 a3 a4 a5 a6 a7 a8]
  rfl

theorem dt_eq (b : Fin 2) (p : Fin 8192) (h : Fin 8) :
    (dtR a2 a5 (ix3 b p h) : EReal) = dtP (argsV a0 a1 a2 a3 a4 a5 a6 a7 a8) b p h := by
  rw [dtR_apply]
  rfl

theorem cu_eq (b : Fin 2) (k : Fin 64) (l : Fin 128) (h : Fin 8) :
    (cuV a2 a5 a6 (ix4 b k l h) : EReal) = cs (DA (argsV a0 a1 a2 a3 a4 a5 a6 a7 a8) b k) l h := by
  unfold cuV
  rw [csR_apply]
  refine congrArg (fun f => cs f l h) (funext fun s => funext fun g => ?_)
  rw [daR_apply, dt_eq a0 a1 a2 a3 a4 a5 a6 a7 a8]
  rfl

/-- The place of a channel in its head. -/
abbrev jm (j : Fin 512) : Fin 64 := ⟨j.val % 64, Nat.mod_lt _ (by decide)⟩

theorem chX_eq (j : Fin 512) : (⟨64 * (hd j).val + (jm j).val, by have := (hd j).isLt; have := (jm j).isLt; omega⟩ : Fin 1024) = chX j :=
  Fin.ext (by show 64 * (j.val / 64) + j.val % 64 = j.val; omega)

theorem gr_eq (j : Fin 512) : (⟨(hd j).val / 4, by have := (hd j).isLt; omega⟩ : Fin 2) = gr j :=
  Fin.ext (by show j.val / 64 / 4 = j.val / 256; omega)

theorem X_eq (b : Fin 2) (k : Fin 64) (l : Fin 128) (j : Fin 512) :
    (XR (xsR (acV a1 a3 a4)) (dtR a2 a5) (ix5 b k l (hd j) (jm j)) : EReal)
      = silu (CV (argsV a0 a1 a2 a3 a4 a5 a6 a7 a8) b k l (chX j)) * DT (argsV a0 a1 a2 a3 a4 a5 a6 a7 a8) b k l (hd j) := by
  rw [XR_apply, xsR_apply, dt_eq a0 a1 a2 a3 a4 a5 a6 a7 a8, act_eq a0 a1 a2 a3 a4 a5 a6 a7 a8, chX_eq]
  rfl

theorem B_eq (b : Fin 2) (k : Fin 64) (l : Fin 128) (j : Fin 512) (n : Fin 128) :
    (BR (acV a1 a3 a4) (ix5 b k l (hd j) n) : EReal) = silu (CV (argsV a0 a1 a2 a3 a4 a5 a6 a7 a8) b k l (chB (gr j) n)) := by
  rw [BR_apply, act_eq a0 a1 a2 a3 a4 a5 a6 a7 a8, gr_eq]
  rfl

theorem C_eq (b : Fin 2) (k : Fin 64) (l : Fin 128) (j : Fin 512) (n : Fin 128) :
    (CR (acV a1 a3 a4) (ix5 b k l (hd j) n) : EReal) = silu (CV (argsV a0 a1 a2 a3 a4 a5 a6 a7 a8) b k l (chC (gr j) n)) := by
  rw [CR_apply, act_eq a0 a1 a2 a3 a4 a5 a6 a7 a8, gr_eq]
  rfl

/-- A chunk's own state. -/
theorem h_eq (b : Fin 2) (k : Fin 64) (j : Fin 512) (n : Fin 128) :
    (A_main_v72 (F := Ideal) a1 a2 a3 a4 a5 a6 (ix5 k b (hd j) (jm j) n) : EReal)
      = ∑ l : Fin 128, silu (CV (argsV a0 a1 a2 a3 a4 a5 a6 a7 a8) b k l (chB (gr j) n))
        * (silu (CV (argsV a0 a1 a2 a3 a4 a5 a6 a7 a8) b k l (chX j))
          * (DT (argsV a0 a1 a2 a3 a4 a5 a6 a7 a8) b k l (hd j)
            * Ideal.exp (cs (DA (argsV a0 a1 a2 a3 a4 a5 a6 a7 a8) b k) 127 (hd j) - cs (DA (argsV a0 a1 a2 a3 a4 a5 a6 a7 a8) b k) l (hd j)))) := by
  rw [v72_eq, hR_apply]
  refine Finset.sum_congr rfl fun l _ => ?_
  rw [cu_eq a0 a1 a2 a3 a4 a5 a6 a7 a8, cu_eq a0 a1 a2 a3 a4 a5 a6 a7 a8, X_eq a0 a1 a2 a3 a4 a5 a6 a7 a8, B_eq a0 a1 a2 a3 a4 a5 a6 a7 a8]
  ac_rfl

/-- A chunk's decay. -/
theorem e_eq (b : Fin 2) (k : Fin 64) (h : Fin 8) :
    (A_main_v73 (F := Ideal) a1 a2 a3 a4 a5 a6 (ix3 k b h) : EReal) = Ideal.exp (cs (DA (argsV a0 a1 a2 a3 a4 a5 a6 a7 a8) b k) 127 h) := by
  rw [v73_eq, eR_apply, cu_eq a0 a1 a2 a3 a4 a5 a6 a7 a8]

section Loop

variable (it : ℕ → State Ideal) (h0 : it 0 = init a1 a2 a3 a4 a5 a6) (hs : ∀ n, it (n + 1) = step n (it n))
include h0 hs

theorem it_const (n : ℕ) : (it n).main_v75_0 = A_main_v72 (F := Ideal) a1 a2 a3 a4 a5 a6 ∧ (it n).main_v75_1 = A_main_v73 (F := Ideal) a1 a2 a3 a4 a5 a6 := by
  induction n with
  | zero => rw [h0]; exact ⟨rfl, rfl⟩
  | succ n ih => rw [hs]; exact ih

/-- Before every trip the carried state is the state before the chunk. -/
theorem it_h (n : ℕ) (hn : n ≤ 64) (b : Fin 2) (j : Fin 512) (i : Fin 128) :
    ((it n).main_v75_3 (ix4 b (hd j) (jm j) i) : EReal) = HS (argsV a0 a1 a2 a3 a4 a5 a6 a7 a8) b n j i := by
  induction n with
  | zero =>
    rw [h0]
    show (K_main_v0 (F := Ideal) (ix4 b (hd j) (jm j) i) : EReal) = 0
    pointwise [K_main_v0, K_main_cst]
  | succ n ih =>
    have hc := it_const a1 a2 a3 a4 a5 a6 it h0 hs n
    rw [hs, step_main_v75_3, b13_apply (it n) ⟨n, by omega⟩, ih (by omega), hc.1, hc.2, e_eq a0 a1 a2 a3 a4 a5 a6 a7 a8, h_eq a0 a1 a2 a3 a4 a5 a6 a7 a8]
    rfl

/-- The trips so far have stored the states before their chunks. -/
theorem it_stk (n : ℕ) (hn : n ≤ 64) (k : Fin 64) (hk : k.val < n) (b : Fin 2) (j : Fin 512) (i : Fin 128) :
    ((it n).main_v75_4 (ix5 k b (hd j) (jm j) i) : EReal) = HS (argsV a0 a1 a2 a3 a4 a5 a6 a7 a8) b k j i := by
  induction n with
  | zero => exact absurd hk (Nat.not_lt_zero _)
  | succ n ih =>
    rw [hs, step_main_v75_4, b19_apply (it n) ⟨n, by omega⟩]
    by_cases h : k = ⟨n, by omega⟩
    · rw [if_pos h, it_h a0 a1 a2 a3 a4 a5 a6 a7 a8 it h0 hs n (by omega), h]
    · rw [if_neg h]
      exact ih (by omega) (by have : k.val ≠ n := fun e => h (Fin.ext e); omega)

/-- A row's output before the gate. -/
theorem y_eq (b : Fin 2) (k : Fin 64) (l : Fin 128) (j : Fin 512) :
    (yR (ydR (XR (xsR (acV a1 a3 a4)) (dtR a2 a5)) (scR (BR (acV a1 a3 a4)) (CR (acV a1 a3 a4))) (dcR (cuV a2 a5 a6)))
        (yoR (it 64).main_v75_4 (CR (acV a1 a3 a4)) (cuV a2 a5 a6)) (xsR (acV a1 a3 a4)) a7 (ix3 b (pos k l) j) : EReal)
      = yS (CV (argsV a0 a1 a2 a3 a4 a5 a6 a7 a8) b k) (DT (argsV a0 a1 a2 a3 a4 a5 a6 a7 a8) b k) (DA (argsV a0 a1 a2 a3 a4 a5 a6 a7 a8) b k)
          (argsV a0 a1 a2 a3 a4 a5 a6 a7 a8).D (HS (argsV a0 a1 a2 a3 a4 a5 a6 a7 a8) b k) l j := by
  rw [yR_apply, ydR_apply, yoR_apply, xsR_apply, act_eq a0 a1 a2 a3 a4 a5 a6 a7 a8, chX_eq, cu_eq a0 a1 a2 a3 a4 a5 a6 a7 a8]
  unfold yS
  refine congrArg₂ (· + ·) (congrArg₂ (· + ·) ?_ (congrArg (· * _) ?_)) rfl
  · refine Finset.sum_congr rfl fun s _ => ?_
    rw [X_eq a0 a1 a2 a3 a4 a5 a6 a7 a8, scR_apply, dcR_apply, cu_eq a0 a1 a2 a3 a4 a5 a6 a7 a8, cu_eq a0 a1 a2 a3 a4 a5 a6 a7 a8]
    simp only [C_eq a0 a1 a2 a3 a4 a5 a6 a7 a8, B_eq a0 a1 a2 a3 a4 a5 a6 a7 a8]
    exact mul_comm _ _
  · refine Finset.sum_congr rfl fun n _ => ?_
    rw [it_stk a0 a1 a2 a3 a4 a5 a6 a7 a8 it h0 hs 64 (le_refl _) k k.isLt, C_eq a0 a1 a2 a3 a4 a5 a6 a7 a8]
    exact mul_comm _ _

/-- The first result. -/
theorem ref183 (r : Fin 16384) (j : Fin 512) :
    (R_main_v183 (it 64) a0 a1 a2 a3 a4 a5 a6 a7 a8 (ix2 r j) : EReal)
      = YG (argsV a0 a1 a2 a3 a4 a5 a6 a7 a8) ⟨r.val / 8192, by omega⟩ (r.val % 8192 / 128) ⟨r.val % 128, Nat.mod_lt _ (by decide)⟩ j := by
  have hk : r.val % 8192 / 128 < 64 := by omega
  have hp : (⟨r.val % 8192, by omega⟩ : Fin 8192) = pos ((⟨r.val % 8192 / 128, hk⟩ : Fin 64) : ℕ) ⟨r.val % 128, Nat.mod_lt _ (by decide)⟩ :=
    Fin.ext (by show r.val % 8192 = 128 * (r.val % 8192 / 128 % 64) + r.val % 128; omega)
  have hy := fun j' => y_eq a0 a1 a2 a3 a4 a5 a6 a7 a8 it h0 hs ⟨r.val / 8192, by omega⟩ ⟨r.val % 8192 / 128, hk⟩ ⟨r.val % 128, Nat.mod_lt _ (by decide)⟩ j'
  rw [← hp] at hy
  rw [v183_eq, oR_apply]
  simp only [gR_apply, hy]
  unfold YG gatedS
  rw [← hp]
  rfl

/-- The second result. -/
theorem ref184 (b : Fin 2) (j : Fin 512) (n : Fin 128) :
    (R_main_v184 (it 64) (ix3 b j n) : EReal) = HS (argsV a0 a1 a2 a3 a4 a5 a6 a7 a8) b 64 j n := by
  rw [v184_apply]
  exact it_h a0 a1 a2 a3 a4 a5 a6 a7 a8 it h0 hs 64 (le_refl _) b j n

end Loop

/-- The third result. -/
theorem ref185 (s : State Ideal) (b : Fin 2) (r : Fin 3) (c : Fin 1024) :
    (R_main_v185 s a1 (ix3 b r c) : EReal) = (argsV a0 a1 a2 a3 a4 a5 a6 a7 a8).x b ⟨8189 + r.val, by omega⟩ c :=
  v185_apply a1 s b r c

end Cert.Ssd

end
-- ==== Proof.SsdRefRun.lean ====
/-
  The reference's run, stated over one trip of its chunk loop: a valuation that HOLDS a state (the carried values, the
  set-up values, the trip's number) holds `step` of it after one more trip, so the results are fields of `step` iterated.
-/
module

public import proofs.«01_k».proof.Proof.Gen.ReferenceIdeal.Run
public import proofs.«01_k».proof.Proof.Gen.ReferenceIdeal.Step

@[expose] public section

noncomputable section

namespace Cert.Ssd.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_3 : V0 (Proc.devRef .tc main_v75_3) = s.main_v75_3
  f_4 : V0 (Proc.devRef .tc main_v75_4) = s.main_v75_4
  f_0 : V0 (Proc.devRef .tc main_v75_0) = s.main_v75_0
  f_1 : V0 (Proc.devRef .tc main_v75_1) = s.main_v75_1
  n_2 : V0 (Proc.devRef .tc main_v75_2) = constantI S_ 32 (BitVec.ofNat 32 j)

variable {V0 s j}

set_option maxRecDepth 8192 in
theorem al_0 (h : Holds V0 s j) : (constantI S_ 32 0#32 : (Proc.devRef .tc main_while0b_call3_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call3_c_0 : DevRef τ sig).ty.Contents (Elt F)) = Cert.ReferenceIdeal.Step.b1 j s := by
  unfold Cert.ReferenceIdeal.Step.b1
  rfl
set_option maxRecDepth 8192 in
theorem al_2 (h : Holds V0 s j) : (constantI S_ 32 0#32 : (Proc.devRef .tc main_while0b_call3_c_1 : DevRef τ sig).ty.Contents (Elt F)) = Cert.ReferenceIdeal.Step.b2 j s := by
  unfold Cert.ReferenceIdeal.Step.b2
  rfl
set_option maxRecDepth 8192 in
theorem al_3 (h : Holds V0 s j) : (constantI S_ 32 0#32 : (Proc.devRef .tc main_while0b_call3_c_2 : DevRef τ sig).ty.Contents (Elt F)) = Cert.ReferenceIdeal.Step.b3 j s := by
  unfold Cert.ReferenceIdeal.Step.b3
  rfl
set_option maxRecDepth 8192 in
theorem al_4 (h : Holds V0 s j) : (Host.dynamicSlice S1x2x8x64x128 (V0 (Proc.devRef .tc main_v75_0)) (fun k => (((![V0 (Proc.devRef .tc main_v75_2), constantI S_ 32 0#32, constantI S_ 32 0#32, constantI S_ 32 0#32, constantI S_ 32 0#32] : Fin 5 → (⟨S_, .i32⟩ : BufTy).Contents (Elt F))) k (Shape.Idx.first h_S_)).toInt) sliceFits_S64x2x8x64x128_S1x2x8x64x128 : (Proc.devRef .tc main_while0b_call3_v0 : DevRef τ sig).ty.Contents (Elt F)) = Cert.ReferenceIdeal.Step.b4 j s := by
  unfold Cert.ReferenceIdeal.Step.b4
  rw [← al_0 h, ← al_1 h, ← al_2 h, ← al_3 h, h.f_0, h.n_2]
  try rfl
set_option maxRecDepth 8192 in
theorem al_5 (h : Holds V0 s j) : (shapeCast S2x8x64x128 (Host.dynamicSlice S1x2x8x64x128 (V0 (Proc.devRef .tc main_v75_0)) (fun k => (((![V0 (Proc.devRef .tc main_v75_2), constantI S_ 32 0#32, constantI S_ 32 0#32, constantI S_ 32 0#32, constantI S_ 32 0#32] : Fin 5 → (⟨S_, .i32⟩ : BufTy).Contents (Elt F))) k (Shape.Idx.first h_S_)).toInt) sliceFits_S64x2x8x64x128_S1x2x8x64x128) shapeCasts_S1x2x8x64x128_S2x8x64x128 : (Proc.devRef .tc main_while0b_v186 : DevRef τ sig).ty.Contents (Elt F)) = Cert.ReferenceIdeal.Step.b5 j s := by
  unfold Cert.ReferenceIdeal.Step.b5
  rw [← al_4 h]
  try rfl
set_option maxRecDepth 8192 in
theorem al_6 (h : Holds V0 s j) : (constantI S_ 32 0#32 : (Proc.devRef .tc main_while0b_call4_c : DevRef τ sig).ty.Contents (Elt F)) = Cert.ReferenceIdeal.Step.b6 j s := by
  unfold Cert.ReferenceIdeal.Step.b6
  rfl
set_option maxRecDepth 8192 in
theorem al_7 (h : Holds V0 s j) : (constantI S_ 32 0#32 : (Proc.devRef .tc main_while0b_call4_c_0 : DevRef τ sig).ty.Contents (Elt F)) = Cert.ReferenceIdeal.Step.b7 j s := by
  unfold Cert.ReferenceIdeal.Step.b7
  rfl
set_option maxRecDepth 8192 in
theorem al_8 (h : Holds V0 s j) : (Host.dynamicSlice S1x2x8 (V0 (Proc.devRef .tc main_v75_1)) (fun k => (((![V0 (Proc.devRef .tc main_v75_2), constantI S_ 32 0#32, constantI S_ 32 0#32] : Fin 3 → (⟨S_, .i32⟩ : BufTy).Contents (Elt F))) k (Shape.Idx.first h_S_)).toInt) sliceFits_S64x2x8_S1x2x8 : (Proc.devRef .tc main_while0b_call4_v0 : DevRef τ sig).ty.Contents (Elt F)) = Cert.ReferenceIdeal.Step.b8 j s := by
  unfold Cert.ReferenceIdeal.Step.b8
  rw [← al_6 h, ← al_7 h, h.f_1, h.n_2]
  try rfl
set_option maxRecDepth 8192 in
theorem al_9 (h : Holds V0 s j) : (shapeCast S2x8 (Host.dynamicSlice S1x2x8 (V0 (Proc.devRef .tc main_v75_1)) (fun k => (((![V0 (Proc.devRef .tc main_v75_2), constantI S_ 32 0#32, constantI S_ 32 0#32] : Fin 3 → (⟨S_, .i32⟩ : BufTy).Contents (Elt F))) k (Shape.Idx.first h_S_)).toInt) sliceFits_S64x2x8_S1x2x8) shapeCasts_S1x2x8_S2x8 : (Proc.devRef .tc main_while0b_v187 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (broadcastInDim S2x8x1x1 ![0, 1] bcast_S2x8_S2x8x1x1_0_1 (shapeCast S2x8 (Host.dynamicSlice S1x2x8 (V0 (Proc.devRef .tc main_v75_1)) (fun k => (((![V0 (Proc.devRef .tc main_v75_2), constantI S_ 32 0#32, constantI S_ 32 0#32] : Fin 3 → (⟨S_, .i32⟩ : BufTy).Contents (Elt F))) k (Shape.Idx.first h_S_)).toInt) sliceFits_S64x2x8_S1x2x8) shapeCasts_S1x2x8_S2x8) : (Proc.devRef .tc main_while0b_v188 : DevRef τ sig).ty.Contents (Elt F)) = Cert.ReferenceIdeal.Step.b10 j s := by
  unfold Cert.ReferenceIdeal.Step.b10
  rw [← al_9 h]
  try rfl
set_option maxRecDepth 8192 in
theorem al_11 (h : Holds V0 s j) : (broadcastInDim S2x8x64x128 ![0, 1, 2, 3] bcast_S2x8x1x1_S2x8x64x128_0_1_2_3 (broadcastInDim S2x8x1x1 ![0, 1] bcast_S2x8_S2x8x1x1_0_1 (shapeCast S2x8 (Host.dynamicSlice S1x2x8 (V0 (Proc.devRef .tc main_v75_1)) (fun k => (((![V0 (Proc.devRef .tc main_v75_2), constantI S_ 32 0#32, constantI S_ 32 0#32] : Fin 3 → (⟨S_, .i32⟩ : BufTy).Contents (Elt F))) k (Shape.Idx.first h_S_)).toInt) sliceFits_S64x2x8_S1x2x8) shapeCasts_S1x2x8_S2x8)) : (Proc.devRef .tc main_while0b_v189 : DevRef τ sig).ty.Contents (Elt F)) = Cert.ReferenceIdeal.Step.b11 j s := by
  unfold Cert.ReferenceIdeal.Step.b11
  rw [← al_10 h]
  try rfl
set_option maxRecDepth 8192 in
theorem al_12 (h : Holds V0 s j) : (mulf (V0 (Proc.devRef .tc main_v75_3)) (broadcastInDim S2x8x64x128 ![0, 1, 2, 3] bcast_S2x8x1x1_S2x8x64x128_0_1_2_3 (broadcastInDim S2x8x1x1 ![0, 1] bcast_S2x8_S2x8x1x1_0_1 (shapeCast S2x8 (Host.dynamicSlice S1x2x8 (V0 (Proc.devRef .tc main_v75_1)) (fun k => (((![V0 (Proc.devRef .tc main_v75_2), constantI S_ 32 0#32, constantI S_ 32 0#32] : Fin 3 → (⟨S_, .i32⟩ : BufTy).Contents (Elt F))) k (Shape.Idx.first h_S_)).toInt) sliceFits_S64x2x8_S1x2x8) shapeCasts_S1x2x8_S2x8))) : (Proc.devRef .tc main_while0b_v190 : DevRef τ sig).ty.Contents (Elt F)) = Cert.ReferenceIdeal.Step.b12 j s := by
  unfold Cert.ReferenceIdeal.Step.b12
  rw [← al_11 h, h.f_3]
  try rfl
set_option maxRecDepth 8192 in
theorem al_13 (h : Holds V0 s j) : (addf (mulf (V0 (Proc.devRef .tc main_v75_3)) (broadcastInDim S2x8x64x128 ![0, 1, 2, 3] bcast_S2x8x1x1_S2x8x64x128_0_1_2_3 (broadcastInDim S2x8x1x1 ![0, 1] bcast_S2x8_S2x8x1x1_0_1 (shapeCast S2x8 (Host.dynamicSlice S1x2x8 (V0 (Proc.devRef .tc main_v75_1)) (fun k => (((![V0 (Proc.devRef .tc main_v75_2), constantI S_ 32 0#32, constantI S_ 32 0#32] : Fin 3 → (⟨S_, .i32⟩ : BufTy).Contents (Elt F))) k (Shape.Idx.first h_S_)).toInt) sliceFits_S64x2x8_S1x2x8) shapeCasts_S1x2x8_S2x8)))) (shapeCast S2x8x64x128 (Host.dynamicSlice S1x2x8x64x128 (V0 (Proc.devRef .tc main_v75_0)) (fun k => (((![V0 (Proc.devRef .tc main_v75_2), constantI S_ 32 0#32, constantI S_ 32 0#32, constantI S_ 32 0#32, constantI S_ 32 0#32] : Fin 5 → (⟨S_, .i32⟩ : BufTy).Contents (Elt F))) k (Shape.Idx.first h_S_)).toInt) sliceFits_S64x2x8x64x128_S1x2x8x64x128) shapeCasts_S1x2x8x64x128_S2x8x64x128) : (Proc.devRef .tc main_while0b_v191 : DevRef τ sig).ty.Contents (Elt F)) = Cert.ReferenceIdeal.Step.b13 j s := by
  unfold Cert.ReferenceIdeal.Step.b13
  rw [← al_12 h, ← al_5 h]
  try rfl
set_option maxRecDepth 8192 in
theorem al_14 (h : Holds V0 s j) : (broadcastInDim S1x2x8x64x128 ![1, 2, 3, 4] bcast_S2x8x64x128_S1x2x8x64x128_1_2_3_4 (V0 (Proc.devRef .tc main_v75_3)) : (Proc.devRef .tc main_while0b_call5_v0 : DevRef τ sig).ty.Contents (Elt F)) = Cert.ReferenceIdeal.Step.b14 j s := by
  unfold Cert.ReferenceIdeal.Step.b14
  rw [h.f_3]
  try rfl
set_option maxRecDepth 8192 in
theorem al_15 (h : Holds V0 s j) : (constantI S_ 32 0#32 : (Proc.devRef .tc main_while0b_call5_c : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call5_c_0 : DevRef τ sig).ty.Contents (Elt F)) = Cert.ReferenceIdeal.Step.b16 j s := by
  unfold Cert.ReferenceIdeal.Step.b16
  rfl
set_option maxRecDepth 8192 in
theorem al_17 (h : Holds V0 s j) : (constantI S_ 32 0#32 : (Proc.devRef .tc main_while0b_call5_c_1 : DevRef τ sig).ty.Contents (Elt F)) = Cert.ReferenceIdeal.Step.b17 j s := by
  unfold Cert.ReferenceIdeal.Step.b17
  rfl
set_option maxRecDepth 8192 in
theorem al_18 (h : Holds V0 s j) : (constantI S_ 32 0#32 : (Proc.devRef .tc main_while0b_call5_c_2 : DevRef τ sig).ty.Contents (Elt F)) = Cert.ReferenceIdeal.Step.b18 j s := by
  unfold Cert.ReferenceIdeal.Step.b18
  rfl
set_option maxRecDepth 8192 in
theorem al_19 (h : Holds V0 s j) : (Host.dynamicUpdateSlice (V0 (Proc.devRef .tc main_v75_4)) (broadcastInDim S1x2x8x64x128 ![1, 2, 3, 4] bcast_S2x8x64x128_S1x2x8x64x128_1_2_3_4 (V0 (Proc.devRef .tc main_v75_3))) (fun k => (((![V0 (Proc.devRef .tc main_v75_2), constantI S_ 32 0#32, constantI S_ 32 0#32, constantI S_ 32 0#32, constantI S_ 32 0#32] : Fin 5 → (⟨S_, .i32⟩ : BufTy).Contents (Elt F))) k (Shape.Idx.first h_S_)).toInt) updateFits_S64x2x8x64x128_S1x2x8x64x128 : (Proc.devRef .tc main_while0b_v192 : DevRef τ sig).ty.Contents (Elt F)) = Cert.ReferenceIdeal.Step.b19 j s := by
  unfold Cert.ReferenceIdeal.Step.b19
  rw [← al_14 h, ← al_15 h, ← al_16 h, ← al_17 h, ← al_18 h, h.f_4, h.n_2]
  try rfl

/-! One trip's step of the carried values is `step`, field by field; a counter steps to the next number. -/

theorem step_3 (h : Holds V0 s j) : step_main_v75_3 V0 = (step j s).main_v75_3 := by
  unfold step_main_v75_3 Cert.ReferenceIdeal.Step.step
  show id (addf (mulf (V0 (Proc.devRef .tc main_v75_3)) (broadcastInDim S2x8x64x128 ![0, 1, 2, 3] bcast_S2x8x1x1_S2x8x64x128_0_1_2_3 (broadcastInDim S2x8x1x1 ![0, 1] bcast_S2x8_S2x8x1x1_0_1 (shapeCast S2x8 (Host.dynamicSlice S1x2x8 (V0 (Proc.devRef .tc main_v75_1)) (fun k => (((![V0 (Proc.devRef .tc main_v75_2), constantI S_ 32 0#32, constantI S_ 32 0#32] : Fin 3 → (⟨S_, .i32⟩ : BufTy).Contents (Elt F))) k (Shape.Idx.first h_S_)).toInt) sliceFits_S64x2x8_S1x2x8) shapeCasts_S1x2x8_S2x8)))) (shapeCast S2x8x64x128 (Host.dynamicSlice S1x2x8x64x128 (V0 (Proc.devRef .tc main_v75_0)) (fun k => (((![V0 (Proc.devRef .tc main_v75_2), constantI S_ 32 0#32, constantI S_ 32 0#32, constantI S_ 32 0#32, constantI S_ 32 0#32] : Fin 5 → (⟨S_, .i32⟩ : BufTy).Contents (Elt F))) k (Shape.Idx.first h_S_)).toInt) sliceFits_S64x2x8x64x128_S1x2x8x64x128) shapeCasts_S1x2x8x64x128_S2x8x64x128)) = _
  rw [al_13 h]
  try rfl
theorem step_4 (h : Holds V0 s j) : step_main_v75_4 V0 = (step j s).main_v75_4 := by
  unfold step_main_v75_4 Cert.ReferenceIdeal.Step.step
  show id (Host.dynamicUpdateSlice (V0 (Proc.devRef .tc main_v75_4)) (broadcastInDim S1x2x8x64x128 ![1, 2, 3, 4] bcast_S2x8x64x128_S1x2x8x64x128_1_2_3_4 (V0 (Proc.devRef .tc main_v75_3))) (fun k => (((![V0 (Proc.devRef .tc main_v75_2), constantI S_ 32 0#32, constantI S_ 32 0#32, constantI S_ 32 0#32, constantI S_ 32 0#32] : Fin 5 → (⟨S_, .i32⟩ : BufTy).Contents (Elt F))) k (Shape.Idx.first h_S_)).toInt) updateFits_S64x2x8x64x128_S1x2x8x64x128) = _
  exact al_19 h
theorem step_2 (h : Holds V0 s j) : step_main_v75_2 V0 = constantI S_ 32 (BitVec.ofNat 32 (j + 1)) := by
  unfold step_main_v75_2
  rw [h.n_2]
  funext i
  show BitVec.ofNat 32 j + 1#32 = BitVec.ofNat 32 (j + 1)
  simp only [BitVec.ofNat_add]

set_option maxRecDepth 8192 in
theorem out_main_v183_holds (h : Holds V0 s j) {x_main_arg0 : (⟨S2x8192x512, .f32⟩ : BufTy).Contents (Elt F)} (h_main_arg0 : V0 (Proc.devRef .tc main_arg0) = x_main_arg0) {x_main_arg1 : (⟨S2x8192x1024, .f32⟩ : BufTy).Contents (Elt F)} (h_main_arg1 : V0 (Proc.devRef .tc main_arg1) = x_main_arg1) {x_main_arg2 : (⟨S2x8192x8, .f32⟩ : BufTy).Contents (Elt F)} (h_main_arg2 : V0 (Proc.devRef .tc main_arg2) = x_main_arg2) {x_main_arg3 : (⟨S4x1024, .f32⟩ : BufTy).Contents (Elt F)} (h_main_arg3 : V0 (Proc.devRef .tc main_arg3) = x_main_arg3) {x_main_arg4 : (⟨S1024, .f32⟩ : BufTy).Contents (Elt F)} (h_main_arg4 : V0 (Proc.devRef .tc main_arg4) = x_main_arg4) {x_main_arg5 : (⟨S8, .f32⟩ : BufTy).Contents (Elt F)} (h_main_arg5 : V0 (Proc.devRef .tc main_arg5) = x_main_arg5) {x_main_arg6 : (⟨S8, .f32⟩ : BufTy).Contents (Elt F)} (h_main_arg6 : V0 (Proc.devRef .tc main_arg6) = x_main_arg6) {x_main_arg7 : (⟨S8, .f32⟩ : BufTy).Contents (Elt F)} (h_main_arg7 : V0 (Proc.devRef .tc main_arg7) = x_main_arg7) {x_main_arg8 : (⟨S512, .f32⟩ : BufTy).Contents (Elt F)} (h_main_arg8 : V0 (Proc.devRef .tc main_arg8) = x_main_arg8) : out_main_v183 V0 = Cert.ReferenceIdeal.Step.R_main_v183 s x_main_arg0 x_main_arg1 x_main_arg2 x_main_arg3 x_main_arg4 x_main_arg5 x_main_arg6 x_main_arg7 x_main_arg8 := by
  unfold out_main_v183 Cert.ReferenceIdeal.Step.R_main_v183
  rw [h.f_4, h_main_arg0, h_main_arg1, h_main_arg2, h_main_arg3, h_main_arg4, h_main_arg5, h_main_arg6, h_main_arg7, h_main_arg8]
  try rfl

set_option maxRecDepth 8192 in
theorem out_main_v184_holds (h : Holds V0 s j) : out_main_v184 V0 = Cert.ReferenceIdeal.Step.R_main_v184 s := by
  unfold out_main_v184 Cert.ReferenceIdeal.Step.R_main_v184
  rw [h.f_3]
  try rfl

set_option maxRecDepth 8192 in
theorem out_main_v185_holds (h : Holds V0 s j) {x_main_arg1 : (⟨S2x8192x1024, .f32⟩ : BufTy).Contents (Elt F)} (h_main_arg1 : V0 (Proc.devRef .tc main_arg1) = x_main_arg1) : out_main_v185 V0 = Cert.ReferenceIdeal.Step.R_main_v185 s x_main_arg1 := by
  unfold out_main_v185 Cert.ReferenceIdeal.Step.R_main_v185
  rw [h_main_arg1]
  try rfl

/-- One trip keeps the valuation holding: `step` of the state, the same set-up values, the next number. -/
theorem holds_step (h : Holds V0 s j) : Holds (STEP V0) (step j s) (j + 1) where
  f_3 := (STEP_main_v75_3 V0).trans (step_3 h)
  f_4 := (STEP_main_v75_4 V0).trans (step_4 h)
  n_2 := (STEP_main_v75_2 V0).trans (step_2 h)
  f_0 := (STEP_main_v75_0 V0).trans h.f_0
  f_1 := (STEP_main_v75_1 V0).trans h.f_1

/-- The state the first trip starts from, of the memory the run starts from. -/
abbrev initState (m : (ℓ : Loc nD τ sig) → Buf (Elt F) ℓ) (c : Dev nD) : State F :=
  init (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

variable (m : (ℓ : Loc nD τ sig) → Buf (Elt F) ℓ) (c : Dev nD)

set_option maxRecDepth 65536 in
set_option maxHeartbeats 500000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v183) = Cert.ReferenceIdeal.Step.R_main_v183 (it c 64) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v184) = Cert.ReferenceIdeal.Step.R_main_v184 (it c 64)
      ∧ r.2.mem ((c.tc : Thread nD τ).loc main_v185) = Cert.ReferenceIdeal.Step.R_main_v185 (it c 64) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c =>
    have hk := holds_iter m c (it c) (h0 c) (hs c) 64
    ⟨(h c).1.trans (out_main_v183_holds hk (iter_main_arg0 m c 64) (iter_main_arg1 m c 64) (iter_main_arg2 m c 64) (iter_main_arg3 m c 64) (iter_main_arg4 m c 64) (iter_main_arg5 m c 64) (iter_main_arg6 m c 64) (iter_main_arg7 m c 64) (iter_main_arg8 m c 64)), (h c).2.1.trans (out_main_v184_holds hk), (h c).2.2.1.trans (out_main_v185_holds hk (iter_main_arg1 m c 64)), (h c).2.2.2.1, (h c).2.2.2.2.1, (h c).2.2.2.2.2.1, (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2⟩) (Value.run m ρ)

end Cert.Ssd.RefRun

end
-- ==== Proof.SsdClaim.lean ====
/-
  The scan of both sequences: the kernel and the reference run, leave their arguments, and end with equal results.
-/
module

public import proofs.«01_k».proof.Defs
public import proofs.«01_k».proof.Proof.SsdPoints
public import proofs.«01_k».proof.Proof.SsdRef3
public import proofs.«01_k».proof.Proof.SsdRefRun

@[expose] public section

set_option maxRecDepth 16384

noncomputable section

namespace Cert.Ssd

open Idealize.ShloMosaic Idealize.SL.Sem

/-- The side conditions of the precondition. -/
instance preFacts : Cert.Pre_rates_below_infinity.Facts where
  bcast_S8_S1x1x8_2 := ⟨by decide, by decide⟩
  bcast_S1x1x8_S2x8192x8_0_1_2 := ⟨by decide, by decide⟩
  bcast_S_S2x8192x8 := ⟨by decide, by decide⟩

/-- Under the precondition no step size before its softplus is plus infinity. -/
theorem pre_ne_top (a0 : FVec Ideal Cert.Pre_rates_below_infinity.S2x8192x512 .f32) (a1 : FVec Ideal Cert.Pre_rates_below_infinity.S2x8192x1024 .f32)
    (a2 : FVec Ideal Cert.Pre_rates_below_infinity.S2x8192x8 .f32) (a3 : FVec Ideal Cert.Pre_rates_below_infinity.S4x1024 .f32)
    (a4 : FVec Ideal Cert.Pre_rates_below_infinity.S1024 .f32) (a5 a6 a7 : FVec Ideal Cert.Pre_rates_below_infinity.S8 .f32)
    (a8 : FVec Ideal Cert.Pre_rates_below_infinity.S512 .f32)
    (b : Fin 2) (p : Fin 8192) (h : Fin 8)
    (hp : Cert.Pre_rates_below_infinity.fn (F := Ideal) a0 a1 a2 a3 a4 a5 a6 a7 a8 (ix3 b p h) = 1#1) :
    (a2 (ix3 b p h) : EReal) + a5 (ix1 h) ≠ ⊤ := by
  have he : Cert.Pre_rates_below_infinity.fn (F := Ideal) a0 a1 a2 a3 a4 a5 a6 a7 a8 (ix3 b p h)
      = BitVec.ofBool (decide ((a2 (ix3 b p h) : EReal) + a5 (ix1 h) < Ideal.ofBits .f32 0x7F800000#32)) := by
    pointwise [Cert.Pre_rates_below_infinity.fn]
  rw [he] at hp
  have ht : (Ideal.ofBits .f32 0x7F800000#32 : EReal) = ⊤ := by simp [Ideal.ofBits, Ideal.ieee]
  rw [ht] at hp
  by_contra hc
  rw [hc, decide_eq_false (lt_irrefl _)] at hp
  exact absurd hp (by decide)

/-- The states before the reference's trips. -/
def itR (m : (ℓ : Loc Cert.ReferenceIdeal.nD Cert.ReferenceIdeal.τ Cert.ReferenceIdeal.sig) → Buf (Elt Ideal) ℓ)
    (c : Dev Cert.ReferenceIdeal.nD) : ℕ → Cert.ReferenceIdeal.Step.State Ideal
  | 0 => Cert.Ssd.RefRun.initState m c
  | n + 1 => Cert.ReferenceIdeal.Step.step n (itR m c n)

/-- The reference leaves its arguments and every counter at zero. -/
theorem ref_frame : Cert.quiescent_ReferenceIdeal (hReferenceIdeal := Cert.ReferenceIdeal.Gen.facts) :=
  fun m g _ => (θ_run _ _ _).mono (fun r h => ⟨fun c => (h c).2.2.2, sem_eq_zero_of_no_sems rfl _⟩)
    (Cert.Ssd.RefRun.run_iter m g (fun c => itR m c) (fun c => rfl) (fun c n => rfl))

/-- The kernel and the reference end with equal results. -/
theorem algebraic : Cert.algebraic_KernelIdeal_ReferenceIdeal_pre_rates_below_infinity
    (hKernelIdeal := Cert.KernelIdeal.Gen.facts) (hReferenceIdeal := Cert.ReferenceIdeal.Gen.facts) (hPre_rates_below_infinity := preFacts) := by
  intro m g m' g' hpre hargs
  have hx : ∀ (c : Dev Cert.KernelIdeal.nD) (b : Fin 2) (p : Fin 8192) (h : Fin 8), (argsK m c).dr b p h + (argsK m c).db h ≠ ⊤ :=
    fun c b p h => pre_ne_top _ _ _ _ _ _ _ _ _ b p h (congrFun (hpre c) (ix3 b p h))
  refine ⟨fun c => Cert.KernelIdeal.Value.G9 m c, fun c => Cert.KernelIdeal.Value.G10 m c, fun c => Cert.KernelIdeal.Value.G11 m c,
    Cert.KernelIdeal.Value.run m g, ?_⟩
  refine (θ_run _ _ _).mono (fun r h c => ?_) (Cert.Ssd.RefRun.run_iter m' g' (fun c => itR m' c) (fun c => rfl) (fun c n => rfl))
  obtain ⟨h0, h1, h2, h3, h4, h5, h6, h7, h8⟩ := hargs c
  have hA : argsV (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) = argsK m c := by
    rw [h0, h1, h2, h3, h4, h5, h6, h7, h8]
    rfl
  refine ⟨(h c).1.trans ?_, (h c).2.1.trans ?_, (h c).2.2.1.trans ?_, (h c).2.2.2⟩
  · funext i
    rw [show i = ix2 (i 0) (i 1) from by funext a; match a with | ⟨0, _⟩ => rfl | ⟨1, _⟩ => rfl]
    exact ((ref183 _ _ _ _ _ _ _ _ _ (itR m' c) rfl (fun n => rfl) (i 0) (i 1)).trans
      (congrArg (fun A => YG A ⟨(i 0).val / 8192, by have : (i 0).val < 16384 := (i 0).isLt; omega⟩ ((i 0).val % 8192 / 128) ⟨(i 0).val % 128, Nat.mod_lt _ (by decide)⟩ (i 1)) hA)).trans (G9_eq m c (hx c) (i 0) (i 1)).symm
  · funext i
    rw [show i = ix3 (i 0) (i 1) (i 2) from by funext a; match a with | ⟨0, _⟩ => rfl | ⟨1, _⟩ => rfl | ⟨2, _⟩ => rfl]
    exact ((ref184 _ _ _ _ _ _ _ _ _ (itR m' c) rfl (fun n => rfl) (i 0) (i 1) (i 2)).trans
      (congrArg (fun A => HS A (i 0) 64 (i 1) (i 2)) hA)).trans (G10_eq m c (hx c) (i 0) (i 1) (i 2)).symm
  · funext i
    rw [show i = ix3 (i 0) (i 1) (i 2) from by funext a; match a with | ⟨0, _⟩ => rfl | ⟨1, _⟩ => rfl | ⟨2, _⟩ => rfl]
    exact ((ref185 _ _ _ _ _ _ _ _ _ (itR m' c 64) (i 0) (i 1) (i 2)).trans
      (congrArg (fun A => A.x (i 0) ⟨8189 + (i 1).val, by have : (i 1).val < 3 := (i 1).isLt; omega⟩ (i 2)) hA)).trans (G11_eq m c (hx c) (i 0) (i 1) (i 2)).symm

end Cert.Ssd

end
-- ==== Proof.OutSpec.lean ====
/-
  The output projection and the feed-forward layer: the mathematics of one token's row.
-/
module

public import Idealize.ShloMosaic.Lib.IdealHost
public import Idealize.ShloMosaic.Lib.Pointwise

@[expose] public section

noncomputable section

namespace Cert.Out

open Idealize.ShloMosaic

/-- The small constant added to a variance. -/
def eps : EReal := Ideal.ofBits .f32 0x3727C5AC#32
/-- The weight of a residual. -/
def alpha : EReal := Ideal.ofBits .f32 0x3FB504F3#32

/-- A row over its root mean square, weighted. -/
def rmsS (x g : Fin 256 → EReal) (j : Fin 256) : EReal :=
  x j * Ideal.rsqrt (Ideal.div (∑ i, x i * x i) (Ideal.ofBits .f32 0x43800000#32) + eps) * g j

/-- The mean of a row. -/
def meanS (z : Fin 1024 → EReal) : EReal := Ideal.div (∑ i, z i) (Ideal.ofBits .f32 0x44800000#32)

/-- A row less its mean, over its standard deviation, weighted and shifted. -/
def lnS (z g b : Fin 1024 → EReal) (j : Fin 1024) : EReal :=
  (z j - meanS z) * Ideal.rsqrt (meanS (fun i => (z i - meanS z) * (z i - meanS z)) + eps) * g j + b j

/-- The arrays of one token's row and the weights. -/
structure Row where
  x : Fin 1024 → EReal
  sb : Fin 256 → EReal
  sd : Fin 512 → EReal
  ml : Fin 256 → EReal
  sg : Fin 256 → EReal
  mg : Fin 256 → EReal
  wo : Fin 1024 → Fin 1024 → EReal
  g1 : Fin 1024 → EReal
  b1 : Fin 1024 → EReal
  up : Fin 1024 → Fin 4096 → EReal
  dn : Fin 4096 → Fin 1024 → EReal
  g2 : Fin 1024 → EReal
  b2 : Fin 1024 → EReal

/-- The mixers' channels side by side. -/
def mixS (A : Row) (c : Fin 1024) : EReal :=
  if h : c.val < 256 then rmsS A.sb A.sg ⟨c.val, h⟩
  else if h' : c.val - 256 < 512 then A.sd ⟨c.val - 256, h'⟩
  else rmsS A.ml A.mg ⟨c.val - 256 - 512, by omega⟩

/-- The projection of the mixers. -/
def projS (A : Row) (j : Fin 1024) : EReal := ∑ c, mixS A c * A.wo c j

/-- The row between the two layers. -/
def hidS (A : Row) : Fin 1024 → EReal := lnS (fun j => alpha * A.x j + projS A j) A.g1 A.b1

/-- A hidden unit: the rectified product, squared. -/
def unitS (h : Fin 1024 → EReal) (up : Fin 1024 → Fin 4096 → EReal) (k : Fin 4096) : EReal :=
  max (∑ d, h d * up d k) 0 * max (∑ d, h d * up d k) 0

/-- The feed-forward layer's output. -/
def ffS (A : Row) (j : Fin 1024) : EReal := ∑ k, unitS (hidS A) A.up k * A.dn k j

/-- The layer's row. -/
def outS (A : Row) : Fin 1024 → EReal := lnS (fun j => alpha * hidS A j + ffS A j) A.g2 A.b2

/-- The projection in the mixers' three parts. -/
theorem projS_split (A : Row) (j : Fin 1024) :
    projS A j = ((∑ c : Fin 256, rmsS A.sb A.sg c * A.wo ⟨c.val, by omega⟩ j) + ∑ c : Fin 512, A.sd c * A.wo ⟨256 + c.val, by omega⟩ j)
      + ∑ c : Fin 256, rmsS A.ml A.mg c * A.wo ⟨768 + c.val, by omega⟩ j := by
  unfold projS
  rw [show (∑ c : Fin 1024, mixS A c * A.wo c j) = ∑ c : Fin (256 + 512 + 256), mixS A c * A.wo c j from rfl, Fin.sum_univ_add, Fin.sum_univ_add]
  refine congrArg₂ _ (congrArg₂ _ ?_ ?_) ?_
  · refine Finset.sum_congr rfl fun c _ => ?_
    have h : mixS A ((c.castAdd 512).castAdd 256) = rmsS A.sb A.sg c := by
      unfold mixS; exact dif_pos c.isLt
    exact congrArg₂ _ h rfl
  · refine Finset.sum_congr rfl fun c _ => ?_
    have hc := c.isLt
    have h : mixS A ((c.natAdd 256).castAdd 256) = A.sd c := by
      unfold mixS
      exact (dif_neg (show ¬ (256 + c.val < 256) by omega)).trans ((dif_pos (show 256 + c.val - 256 < 512 by omega)).trans
        (congrArg A.sd (Fin.ext (Nat.add_sub_cancel_left _ _))))
    exact congrArg₂ _ h rfl
  · refine Finset.sum_congr rfl fun c _ => ?_
    have hc := c.isLt
    have h : mixS A (c.natAdd (256 + 512)) = rmsS A.ml A.mg c := by
      unfold mixS
      exact (dif_neg (show ¬ (256 + 512 + c.val < 256) by omega)).trans ((dif_neg (show ¬ (256 + 512 + c.val - 256 < 512) by omega)).trans
        (congrArg (rmsS A.ml A.mg) (Fin.ext (show 256 + 512 + c.val - 256 - 512 = c.val by omega))))
    exact congrArg₂ _ h rfl

/-- A sum over the hidden units in four parts. -/
theorem sum_four (f : Fin 4096 → EReal) :
    ∑ k, f k = (((∑ k : Fin 1024, f ⟨k.val, by omega⟩) + ∑ k : Fin 1024, f ⟨1024 + k.val, by omega⟩) + ∑ k : Fin 1024, f ⟨2048 + k.val, by omega⟩)
      + ∑ k : Fin 1024, f ⟨3072 + k.val, by omega⟩ := by
  rw [show (∑ k, f k) = ∑ k : Fin (1024 + 1024 + 1024 + 1024), f k from rfl, Fin.sum_univ_add, Fin.sum_univ_add, Fin.sum_univ_add]
  rfl

end Cert.Out

end
-- ==== Proof.OutPay.lean ====
/-
  The kernel's payloads of one block of rows, at an index.
-/
module

public import proofs.«01_k».proof.Proof.Gen.Kernel2Ideal.Skeleton
public import proofs.«01_k».proof.Proof.OutSpec

@[expose] public section

set_option maxRecDepth 16384

noncomputable section

namespace Cert.Out

open Idealize.ShloMosaic Cert.Kernel2Ideal Cert.Kernel2Ideal.Gen

theorem pay2_apply (x : Vec Ideal S512x256 .f32) (g : Vec Ideal S1x256 .f32) (r : Fin 512) (j : Fin 256) :
    (k0_pay2 x g (ix2 r j) : EReal) = rmsS (fun j => x (ix2 r j)) (fun j => g (ix2 0 j)) j := by
  pointwise [k0_pay2]
  rfl

theorem pay3_apply (x : Vec Ideal S512x256 .f32) (g : Vec Ideal S1x256 .f32) (w : Vec Ideal S256x1024 .bf16) (r : Fin 512) (j : Fin 1024) :
    (k0_pay3 x g w (ix2 r j) : EReal) = ∑ c : Fin 256, rmsS (fun j => x (ix2 r j)) (fun j => g (ix2 0 j)) c * w (ix2 c j) := by
  pointwise [k0_pay3]
  rfl

theorem pay4_apply (x : Vec Ideal S512x512 .f32) (r : Fin 512) (j : Fin 512) :
    (k0_pay4 x (ix2 r j) : EReal) = x (ix2 r j) := by
  pointwise [k0_pay4]

theorem pay5_apply (v33 : FVec Ideal S512x256 .bf16) (v36 : FVec Ideal S512x1024 .f32) (v39 : FVec Ideal S512x512 .bf16) (v40 : Vec Ideal S512x1024 .bf16)
    (v44 : Vec Ideal S256x1024 .bf16) (v48 : Vec Ideal S512x1024 .f32) (v53 v55 : Vec Ideal S1x1024 .f32) (r : Fin 512) (j : Fin 1024) :
    (k0_pay5 v33 v36 v39 v40 v44 v48 v53 v55 (ix2 r j) : EReal)
      = lnS (fun j => alpha * v48 (ix2 r j) + ((v36 (ix2 r j) + ∑ c : Fin 512, v39 (ix2 r c) * v40 (ix2 c j)) + ∑ c : Fin 256, v33 (ix2 r c) * v44 (ix2 c j)))
          (fun j => v53 (ix2 0 j)) (fun j => v55 (ix2 0 j)) j := by
  pointwise [k0_pay5]
  rfl

theorem pay6_apply (v33 : FVec Ideal S512x256 .bf16) (v36 : FVec Ideal S512x1024 .f32) (v39 : FVec Ideal S512x512 .bf16) (v40 : Vec Ideal S512x1024 .bf16)
    (v44 : Vec Ideal S256x1024 .bf16) (v48 : Vec Ideal S512x1024 .f32) (v53 v55 : Vec Ideal S1x1024 .f32) (r : Fin 512) (j : Fin 1024) :
    (k0_pay6 v33 v36 v39 v40 v44 v48 v53 v55 (ix2 r j) : EReal) = k0_pay5 v33 v36 v39 v40 v44 v48 v53 v55 (ix2 r j) := by
  pointwise [k0_pay6]

/-- One chunk of hidden units. -/
def chunkS (h : Fin 1024 → EReal) (u d : Fin 1024 → Fin 1024 → EReal) (j : Fin 1024) : EReal :=
  ∑ k, max (∑ i, h i * u i k) 0 * max (∑ i, h i * u i k) 0 * d k j

theorem pay8_apply (v77 : FVec Ideal S512x1024 .bf16) (v79 v86 v90 v97 v101 v108 : Vec Ideal S1024x1024 .bf16) (r : Fin 512) (j : Fin 1024) :
    (k0_pay8 v77 (k0_pay7 (F := Ideal)) v79 v86 v90 v97 v101 v108 (ix2 r j) : EReal)
      = (chunkS (fun i => v77 (ix2 r i)) (fun i k => v79 (ix2 i k)) (fun k j => v86 (ix2 k j)) j
          + chunkS (fun i => v77 (ix2 r i)) (fun i k => v90 (ix2 i k)) (fun k j => v97 (ix2 k j)) j)
          + chunkS (fun i => v77 (ix2 r i)) (fun i k => v101 (ix2 i k)) (fun k j => v108 (ix2 k j)) j := by
  pointwise [k0_pay8, k0_pay7]
  simp only [chunkS]

theorem pay1_apply (v76 v111 : FVec Ideal S512x1024 .f32) (v77 : FVec Ideal S512x1024 .bf16) (v112 v119 : Vec Ideal S1024x1024 .bf16)
    (v126 v128 : Vec Ideal S1x1024 .f32) (r : Fin 512) (j : Fin 1024) :
    (k0_pay1 v76 v111 (k0_pay9 v77 v112) (k0_pay10 (F := Ideal)) v119 v126 v128 (ix2 r j) : EReal)
      = lnS (fun j => alpha * v76 (ix2 r j) + (v111 (ix2 r j) + chunkS (fun i => v77 (ix2 r i)) (fun i k => v112 (ix2 i k)) (fun k j => v119 (ix2 k j)) j))
          (fun j => v126 (ix2 0 j)) (fun j => v128 (ix2 0 j)) j := by
  pointwise [k0_pay1, k0_pay9, k0_pay10]
  rfl

end Cert.Out

end
-- ==== Proof.OutKernel.lean ====
/-
  What every grid point of the kernel leaves, and the kernel's whole result.
-/
module

public import proofs.«01_k».proof.Proof.OutPay
public import proofs.«01_k».proof.Proof.Gen.Kernel2Ideal.Value
public import Idealize.ShloMosaic.Lib.Claim
public import Idealize.ShloMosaic.Lib.Pipeline.ReadBack
public import Idealize.ShloMosaic.Lib.WritesUnit
public import Idealize.ShloMosaic.Lib.Pipeline.ValueKit

@[expose] public section

set_option maxRecDepth 16384

noncomputable section

namespace Cert.Out

open Idealize.ShloMosaic Cert.Kernel2Ideal Cert.Kernel2Ideal.Gen Cert.Kernel2Ideal.Value Idealize.ShloMosaic.TcCoe Idealize.SL.Sem

/-- The row of a block from the windows' contents. -/
def rowB (x0 : Vec Ideal S512x1024 .f32) (x1 : Vec Ideal S512x256 .f32) (x2 : Vec Ideal S512x512 .f32) (x3 : Vec Ideal S512x256 .f32)
    (x4 : Vec Ideal S1x256 .f32) (x5 : Vec Ideal S1x256 .f32) (x6 : Vec Ideal S1024x1024 .bf16) (x7 x8 : Vec Ideal S1x1024 .f32)
    (x9 : Vec Ideal S1024x4096 .bf16) (x10 : Vec Ideal S4096x1024 .bf16) (x11 x12 : Vec Ideal S1x1024 .f32) (r : Fin 512) : Row where
  x j := x0 (ix2 r j)
  sb j := x1 (ix2 r j)
  sd j := x2 (ix2 r j)
  ml j := x3 (ix2 r j)
  sg j := x4 (ix2 0 j)
  mg j := x5 (ix2 0 j)
  wo i j := x6 (ix2 i j)
  g1 j := x7 (ix2 0 j)
  b1 j := x8 (ix2 0 j)
  up i j := x9 (ix2 i j)
  dn i j := x10 (ix2 i j)
  g2 j := x11 (ix2 0 j)
  b2 j := x12 (ix2 0 j)

section
variable (x0 : Vec Ideal S512x1024 .f32) (x1 : Vec Ideal S512x256 .f32) (x2 : Vec Ideal S512x512 .f32) (x3 : Vec Ideal S512x256 .f32)
    (x4 : Vec Ideal S1x256 .f32) (x5 : Vec Ideal S1x256 .f32) (x6 : Vec Ideal S1024x1024 .bf16) (x7 x8 : Vec Ideal S1x1024 .f32)
    (x9 : Vec Ideal S1024x4096 .bf16) (x10 : Vec Ideal S4096x1024 .bf16) (x11 x12 : Vec Ideal S1x1024 .f32)

/-! ## Reading the windows' pieces -/

theorem ld0 (r : Fin 512) (j : Fin 256) : (View.ld (Val := Elt Ideal) x1 r0_0 (ix2 r j) : EReal) = x1 (ix2 r j) := View.ld_unit_apply_of _ _ _ _ _ _ (by intro a; fin_cases a <;> simp)
theorem ld1 (j : Fin 256) : (View.ld (Val := Elt Ideal) x4 r0_1 (ix2 0 j) : EReal) = x4 (ix2 0 j) := View.ld_unit_apply_of _ _ _ _ _ _ (by intro a; fin_cases a <;> simp)
theorem ld2 (i : Fin 256) (j : Fin 1024) : (View.ld (Val := Elt Ideal) x6 r0_2 (ix2 i j) : EReal) = x6 (ix2 ⟨i.val, by omega⟩ j) := View.ld_unit_apply_of _ _ _ _ _ _ (by intro a; fin_cases a <;> simp)
theorem ld3 (r : Fin 512) (j : Fin 512) : (View.ld (Val := Elt Ideal) x2 r0_3 (ix2 r j) : EReal) = x2 (ix2 r j) := View.ld_unit_apply_of _ _ _ _ _ _ (by intro a; fin_cases a <;> simp)
theorem ld4 (i : Fin 512) (j : Fin 1024) : (View.ld (Val := Elt Ideal) x6 r0_4 (ix2 i j) : EReal) = x6 (ix2 ⟨256 + i.val, by omega⟩ j) := View.ld_unit_apply_of _ _ _ _ _ _ (by intro a; fin_cases a <;> simp)
theorem ld5 (i : Fin 256) (j : Fin 1024) : (View.ld (Val := Elt Ideal) x6 r0_5 (ix2 i j) : EReal) = x6 (ix2 ⟨768 + i.val, by omega⟩ j) := View.ld_unit_apply_of _ _ _ _ _ _ (by intro a; fin_cases a <;> simp)
theorem ld6 (r : Fin 512) (j : Fin 1024) : (View.ld (Val := Elt Ideal) x0 r0_6 (ix2 r j) : EReal) = x0 (ix2 r j) := View.ld_unit_apply_of _ _ _ _ _ _ (by intro a; fin_cases a <;> simp)
theorem ld7 (j : Fin 1024) : (View.ld (Val := Elt Ideal) x7 r0_7 (ix2 0 j) : EReal) = x7 (ix2 0 j) := View.ld_unit_apply_of _ _ _ _ _ _ (by intro a; fin_cases a <;> simp)
theorem ld8 (i j : Fin 1024) : (View.ld (Val := Elt Ideal) x9 r0_8 (ix2 i j) : EReal) = x9 (ix2 i ⟨j.val, by omega⟩) := View.ld_unit_apply_of _ _ _ _ _ _ (by intro a; fin_cases a <;> simp)
theorem ld9 (i j : Fin 1024) : (View.ld (Val := Elt Ideal) x10 r0_9 (ix2 i j) : EReal) = x10 (ix2 ⟨i.val, by omega⟩ j) := View.ld_unit_apply_of _ _ _ _ _ _ (by intro a; fin_cases a <;> simp)
theorem ld10 (i j : Fin 1024) : (View.ld (Val := Elt Ideal) x9 r0_10 (ix2 i j) : EReal) = x9 (ix2 i ⟨1024 + j.val, by omega⟩) := View.ld_unit_apply_of _ _ _ _ _ _ (by intro a; fin_cases a <;> simp)
theorem ld11 (i j : Fin 1024) : (View.ld (Val := Elt Ideal) x10 r0_11 (ix2 i j) : EReal) = x10 (ix2 ⟨1024 + i.val, by omega⟩ j) := View.ld_unit_apply_of _ _ _ _ _ _ (by intro a; fin_cases a <;> simp)
theorem ld12 (i j : Fin 1024) : (View.ld (Val := Elt Ideal) x9 r0_12 (ix2 i j) : EReal) = x9 (ix2 i ⟨2048 + j.val, by omega⟩) := View.ld_unit_apply_of _ _ _ _ _ _ (by intro a; fin_cases a <;> simp)
theorem ld13 (i j : Fin 1024) : (View.ld (Val := Elt Ideal) x10 r0_13 (ix2 i j) : EReal) = x10 (ix2 ⟨2048 + i.val, by omega⟩ j) := View.ld_unit_apply_of _ _ _ _ _ _ (by intro a; fin_cases a <;> simp)
theorem ld14 (i j : Fin 1024) : (View.ld (Val := Elt Ideal) x9 r0_14 (ix2 i j) : EReal) = x9 (ix2 i ⟨3072 + j.val, by omega⟩) := View.ld_unit_apply_of _ _ _ _ _ _ (by intro a; fin_cases a <;> simp)
theorem ld15 (i j : Fin 1024) : (View.ld (Val := Elt Ideal) x10 r0_15 (ix2 i j) : EReal) = x10 (ix2 ⟨3072 + i.val, by omega⟩ j) := View.ld_unit_apply_of _ _ _ _ _ _ (by intro a; fin_cases a <;> simp)

/-- The row between the two layers, from the pieces read. -/
theorem hid_core (A : Row) (r : Fin 512) (j : Fin 1024) (y0 : Vec Ideal S512x1024 .f32) (y1 y3 : Vec Ideal S512x256 .f32) (y2 : Vec Ideal S512x512 .f32)
    (y4 y5 : Vec Ideal S1x256 .f32) (w2 w5 : Vec Ideal S256x1024 .bf16) (w4 : Vec Ideal S512x1024 .bf16) (y7 y8 : Vec Ideal S1x1024 .f32)
    (h0 : ∀ j, (y0 (ix2 r j) : EReal) = A.x j) (h1 : ∀ j, (y1 (ix2 r j) : EReal) = A.sb j) (h2 : ∀ j, (y2 (ix2 r j) : EReal) = A.sd j)
    (h3 : ∀ j, (y3 (ix2 r j) : EReal) = A.ml j) (h4 : ∀ j, (y4 (ix2 0 j) : EReal) = A.sg j) (h5 : ∀ j, (y5 (ix2 0 j) : EReal) = A.mg j)
    (hw2 : ∀ (i : Fin 256) (j : Fin 1024), (w2 (ix2 i j) : EReal) = A.wo ⟨i.val, by omega⟩ j)
    (hw4 : ∀ (i : Fin 512) (j : Fin 1024), (w4 (ix2 i j) : EReal) = A.wo ⟨256 + i.val, by omega⟩ j)
    (hw5 : ∀ (i : Fin 256) (j : Fin 1024), (w5 (ix2 i j) : EReal) = A.wo ⟨768 + i.val, by omega⟩ j)
    (h7 : ∀ j, (y7 (ix2 0 j) : EReal) = A.g1 j) (h8 : ∀ j, (y8 (ix2 0 j) : EReal) = A.b1 j) :
    (k0_pay5 (k0_pay2 y3 y5) (k0_pay3 y1 y4 w2) (k0_pay4 y2) w4 w5 y0 y7 y8 (ix2 r j) : EReal) = hidS A j := by
  rw [pay5_apply]
  unfold hidS
  simp only [projS_split, pay2_apply, pay3_apply, pay4_apply, h0, h1, h2, h3, h4, h5, hw2, hw4, hw5, h7, h8]

theorem hid_apply (r : Fin 512) (j : Fin 1024) :
    (k0_pay5 (k0_pay11 x0 x1 x2 x3 x4 x5 x6 x7 x8 x9 x10 x11 x12) (k0_pay12 x0 x1 x2 x3 x4 x5 x6 x7 x8 x9 x10 x11 x12)
      (k0_pay13 x0 x1 x2 x3 x4 x5 x6 x7 x8 x9 x10 x11 x12) (View.ld x6 r0_4) (View.ld x6 r0_5) (View.ld x0 r0_6) (View.ld x7 r0_7) (View.ld x8 r0_7) (ix2 r j) : EReal)
      = hidS (rowB x0 x1 x2 x3 x4 x5 x6 x7 x8 x9 x10 x11 x12 r) j :=
  hid_core _ r j _ _ _ _ _ _ _ _ _ _ _ (fun j => ld6 x0 r j) (fun j => ld0 x1 r j) (fun j => ld3 x2 r j) (fun j => ld0 x3 r j) (fun j => ld1 x4 j) (fun j => ld1 x5 j)
    (fun i j => ld2 x6 i j) (fun i j => ld4 x6 i j) (fun i j => ld5 x6 i j) (fun j => ld7 x7 j) (fun j => ld7 x8 j)

/-- A block's rows, from the pieces read. -/
theorem out_core (A : Row) (r : Fin 512) (j : Fin 1024) (v76 : FVec Ideal S512x1024 .f32) (v77 : FVec Ideal S512x1024 .bf16)
    (u0 d0 u1 d1 u2 d2 u3 d3 : Vec Ideal S1024x1024 .bf16) (y11 y12 : Vec Ideal S1x1024 .f32)
    (h76 : ∀ j, (v76 (ix2 r j) : EReal) = hidS A j) (h77 : ∀ j, (v77 (ix2 r j) : EReal) = hidS A j)
    (hu0 : ∀ i j : Fin 1024, (u0 (ix2 i j) : EReal) = A.up i ⟨j.val, by omega⟩) (hd0 : ∀ i j : Fin 1024, (d0 (ix2 i j) : EReal) = A.dn ⟨i.val, by omega⟩ j)
    (hu1 : ∀ i j : Fin 1024, (u1 (ix2 i j) : EReal) = A.up i ⟨1024 + j.val, by omega⟩) (hd1 : ∀ i j : Fin 1024, (d1 (ix2 i j) : EReal) = A.dn ⟨1024 + i.val, by omega⟩ j)
    (hu2 : ∀ i j : Fin 1024, (u2 (ix2 i j) : EReal) = A.up i ⟨2048 + j.val, by omega⟩) (hd2 : ∀ i j : Fin 1024, (d2 (ix2 i j) : EReal) = A.dn ⟨2048 + i.val, by omega⟩ j)
    (hu3 : ∀ i j : Fin 1024, (u3 (ix2 i j) : EReal) = A.up i ⟨3072 + j.val, by omega⟩) (hd3 : ∀ i j : Fin 1024, (d3 (ix2 i j) : EReal) = A.dn ⟨3072 + i.val, by omega⟩ j)
    (h11 : ∀ j, (y11 (ix2 0 j) : EReal) = A.g2 j) (h12 : ∀ j, (y12 (ix2 0 j) : EReal) = A.b2 j) :
    (k0_pay1 v76 (k0_pay8 v77 (k0_pay7 (F := Ideal)) u0 d0 u1 d1 u2 d2) (k0_pay9 v77 u3) (k0_pay10 (F := Ideal)) d3 y11 y12 (ix2 r j) : EReal) = outS A j := by
  rw [pay1_apply]
  unfold outS ffS
  simp only [pay8_apply, chunkS, sum_four, unitS, h76, h77, hu0, hd0, hu1, hd1, hu2, hd2, hu3, hd3, h11, h12]

/-- A block's rows. -/
theorem out_apply (r : Fin 512) (j : Fin 1024) :
    (out0_13 x0 x1 x2 x3 x4 x5 x6 x7 x8 x9 x10 x11 x12 (ix2 r j) : EReal) = outS (rowB x0 x1 x2 x3 x4 x5 x6 x7 x8 x9 x10 x11 x12 r) j := by
  unfold out0_13
  have hc : ∀ p : FVec Ideal S512x1024 .f32, (View.canon (Val := Elt Ideal) (s := S512x1024) (e := .f32) [⟨r0_6, p⟩] (ix2 r j) : EReal) = p (ix2 r j) := by
    intro p
    have he : (ix2 r j : S512x1024.Idx) = (r0_6).emb (ix2 r j) := by
      funext a; apply Fin.ext; fin_cases a
      · show r.val = 0 + 1 * r.val; omega
      · show j.val = 0 + 1 * j.val; omega
    have h2 := View.canon_cons_emb (Val := Elt Ideal) (s := S512x1024) (e := .f32) r0_6 p [] (ix2 r j)
    rw [← he] at h2
    exact h2
  refine (hc _).trans (out_core _ r j _ _ _ _ _ _ _ _ _ _ _ _ (fun j => hid_apply x0 x1 x2 x3 x4 x5 x6 x7 x8 x9 x10 x11 x12 r j)
    (fun j => (pay6_apply _ _ _ _ _ _ _ _ r j).trans (hid_apply x0 x1 x2 x3 x4 x5 x6 x7 x8 x9 x10 x11 x12 r j))
    (fun i j => ld8 x9 i j) (fun i j => ld9 x10 i j) (fun i j => ld10 x9 i j) (fun i j => ld11 x10 i j) (fun i j => ld12 x9 i j) (fun i j => ld13 x10 i j)
    (fun i j => ld14 x9 i j) (fun i j => ld15 x10 i j) (fun j => ld7 x11 j) (fun j => ld7 x12 j))

end

/-! ## The windows' blocks in terms of the arguments -/

variable (m : (ℓ : Loc nD τ sig) → Buf (Elt Ideal) ℓ) (c : Dev nD)

theorem t_lt (t : Fin cfg0.N) : t.val < 32 := lt_of_lt_of_eq t.isLt N_0

/-- The sequence of a row of a point's block. -/
def bT (t : Fin cfg0.N) : Fin 2 := ⟨t.val / 16, by have := t_lt t; omega⟩
/-- The position in its sequence of a row of a point's block. -/
def rT (t : Fin cfg0.N) (r : Fin 512) : Fin 8192 := ⟨512 * (t.val % 16) + r.val, by omega⟩

theorem idxRow : ∀ t : Fin cfg0.N, win0_0.index t = ![t.val, 0] ∧ win0_1.index t = ![t.val, 0] ∧ win0_2.index t = ![t.val, 0]
    ∧ win0_3.index t = ![t.val, 0] ∧ win0_13.index t = ![t.val, 0] :=
  (by decide +kernel : ∀ t : Fin grid0.N, _)
theorem idxW : ∀ t : Fin cfg0.N, win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] :=
  (by decide +kernel : ∀ t : Fin grid0.N, _)

theorem blk0 (t : Fin cfg0.N) (r : Fin 512) (j : Fin 1024) :
    (iblk m c 0 t (ix2 r j) : EReal) = m ((c : Thread nD τ).loc main_arg0) (ix3 (bT t) (rT t r) j) := by
  have ht := t_lt t
  blk_simp [iblk]
  entry_read
  pointwise
  have e0 : (((View.whole main_v9).slice (win0_0.rect t)).emb (ix2 r j) 0).val = t.val * 512 + r.val := by blk_simp [(idxRow t).1]
  have e1 : (((View.whole main_v9).slice (win0_0.rect t)).emb (ix2 r j) 1).val = j.val := by blk_simp [(idxRow t).1]
  refine congrArg (m (c, Proc.tc.devRef main_arg0)) (congr (congrArg₂ ix3 ?_ ?_) ?_) <;> apply Fin.ext
  · show _ / 8192 = t.val / 16; rw [e0]; omega
  · show _ % 8192 = 512 * (t.val % 16) + r.val; rw [e0]; omega
  · exact e1

theorem blk1 (t : Fin cfg0.N) (r : Fin 512) (j : Fin 256) :
    (iblk m c 1 t (ix2 r j) : EReal) = m ((c : Thread nD τ).loc main_arg1) (ix3 (bT t) (rT t r) j) := by
  have ht := t_lt t
  blk_simp [iblk]
  entry_read
  pointwise
  have e0 : (((View.whole main_v10).slice (win0_1.rect t)).emb (ix2 r j) 0).val = t.val * 512 + r.val := by blk_simp [(idxRow t).2.1]
  have e1 : (((View.whole main_v10).slice (win0_1.rect t)).emb (ix2 r j) 1).val = j.val := by blk_simp [(idxRow t).2.1]
  refine congrArg (m (c, Proc.tc.devRef main_arg1)) (congr (congrArg₂ ix3 ?_ ?_) ?_) <;> apply Fin.ext
  · show _ / 8192 = t.val / 16; rw [e0]; omega
  · show _ % 8192 = 512 * (t.val % 16) + r.val; rw [e0]; omega
  · exact e1

theorem blk2 (t : Fin cfg0.N) (r : Fin 512) (j : Fin 512) :
    (iblk m c 2 t (ix2 r j) : EReal) = m ((c : Thread nD τ).loc main_arg2) (ix3 (bT t) (rT t r) j) := by
  have ht := t_lt t
  blk_simp [iblk]
  entry_read
  pointwise
  have e0 : (((View.whole main_v11).slice (win0_2.rect t)).emb (ix2 r j) 0).val = t.val * 512 + r.val := by blk_simp [(idxRow t).2.2.1]
  have e1 : (((View.whole main_v11).slice (win0_2.rect t)).emb (ix2 r j) 1).val = j.val := by blk_simp [(idxRow t).2.2.1]
  refine congrArg (m (c, Proc.tc.devRef main_arg2)) (congr (congrArg₂ ix3 ?_ ?_) ?_) <;> apply Fin.ext
  · show _ / 8192 = t.val / 16; rw [e0]; omega
  · show _ % 8192 = 512 * (t.val % 16) + r.val; rw [e0]; omega
  · exact e1

theorem blk3 (t : Fin cfg0.N) (r : Fin 512) (j : Fin 256) :
    (iblk m c 3 t (ix2 r j) : EReal) = m ((c : Thread nD τ).loc main_arg3) (ix3 (bT t) (rT t r) j) := by
  have ht := t_lt t
  blk_simp [iblk]
  entry_read
  pointwise
  have e0 : (((View.whole main_v12).slice (win0_3.rect t)).emb (ix2 r j) 0).val = t.val * 512 + r.val := by blk_simp [(idxRow t).2.2.2.1]
  have e1 : (((View.whole main_v12).slice (win0_3.rect t)).emb (ix2 r j) 1).val = j.val := by blk_simp [(idxRow t).2.2.2.1]
  refine congrArg (m (c, Proc.tc.devRef main_arg3)) (congr (congrArg₂ ix3 ?_ ?_) ?_) <;> apply Fin.ext
  · show _ / 8192 = t.val / 16; rw [e0]; omega
  · show _ % 8192 = 512 * (t.val % 16) + r.val; rw [e0]; omega
  · exact e1

theorem blk4 (t : Fin cfg0.N) (j : Fin 256) :
    (iblk m c 4 t (ix2 0 j) : EReal) = m ((c : Thread nD τ).loc main_arg4) (ix1 j) := by
  blk_simp [iblk]
  entry_read
  pointwise
  have e1 : (((View.whole main_v0).slice (win0_4.rect t)).emb (ix2 0 j) 1).val = j.val := by blk_simp [idxW t]
  exact congrArg (m (c, Proc.tc.devRef main_arg4)) (congrArg ix1 (Fin.ext e1))

theorem blk5 (t : Fin cfg0.N) (j : Fin 256) :
    (iblk m c 5 t (ix2 0 j) : EReal) = m ((c : Thread nD τ).loc main_arg5) (ix1 j) := by
  blk_simp [iblk]
  entry_read
  pointwise
  have e1 : (((View.whole main_v1).slice (win0_5.rect t)).emb (ix2 0 j) 1).val = j.val := by blk_simp [idxW t]
  exact congrArg (m (c, Proc.tc.devRef main_arg5)) (congrArg ix1 (Fin.ext e1))

theorem blk7 (t : Fin cfg0.N) (j : Fin 1024) :
    (iblk m c 7 t (ix2 0 j) : EReal) = m ((c : Thread nD τ).loc main_arg7) (ix1 j) := by
  blk_simp [iblk]
  entry_read
  pointwise
  have e1 : (((View.whole main_v3).slice (win0_7.rect t)).emb (ix2 0 j) 1).val = j.val := by blk_simp [idxW t]
  exact congrArg (m (c, Proc.tc.devRef main_arg7)) (congrArg ix1 (Fin.ext e1))

theorem blk8 (t : Fin cfg0.N) (j : Fin 1024) :
    (iblk m c 8 t (ix2 0 j) : EReal) = m ((c : Thread nD τ).loc main_arg8) (ix1 j) := by
  blk_simp [iblk]
  entry_read
  pointwise
  have e1 : (((View.whole main_v4).slice (win0_8.rect t)).emb (ix2 0 j) 1).val = j.val := by blk_simp [idxW t]
  exact congrArg (m (c, Proc.tc.devRef main_arg8)) (congrArg ix1 (Fin.ext e1))

theorem blk11 (t : Fin cfg0.N) (j : Fin 1024) :
    (iblk m c 11 t (ix2 0 j) : EReal) = m ((c : Thread nD τ).loc main_arg11) (ix1 j) := by
  blk_simp [iblk]
  entry_read
  pointwise
  have e1 : (((View.whole main_v7).slice (win0_11.rect t)).emb (ix2 0 j) 1).val = j.val := by blk_simp [idxW t]
  exact congrArg (m (c, Proc.tc.devRef main_arg11)) (congrArg ix1 (Fin.ext e1))

theorem blk12 (t : Fin cfg0.N) (j : Fin 1024) :
    (iblk m c 12 t (ix2 0 j) : EReal) = m ((c : Thread nD τ).loc main_arg12) (ix1 j) := by
  blk_simp [iblk]
  entry_read
  pointwise
  have e1 : (((View.whole main_v8).slice (win0_12.rect t)).emb (ix2 0 j) 1).val = j.val := by blk_simp [idxW t]
  exact congrArg (m (c, Proc.tc.devRef main_arg12)) (congrArg ix1 (Fin.ext e1))

theorem blk6 (t : Fin cfg0.N) (i : Fin 1024) (j : Fin 1024) :
    (iblk m c 6 t (ix2 i j) : EReal) = m ((c : Thread nD τ).loc main_arg6) (ix2 i j) := by
  blk_simp [iblk]
  entry_read
  pointwise
  have e0 : (((View.whole main_v2).slice (win0_6.rect t)).emb (ix2 i j) 0).val = i.val := by blk_simp [idxW t]
  have e1 : (((View.whole main_v2).slice (win0_6.rect t)).emb (ix2 i j) 1).val = j.val := by blk_simp [idxW t]
  refine congrArg (m (c, Proc.tc.devRef main_arg6)) ?_
  funext a; apply Fin.ext
  match a with
  | ⟨0, _⟩ => exact e0
  | ⟨1, _⟩ => exact e1

theorem blk9 (t : Fin cfg0.N) (i : Fin 1024) (j : Fin 4096) :
    (iblk m c 9 t (ix2 i j) : EReal) = m ((c : Thread nD τ).loc main_arg9) (ix2 i j) := by
  blk_simp [iblk]
  entry_read
  pointwise
  have e0 : (((View.whole main_v5).slice (win0_9.rect t)).emb (ix2 i j) 0).val = i.val := by blk_simp [idxW t]
  have e1 : (((View.whole main_v5).slice (win0_9.rect t)).emb (ix2 i j) 1).val = j.val := by blk_simp [idxW t]
  refine congrArg (m (c, Proc.tc.devRef main_arg9)) ?_
  funext a; apply Fin.ext
  match a with
  | ⟨0, _⟩ => exact e0
  | ⟨1, _⟩ => exact e1

theorem blk10 (t : Fin cfg0.N) (i : Fin 4096) (j : Fin 1024) :
    (iblk m c 10 t (ix2 i j) : EReal) = m ((c : Thread nD τ).loc main_arg10) (ix2 i j) := by
  blk_simp [iblk]
  entry_read
  pointwise
  have e0 : (((View.whole main_v6).slice (win0_10.rect t)).emb (ix2 i j) 0).val = i.val := by blk_simp [idxW t]
  have e1 : (((View.whole main_v6).slice (win0_10.rect t)).emb (ix2 i j) 1).val = j.val := by blk_simp [idxW t]
  refine congrArg (m (c, Proc.tc.devRef main_arg10)) ?_
  funext a; apply Fin.ext
  match a with
  | ⟨0, _⟩ => exact e0
  | ⟨1, _⟩ => exact e1

/-- The row of a token from the kernel's arguments. -/
def rowK (b : Fin 2) (p : Fin 8192) : Row where
  x j := m ((c : Thread nD τ).loc main_arg0) (ix3 b p j)
  sb j := m ((c : Thread nD τ).loc main_arg1) (ix3 b p j)
  sd j := m ((c : Thread nD τ).loc main_arg2) (ix3 b p j)
  ml j := m ((c : Thread nD τ).loc main_arg3) (ix3 b p j)
  sg j := m ((c : Thread nD τ).loc main_arg4) (ix1 j)
  mg j := m ((c : Thread nD τ).loc main_arg5) (ix1 j)
  wo i j := m ((c : Thread nD τ).loc main_arg6) (ix2 i j)
  g1 j := m ((c : Thread nD τ).loc main_arg7) (ix1 j)
  b1 j := m ((c : Thread nD τ).loc main_arg8) (ix1 j)
  up i j := m ((c : Thread nD τ).loc main_arg9) (ix2 i j)
  dn i j := m ((c : Thread nD τ).loc main_arg10) (ix2 i j)
  g2 j := m ((c : Thread nD τ).loc main_arg11) (ix1 j)
  b2 j := m ((c : Thread nD τ).loc main_arg12) (ix1 j)

theorem rowB_eq (t : Fin cfg0.N) (r : Fin 512) :
    rowB (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) r = rowK m c (bT t) (rT t r) := by
  unfold rowB rowK
  congr 1
  · funext j; exact blk0 m c t r j
  · funext j; exact blk1 m c t r j
  · funext j; exact blk2 m c t r j
  · funext j; exact blk3 m c t r j
  · funext j; exact blk4 m c t j
  · funext j; exact blk5 m c t j
  · funext i j; exact blk6 m c t i j
  · funext j; exact blk7 m c t j
  · funext j; exact blk8 m c t j
  · funext i j; exact blk9 m c t i j
  · funext i j; exact blk10 m c t i j
  · funext j; exact blk11 m c t j
  · funext j; exact blk12 m c t j

theorem flush_all : ∀ t : Fin cfg0.N, (cfg0.win 13).flush t = true := (by decide +kernel : ∀ t : Fin grid0.N, _)

/-- The kernel's result: each token's row. -/
theorem result_apply (i : Fin 16384) (j : Fin 1024) :
    ((dats m 0 c).arrAt 13 cfg0.N (ix2 i j) : EReal) = outS (rowK m c ⟨i.val / 8192, by omega⟩ ⟨i.val % 8192, Nat.mod_lt _ (by decide)⟩) j := by
  have hn : i.val / 512 < cfg0.N := by rw [show cfg0.N = 32 from N_0]; omega
  have b := congrFun (blocks13 m c ⟨i.val / 512, hn⟩ (flush_all _)) (ix2 ⟨i.val % 512, Nat.mod_lt _ (by decide)⟩ j)
  rw [flushed13] at b
  have e : ((cfg0.win 13).blk ⟨i.val / 512, hn⟩).view.emb (ix2 ⟨i.val % 512, Nat.mod_lt _ (by decide)⟩ j) = ix2 i j := by
    funext a; apply Fin.ext
    match a with
    | ⟨0, _⟩ =>
      have e0 : (((View.whole main_v13).slice (win0_13.rect ⟨i.val / 512, hn⟩)).emb (ix2 ⟨i.val % 512, Nat.mod_lt _ (by decide)⟩ j) 0).val = i.val / 512 * 512 + i.val % 512 := by
        blk_simp [(idxRow ⟨i.val / 512, hn⟩).2.2.2.2]
      exact e0.trans (show i.val / 512 * 512 + i.val % 512 = i.val by omega)
    | ⟨1, _⟩ =>
      have e1 : (((View.whole main_v13).slice (win0_13.rect ⟨i.val / 512, hn⟩)).emb (ix2 ⟨i.val % 512, Nat.mod_lt _ (by decide)⟩ j) 1).val = j.val := by
        blk_simp [(idxRow ⟨i.val / 512, hn⟩).2.2.2.2]
      exact e1
  have b' : (dats m 0 c).arrAt 13 cfg0.N (((cfg0.win 13).blk ⟨i.val / 512, hn⟩).view.emb (ix2 ⟨i.val % 512, Nat.mod_lt _ (by decide)⟩ j))
    = out0_13 (iblk m c 0 ⟨i.val / 512, hn⟩) (iblk m c 1 ⟨i.val / 512, hn⟩) (iblk m c 2 ⟨i.val / 512, hn⟩) (iblk m c 3 ⟨i.val / 512, hn⟩)
      (iblk m c 4 ⟨i.val / 512, hn⟩) (iblk m c 5 ⟨i.val / 512, hn⟩) (iblk m c 6 ⟨i.val / 512, hn⟩) (iblk m c 7 ⟨i.val / 512, hn⟩)
      (iblk m c 8 ⟨i.val / 512, hn⟩) (iblk m c 9 ⟨i.val / 512, hn⟩) (iblk m c 10 ⟨i.val / 512, hn⟩) (iblk m c 11 ⟨i.val / 512, hn⟩)
      (iblk m c 12 ⟨i.val / 512, hn⟩) (ix2 ⟨i.val % 512, Nat.mod_lt _ (by decide)⟩ j) := b
  rw [e] at b'
  refine b'.trans ((out_apply _ _ _ _ _ _ _ _ _ _ _ _ _ _ _).trans ?_)
  rw [rowB_eq]
  congr 2
  · exact Fin.ext (by show i.val / 512 / 16 = i.val / 8192; omega)
  · exact Fin.ext (by show 512 * (i.val / 512 % 16) + i.val % 512 = i.val % 8192; omega)

end Cert.Out

end
-- ==== Proof.OutRef.lean ====
/-
  The reference's result, at an index.
-/
module

public import proofs.«01_k».proof.Proof.Gen.Reference2Ideal.Run
public import proofs.«01_k».proof.Proof.OutSpec

@[expose] public section

set_option maxRecDepth 16384

noncomputable section

namespace Cert.Out

open Idealize.ShloMosaic Cert.Reference2Ideal Cert.Reference2Ideal.Gen Cert.Reference2Ideal.Value

/-- The row of a token from the reference's arguments. -/
def rowR (V0 : Valuation τ sig (Elt Ideal)) (b : Fin 2) (p : Fin 8192) : Row where
  x j := V0 (Proc.devRef .tc main_arg0) (ix3 b p j)
  sb j := V0 (Proc.devRef .tc main_arg1) (ix3 b p j)
  sd j := V0 (Proc.devRef .tc main_arg2) (ix3 b p j)
  ml j := V0 (Proc.devRef .tc main_arg3) (ix3 b p j)
  sg j := V0 (Proc.devRef .tc main_arg4) (ix1 j)
  mg j := V0 (Proc.devRef .tc main_arg5) (ix1 j)
  wo i j := V0 (Proc.devRef .tc main_arg6) (ix2 i j)
  g1 j := V0 (Proc.devRef .tc main_arg7) (ix1 j)
  b1 j := V0 (Proc.devRef .tc main_arg8) (ix1 j)
  up i j := V0 (Proc.devRef .tc main_arg9) (ix2 i j)
  dn i j := V0 (Proc.devRef .tc main_arg10) (ix2 i j)
  g2 j := V0 (Proc.devRef .tc main_arg11) (ix1 j)
  b2 j := V0 (Proc.devRef .tc main_arg12) (ix1 j)

variable (V0 : Valuation τ sig (Elt Ideal)) (b : Fin 2) (p : Fin 8192)

theorem res30 (j : Fin 1024) : (res_main_v30 V0 (ix3 b p j) : EReal) = alpha * (rowR V0 b p).x j + projS (rowR V0 b p) j := by
  pointwise [res_main_v30]
  refine congrArg₂ _ rfl (Finset.sum_congr rfl fun c _ => congrArg₂ _ ?_ rfl)
  rfl

theorem res34 : (res_main_v34 V0 (ix3 b p 0) : EReal) = meanS (fun j => alpha * (rowR V0 b p).x j + projS (rowR V0 b p) j) := by
  pointwise [res_main_v34]
  simp only [res30]
  rfl

theorem res36 (j : Fin 1024) : (res_main_v36 V0 (ix3 b p j) : EReal)
    = (alpha * (rowR V0 b p).x j + projS (rowR V0 b p) j) - meanS (fun j => alpha * (rowR V0 b p).x j + projS (rowR V0 b p) j) := by
  pointwise [res_main_v36]
  rw [res30, res34]

theorem res54 (j : Fin 1024) : (res_main_v54 V0 (ix3 b p j) : EReal) = hidS (rowR V0 b p) j := by
  pointwise [res_main_v54]
  simp only [res30, res34, res36]
  rfl

theorem res56 (k : Fin 4096) : (res_main_v56 V0 (ix3 b p k) : EReal) = max (∑ d, hidS (rowR V0 b p) d * (rowR V0 b p).up d k) 0 := by
  pointwise [res_main_v56]
  simp only [res54]
  rfl

theorem res61 (j : Fin 1024) : (res_main_v61 V0 (ix3 b p j) : EReal) = alpha * hidS (rowR V0 b p) j + ffS (rowR V0 b p) j := by
  pointwise [res_main_v61]
  simp only [res54, res56]
  rfl

theorem res65 : (res_main_v65 V0 (ix3 b p 0) : EReal) = meanS (fun j => alpha * hidS (rowR V0 b p) j + ffS (rowR V0 b p) j) := by
  pointwise [res_main_v65]
  simp only [res61]
  rfl

theorem res67 (j : Fin 1024) : (res_main_v67 V0 (ix3 b p j) : EReal)
    = (alpha * hidS (rowR V0 b p) j + ffS (rowR V0 b p) j) - meanS (fun j => alpha * hidS (rowR V0 b p) j + ffS (rowR V0 b p) j) := by
  pointwise [res_main_v67]
  rw [res61, res65]

/-- The reference's result: each token's row. -/
theorem res86 (i : Fin 16384) (j : Fin 1024) :
    (shapeCast _ (addf (mulf (mulf (subf (res_main_v61 V0) (broadcastInDim S2x8192x1024 ![0, 1, 2] bcast_S2x8192x1_S2x8192x1024_0_1_2 (res_main_v65 V0))) (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf (res_main_v67 V0) (res_main_v67 V0)) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x3727C5AC#32)))))) (broadcastInDim S2x8192x1024 ![0, 1, 2] bcast_S1x1x1024_S2x8192x1024_0_1_2 (broadcastInDim S1x1x1024 ![2] bcast_S1024_S1x1x1024_2 (V0 (Proc.devRef .tc main_arg11))))) (broadcastInDim S2x8192x1024 ![0, 1, 2] bcast_S1x1x1024_S2x8192x1024_0_1_2 (broadcastInDim S1x1x1024 ![2] bcast_S1024_S1x1x1024_2 (V0 (Proc.devRef .tc main_arg12))))) shapeCasts_S2x8192x1024_S16384x1024 (ix2 i j) : EReal)
      = outS (rowR V0 ⟨i.val / 8192, by omega⟩ ⟨i.val % 8192, Nat.mod_lt _ (by decide)⟩) j := by
  pointwise
  simp only [res61, res65, res67]
  rfl

end Cert.Out

end
-- ==== Proof.OutClaim.lean ====
/-
  The output projection and the feed-forward layer: the reference leaves its arguments, and both end with equal results.
-/
module

public import proofs.«01_k».proof.Defs
public import proofs.«01_k».proof.Proof.OutKernel
public import proofs.«01_k».proof.Proof.OutRef

@[expose] public section

set_option maxRecDepth 16384

noncomputable section

namespace Cert.Out

open Idealize.ShloMosaic Idealize.SL.Sem

/-- The reference leaves its arguments and every counter at zero. -/
theorem ref_frame : Cert.quiescent_Reference2Ideal (hReference2Ideal := Cert.Reference2Ideal.Gen.facts) :=
  fun m g _ => (θ_run _ _ _).mono (fun r h => ⟨fun c => (h c).2, sem_eq_zero_of_no_sems rfl _⟩) (Cert.Reference2Ideal.Value.run m g)

/-- The kernel and the reference end with equal results. -/
theorem algebraic : Cert.algebraic_Kernel2Ideal_Reference2Ideal
    (hKernel2Ideal := Cert.Kernel2Ideal.Gen.facts) (hReference2Ideal := Cert.Reference2Ideal.Gen.facts) := by
  intro m g m' g' _ hargs
  refine ⟨fun c => (Cert.Kernel2Ideal.Gen.dats m 0 c).arrAt 13 Cert.Kernel2Ideal.cfg0.N, Cert.Kernel2Ideal.Value.run_blocks m g, ?_⟩
  refine (θ_run _ _ _).mono (fun r h c => ?_) (Cert.Reference2Ideal.Value.run m' g')
  refine ⟨(h c).1.trans ?_, (h c).2⟩
  obtain ⟨h0, h1, h2, h3, h4, h5, h6, h7, h8, h9, h10, h11, h12⟩ := hargs c
  have hA : ∀ b p, rowR (Idealize.ShloMosaic.StableHlo.launchContents m' c) b p = rowK m c b p := by
    intro b p
    unfold rowR rowK
    congr 1
    · funext j; exact congrFun h0 (ix3 b p j)
    · funext j; exact congrFun h1 (ix3 b p j)
    · funext j; exact congrFun h2 (ix3 b p j)
    · funext j; exact congrFun h3 (ix3 b p j)
    · funext j; exact congrFun h4 (ix1 j)
    · funext j; exact congrFun h5 (ix1 j)
    · funext i j; exact congrFun h6 (ix2 i j)
    · funext j; exact congrFun h7 (ix1 j)
    · funext j; exact congrFun h8 (ix1 j)
    · funext i j; exact congrFun h9 (ix2 i j)
    · funext i j; exact congrFun h10 (ix2 i j)
    · funext j; exact congrFun h11 (ix1 j)
    · funext j; exact congrFun h12 (ix1 j)
  funext i
  rw [show i = ix2 (i 0) (i 1) from by funext a; match a with | ⟨0, _⟩ => rfl | ⟨1, _⟩ => rfl]
  exact ((res86 _ (i 0) (i 1)).trans (congrArg (fun A => outS A (i 1)) (hA _ _))).trans (result_apply m c (i 0) (i 1)).symm

end Cert.Out

end
-- ==== Proof.MlaMath.lean ====
/-
  The softmax of a row of scores over the extended reals: the running maximum, the running sum and the running weighted sum,
  absorbed block by block, and their quotient.
-/
module

public import Idealize.ShloMosaic.Lib.Pointwise

@[expose] public section

noncomputable section

namespace Cert.Mla

open Idealize.ShloMosaic

/-- A power of two is nonnegative. -/
theorem exp2_nonneg (x : EReal) : 0 ≤ Ideal.exp2 x := by
  induction x with
  | bot => exact le_refl _
  | top => exact le_top
  | coe r => exact EReal.coe_nonneg.mpr (Real.rpow_pos_of_pos (by norm_num) r).le

/-- A power of two of a nonpositive number is at most one. -/
theorem exp2_le_one {x : EReal} (hx : x ≤ 0) : Ideal.exp2 x ≤ 1 := by
  induction x with
  | bot => exact zero_le_one
  | top => exact absurd hx (by simp)
  | coe r =>
    have hr : r ≤ 0 := EReal.coe_nonpos.mp hx
    have : ((Real.rpow 2 r : ℝ) : EReal) ≤ ((1 : ℝ) : EReal) :=
      EReal.coe_le_coe_iff.mpr (Real.rpow_le_one_of_one_le_of_nonpos (by norm_num) hr)
    exact this

/-- A power of two of a nonpositive number is not plus infinity. -/
theorem exp2_ne_top {x : EReal} (hx : x ≤ 0) : Ideal.exp2 x ≠ ⊤ := fun h => by
  have := exp2_le_one hx
  rw [h] at this
  exact absurd (top_le_iff.mp this) (EReal.coe_ne_top 1)

/-- A number less a larger one is nonpositive. -/
theorem sub_nonpos' {x y : EReal} (h : x ≤ y) : x - y ≤ 0 := by
  induction y with
  | bot => rw [le_bot_iff.mp h]; exact bot_le
  | top =>
    induction x with
    | bot => exact bot_le
    | top => exact bot_le
    | coe r => exact bot_le
  | coe s =>
    induction x with
    | bot => exact bot_le
    | top => exact absurd h (by simp)
    | coe r =>
      rw [← EReal.coe_sub]
      exact EReal.coe_nonpos.mpr (sub_nonpos.mpr (EReal.coe_le_coe_iff.mp h))

/-- Rescaling a weight from one maximum to a later one. -/
theorem rescale {s m m' : EReal} (h1 : s ≤ m) (h2 : m ≤ m') : Ideal.exp2 (m - m') * Ideal.exp2 (s - m) = Ideal.exp2 (s - m') := by
  induction m' with
  | bot =>
    have hm := le_bot_iff.mp h2
    subst hm
    have hs := le_bot_iff.mp h1
    subst hs
    show (0 : EReal) * 0 = 0
    simp
  | top =>
    have : ∀ x : EReal, x - ⊤ = ⊥ := fun x => EReal.add_bot x
    rw [this, this]
    show (0 : EReal) * _ = 0
    simp
  | coe r' =>
    induction m with
    | bot =>
      have hs := le_bot_iff.mp h1
      subst hs
      show (0 : EReal) * 0 = 0
      simp
    | top => exact absurd h2 (by simp)
    | coe r =>
      induction s with
      | bot => show _ * (0 : EReal) = 0; simp
      | top => exact absurd h1 (by simp)
      | coe q =>
        rw [← EReal.coe_sub, ← EReal.coe_sub, ← EReal.coe_sub]
        show ((Real.rpow 2 (r - r') : ℝ) : EReal) * ((Real.rpow 2 (q - r) : ℝ) : EReal) = ((Real.rpow 2 (q - r') : ℝ) : EReal)
        rw [← EReal.coe_mul]
        congr 1
        show (2 : ℝ) ^ (r - r') * (2 : ℝ) ^ (q - r) = (2 : ℝ) ^ (q - r')
        rw [← Real.rpow_add (by norm_num)]
        congr 1
        ring

/-- A number that is not negative and not plus infinity distributes over every sum. -/
theorem mul_sum' {ι : Type} (c : EReal) (h0 : 0 ≤ c) (ht : c ≠ ⊤) (t : Finset ι) (f : ι → EReal) : c * ∑ i ∈ t, f i = ∑ i ∈ t, c * f i := by
  classical
  induction t using Finset.induction_on with
  | empty => simp
  | insert a t ha ih => rw [Finset.sum_insert ha, Finset.sum_insert ha, EReal.left_distrib_of_nonneg_of_ne_top h0 ht, ih]

/-! ## The running state -/

/-- The maximum of the first `n` scores. -/
def Mx (s : ℕ → EReal) (n : ℕ) : EReal := (Finset.range n).sup s
/-- The weights' sum. -/
def Ls (s : ℕ → EReal) (n : ℕ) : EReal := ∑ k ∈ Finset.range n, Ideal.exp2 (s k - Mx s n)
/-- The weighted sum. -/
def Ac (s v : ℕ → EReal) (n : ℕ) : EReal := ∑ k ∈ Finset.range n, v k * Ideal.exp2 (s k - Mx s n)

/-- The maximum of no scores is minus infinity. -/
theorem Mx_zero (s : ℕ → EReal) : Mx s 0 = ⊥ := rfl
/-- The sum of no weights is zero. -/
theorem Ls_zero (s : ℕ → EReal) : Ls s 0 = 0 := rfl
/-- The weighted sum of no values is zero. -/
theorem Ac_zero (s v : ℕ → EReal) : Ac s v 0 = 0 := rfl

/-- A score is at most the maximum of a prefix it lies in. -/
theorem le_Mx (s : ℕ → EReal) {n k : ℕ} (h : k < n) : s k ≤ Mx s n := Finset.le_sup (f := s) (Finset.mem_range.mpr h)

/-- A longer prefix has a larger maximum. -/
theorem Mx_mono (s : ℕ → EReal) {n m : ℕ} (h : n ≤ m) : Mx s n ≤ Mx s m :=
  Finset.sup_mono (Finset.range_subset_range.mpr h)

/-- The maximum after a block. -/
theorem Mx_add (s : ℕ → EReal) (n B : ℕ) : Mx s (n + B) = max (Mx s n) ((Finset.univ : Finset (Fin B)).sup fun j => s (n + j.val)) := by
  apply le_antisymm
  · refine Finset.sup_le fun k hk => ?_
    have hk' := Finset.mem_range.mp hk
    by_cases h : k < n
    · exact le_max_of_le_left (le_Mx s h)
    · refine le_max_of_le_right ?_
      have : s k = (fun j : Fin B => s (n + j.val)) ⟨k - n, by omega⟩ := congrArg s (by show k = n + (k - n); omega)
      rw [this]
      exact Finset.le_sup (f := fun j : Fin B => s (n + j.val)) (Finset.mem_univ _)
  · refine max_le (Mx_mono s (Nat.le_add_right _ _)) (Finset.sup_le fun j _ => le_Mx s (by omega))

/-- A sum over a prefix and the block after it. -/
theorem sum_add_block (f : ℕ → EReal) (n B : ℕ) : ∑ k ∈ Finset.range (n + B), f k = ∑ k ∈ Finset.range n, f k + ∑ j : Fin B, f (n + j.val) := by
  rw [Finset.sum_range_add, Finset.sum_range (fun x => f (n + x))]

/-- The sum after a block. -/
theorem Ls_add (s : ℕ → EReal) (n B : ℕ) :
    Ls s (n + B) = Ideal.exp2 (Mx s n - Mx s (n + B)) * Ls s n + ∑ j : Fin B, Ideal.exp2 (s (n + j.val) - Mx s (n + B)) := by
  have hm := Mx_mono s (Nat.le_add_right n B)
  conv_lhs => unfold Ls
  rw [sum_add_block (fun k => Ideal.exp2 (s k - Mx s (n + B)))]
  congr 1
  unfold Ls
  rw [mul_sum' _ (exp2_nonneg _) (exp2_ne_top (sub_nonpos' hm))]
  exact Finset.sum_congr rfl fun k hk => (rescale (le_Mx s (Finset.mem_range.mp hk)) hm).symm

/-- The weighted sum after a block. -/
theorem Ac_add (s v : ℕ → EReal) (n B : ℕ) :
    Ac s v (n + B) = Ideal.exp2 (Mx s n - Mx s (n + B)) * Ac s v n + ∑ j : Fin B, v (n + j.val) * Ideal.exp2 (s (n + j.val) - Mx s (n + B)) := by
  have hm := Mx_mono s (Nat.le_add_right n B)
  conv_lhs => unfold Ac
  rw [sum_add_block (fun k => v k * Ideal.exp2 (s k - Mx s (n + B)))]
  congr 1
  unfold Ac
  rw [mul_sum' _ (exp2_nonneg _) (exp2_ne_top (sub_nonpos' hm))]
  refine Finset.sum_congr rfl fun k hk => ?_
  rw [← rescale (le_Mx s (Finset.mem_range.mp hk)) hm]
  ac_rfl

/-! ## The quotient -/

/-- Two to the power of a number over the logarithm of two is its exponential. -/
theorem exp2_eq_exp (x : EReal) : Ideal.exp2 (x * ((Real.log 2)⁻¹ : ℝ)) = Ideal.exp x := by
  have hl : 0 < Real.log 2 := Real.log_pos (by norm_num)
  have hc : 0 < (Real.log 2)⁻¹ := inv_pos.mpr hl
  induction x with
  | bot => rw [EReal.bot_mul_coe_of_pos hc]; rfl
  | top => rw [EReal.top_mul_coe_of_pos hc]; rfl
  | coe r =>
    rw [← EReal.coe_mul]
    show ((Real.rpow 2 (r * (Real.log 2)⁻¹) : ℝ) : EReal) = ((Real.exp r : ℝ) : EReal)
    congr 1
    show (2 : ℝ) ^ (r * (Real.log 2)⁻¹) = Real.exp r
    rw [Real.rpow_def_of_pos (by norm_num)]
    congr 1
    field_simp

/-- Multiplying by a positive number keeps differences. -/
theorem sub_mul_pos (x y : EReal) {c : ℝ} (hc : 0 < c) : x * (c : EReal) - y * (c : EReal) = (x - y) * (c : EReal) := by
  rw [sub_eq_add_neg, sub_eq_add_neg, ← EReal.neg_mul, EReal.right_distrib_of_nonneg_of_ne_top (EReal.coe_nonneg.mpr hc.le) (EReal.coe_ne_top c)]

/-- Multiplying by a positive number keeps the order. -/
theorem mul_pos_mono {c : ℝ} (hc : 0 < c) : Monotone fun x : EReal => x * (c : EReal) := fun x y h =>
  mul_le_mul_of_nonneg_right h (EReal.coe_nonneg.mpr hc.le)

/-- The maximum of scaled scores. -/
theorem Mx_mul (s : ℕ → EReal) (n : ℕ) {c : ℝ} (hc : 0 < c) : Mx (fun k => s k * (c : EReal)) n = Mx s n * (c : EReal) := by
  induction n with
  | zero => show (⊥ : EReal) = ⊥ * (c : EReal); rw [EReal.bot_mul_coe_of_pos hc]
  | succ n ih =>
    unfold Mx at *
    rw [Finset.range_add_one, Finset.sup_insert, Finset.sup_insert, ih]
    exact ((mul_pos_mono hc).map_sup (s n) _).symm

/-- An inverse is never plus infinity. -/
theorem inv_ne_top' (x : EReal) : x⁻¹ ≠ ⊤ := by
  induction x with
  | bot => simp
  | top => simp
  | coe r => rw [← EReal.coe_inv]; exact EReal.coe_ne_top _

/-- The absorbed state's quotient is the softmax's weighted sum over every later count of keys, when the keys past the absorbed
    ones have no score and the maximum is a number. -/
theorem quotient (s v : ℕ → EReal) (n N : ℕ) (hn : n ≤ N) (hs : ∀ k, n ≤ k → s k = ⊥) (hb : Mx s n ≠ ⊥) (ht : Mx s n ≠ ⊤) :
    Ideal.div (Ac (fun k => s k * ((Real.log 2)⁻¹ : ℝ)) v n) (Ls (fun k => s k * ((Real.log 2)⁻¹ : ℝ)) n)
      = ∑ k ∈ Finset.range N, Ideal.div (Ideal.exp (s k - Mx s N)) (∑ j ∈ Finset.range N, Ideal.exp (s j - Mx s N)) * v k := by
  have hl : 0 < Real.log 2 := Real.log_pos (by norm_num)
  have hc : 0 < (Real.log 2)⁻¹ := inv_pos.mpr hl
  obtain ⟨B, rfl⟩ := Nat.exists_eq_add_of_le hn
  have hM : Mx s (n + B) = Mx s n := by
    rw [Mx_add]
    refine max_eq_left (Finset.sup_le fun j _ => ?_)
    rw [hs _ (by omega)]
    exact bot_le
  have hz : ∀ j : Fin B, Ideal.exp (s (n + j.val) - Mx s n) = 0 := fun j => by
    rw [hs _ (by omega), EReal.bot_sub]
    rfl
  rw [hM, sum_add_block (fun j => Ideal.exp (s j - Mx s n)), sum_add_block (fun k => Ideal.div (Ideal.exp (s k - Mx s n)) _ * v k)]
  simp only [hz, Finset.sum_const_zero, add_zero]
  have he : ∀ k, Ideal.exp2 (s k * ((Real.log 2)⁻¹ : ℝ) - Mx (fun k => s k * ((Real.log 2)⁻¹ : ℝ)) n) = Ideal.exp (s k - Mx s n) := fun k => by
    rw [Mx_mul s n hc, sub_mul_pos _ _ hc, exp2_eq_exp]
  unfold Ac Ls
  simp only [he]
  set L := ∑ k ∈ Finset.range n, Ideal.exp (s k - Mx s n) with hL
  -- the maximum's own weight is one
  have hn0 : 0 < n := Nat.pos_of_ne_zero fun h => hb (by rw [h]; rfl)
  obtain ⟨k0, hk0, hk0'⟩ := Finset.exists_mem_eq_sup (Finset.range n) ⟨0, Finset.mem_range.mpr hn0⟩ s
  have hexp0 : ∀ x : EReal, 0 ≤ Ideal.exp x := fun x => by rw [← exp2_eq_exp]; exact exp2_nonneg _
  have hone : Ideal.exp (s k0 - Mx s n) = 1 := by
    have : s k0 = Mx s n := hk0'.symm
    rw [this]
    revert hb ht
    generalize Mx s n = m
    intro hb ht
    induction m with
    | bot => exact absurd rfl hb
    | top => exact absurd rfl ht
    | coe r => rw [← EReal.coe_sub, sub_self]; show ((Real.exp 0 : ℝ) : EReal) = 1; rw [Real.exp_zero]; rfl
  have hL1 : 1 ≤ L := by
    rw [← hone]
    exact Finset.single_le_sum (f := fun k => Ideal.exp (s k - Mx s n)) (fun k _ => hexp0 _) hk0
  have hL0 : L ≠ 0 := fun h => by rw [h] at hL1; exact absurd hL1 (by simp)
  have hle : ∀ k ∈ Finset.range n, Ideal.exp (s k - Mx s n) ≤ 1 := fun k hk => by
    rw [← he k]
    refine exp2_le_one (sub_nonpos' ?_)
    exact le_Mx (fun k => s k * ((Real.log 2)⁻¹ : ℝ)) (Finset.mem_range.mp hk)
  have hi0 : 0 ≤ L⁻¹ := EReal.inv_nonneg_of_nonneg (zero_le_one.trans hL1)
  have hit : L⁻¹ ≠ ⊤ := inv_ne_top' L
  unfold Ideal.div
  simp only [if_neg hL0, zero_mul, Finset.sum_const_zero, add_zero]
  rw [mul_comm, mul_sum' _ hi0 hit]
  refine Finset.sum_congr rfl fun k _ => ?_
  ac_rfl

end Cert.Mla

end
-- ==== Proof.MlaPay.lean ====
/-
  The payloads of the latent attention kernel, read element by element: the scores of a block of keys, and what absorbing
  that block leaves in the running maximum, the running sum and the running weighted sum.
-/
module

public import proofs.«01_k».proof.Proof.Gen.Kernel3Ideal.Skeleton
public import proofs.«01_k».proof.Proof.MlaMath

@[expose] public section

noncomputable section

namespace Cert.Mla

open Idealize.ShloMosaic Cert.Kernel3Ideal Cert.Kernel3Ideal.Gen

/-- The constant the maximum starts from. -/
theorem ofBits_bot : Ideal.ofBits FTy.f32 0xFF800000#32 = ⊥ := by simp [Ideal.ofBits, Ideal.ieee]

/-- The scores of a block of keys against the block of queries. -/
theorem score_at (kb : Vec Ideal S256x128 .bf16) (qb : Vec Ideal S512x128 .bf16) (j : Fin 256) (q : Fin 512) :
    k0_pay2 kb qb (ix2 j q) = ∑ d : Fin 128, kb (ix2 j d) * qb (ix2 q d) := by
  pointwise [k0_pay2]

/-- The new maximum of a query: the old one and the block's scores. -/
theorem max_at (m : FVec Ideal S1x512 .f32) (st : FVec Ideal S256x512 .f32) (q : Fin 512) :
    k0_pay11 m st (ix2 0 q) = max (m (ix2 0 q)) ((Finset.univ : Finset (Fin 256)).sup fun j => st (ix2 j q)) := by
  pointwise [k0_pay11]
  rw [ofBits_bot]
  rfl

/-- The new sum of a query's weights: the old one rescaled, and the block's. -/
theorem sum_at (m l : FVec Ideal S1x512 .f32) (st : FVec Ideal S256x512 .f32) (q : Fin 512) :
    k0_pay14 m l st (ix2 0 q) = Ideal.exp2 (m (ix2 0 q) - k0_pay11 m st (ix2 0 q)) * l (ix2 0 q)
      + ∑ j : Fin 256, Ideal.exp2 (st (ix2 j q) - k0_pay11 m st (ix2 0 q)) := by
  pointwise [k0_pay14, k0_pay13, k0_pay12]
  rfl

/-- The new weighted sum of a query: the old one rescaled, and the block's values under their weights. -/
theorem acc_at (m : FVec Ideal S1x512 .f32) (a : FVec Ideal S64x512 .f32) (st : FVec Ideal S256x512 .f32) (vb : Vec Ideal S1x64x256 .bf16)
    (d : Fin 64) (q : Fin 512) :
    k0_pay33 a (k0_pay13 m st) (k0_pay30 (k0_pay15 m st) vb) (ix2 d q)
      = Ideal.exp2 (m (ix2 0 q) - k0_pay11 m st (ix2 0 q)) * a (ix2 d q)
        + ∑ j : Fin 256, vb (ix3 0 d j) * Ideal.exp2 (st (ix2 j q) - k0_pay11 m st (ix2 0 q)) := by
  pointwise [k0_pay33, k0_pay30, k0_pay15, k0_pay13, k0_pay12]
  rfl

end Cert.Mla

end
-- ==== Proof.MlaStep.lean ====
/-
  One block of keys absorbed: the running maximum, sum and weighted sum stay those of the keys absorbed so far.
-/
module

public import proofs.«01_k».proof.Proof.MlaPay

@[expose] public section

noncomputable section

namespace Cert.Mla

open Idealize.ShloMosaic Cert.Kernel3Ideal Cert.Kernel3Ideal.Gen

/-- The three carried arrays of a head are the maximum, the sum and the weighted sum of the first `n` keys, for each of the
    block's queries. -/
structure Rel (s : Fin 512 → ℕ → EReal) (v : Fin 64 → ℕ → EReal) (n : ℕ) (m l : FVec Ideal S1x512 .f32) (a : FVec Ideal S64x512 .f32) : Prop where
  hm : ∀ q : Fin 512, (m (ix2 0 q) : EReal) = Mx (s q) n
  hl : ∀ q : Fin 512, (l (ix2 0 q) : EReal) = Ls (s q) n
  ha : ∀ (d : Fin 64) (q : Fin 512), (a (ix2 d q) : EReal) = Ac (s q) (v d) n

/-- The maximum after a block of scores. -/
abbrev nM (m : FVec Ideal S1x512 .f32) (st : FVec Ideal S256x512 .f32) : FVec Ideal S1x512 .f32 := k0_pay11 m st
/-- The sum after a block of scores. -/
abbrev nL (m l : FVec Ideal S1x512 .f32) (st : FVec Ideal S256x512 .f32) : FVec Ideal S1x512 .f32 := k0_pay14 m l st
/-- The weighted sum after a block of scores. -/
abbrev nA (m : FVec Ideal S1x512 .f32) (a : FVec Ideal S64x512 .f32) (st : FVec Ideal S256x512 .f32) (vb : Vec Ideal S1x64x256 .bf16) : FVec Ideal S64x512 .f32 :=
  k0_pay33 a (k0_pay13 m st) (k0_pay30 (k0_pay15 m st) vb)

/-- A block of keys absorbed. -/
theorem absorb {s : Fin 512 → ℕ → EReal} {v : Fin 64 → ℕ → EReal} {n : ℕ} {m l : FVec Ideal S1x512 .f32} {a : FVec Ideal S64x512 .f32}
    (h : Rel s v n m l a) (st : FVec Ideal S256x512 .f32) (vb : Vec Ideal S1x64x256 .bf16)
    (hst : ∀ (j : Fin 256) (q : Fin 512), (st (ix2 j q) : EReal) = s q (n + j.val))
    (hv : ∀ (d : Fin 64) (j : Fin 256), (vb (ix3 0 d j) : EReal) = v d (n + j.val)) :
    Rel s v (n + 256) (nM m st) (nL m l st) (nA m a st vb) := by
  have hM : ∀ q : Fin 512, (k0_pay11 m st (ix2 0 q) : EReal) = Mx (s q) (n + 256) := fun q => by
    rw [max_at, Mx_add, h.hm]
    simp only [hst]
  refine ⟨hM, fun q => ?_, fun d q => ?_⟩
  · refine (sum_at m l st q).trans ?_
    rw [Ls_add, hM, h.hm, h.hl]
    simp only [hst]
  · refine (acc_at m a st vb d q).trans ?_
    rw [Ac_add, hM, h.hm, h.ha]
    simp only [hst, hv]

/-- Two blocks of keys absorbed, from the blocks read. -/
theorem absorb2 {s : Fin 512 → ℕ → EReal} {v : Fin 64 → ℕ → EReal} {n : ℕ} {m l : FVec Ideal S1x512 .f32} {a : FVec Ideal S64x512 .f32}
    (h : Rel s v n m l a) (k0 k1 : Vec Ideal S256x128 .bf16) (qb : Vec Ideal S512x128 .bf16) (v0 v1 : Vec Ideal S1x64x256 .bf16)
    (h0 : ∀ (j : Fin 256) (q : Fin 512), (∑ d : Fin 128, (k0 (ix2 j d) : EReal) * qb (ix2 q d)) = s q (n + j.val))
    (h1 : ∀ (j : Fin 256) (q : Fin 512), (∑ d : Fin 128, (k1 (ix2 j d) : EReal) * qb (ix2 q d)) = s q (n + 256 + j.val))
    (hv0 : ∀ (d : Fin 64) (j : Fin 256), (v0 (ix3 0 d j) : EReal) = v d (n + j.val))
    (hv1 : ∀ (d : Fin 64) (j : Fin 256), (v1 (ix3 0 d j) : EReal) = v d (n + 256 + j.val)) :
    Rel s v (n + 512) (nM (nM m (k0_pay2 k0 qb)) (k0_pay2 k1 qb)) (nL (nM m (k0_pay2 k0 qb)) (nL m l (k0_pay2 k0 qb)) (k0_pay2 k1 qb))
      (nA (nM m (k0_pay2 k0 qb)) (nA m a (k0_pay2 k0 qb) v0) (k0_pay2 k1 qb) v1) :=
  absorb (absorb h _ _ (fun j q => (score_at k0 qb j q).trans (h0 j q)) hv0) _ _ (fun j q => (score_at k1 qb j q).trans (h1 j q)) hv1

/-- Comparing small words is comparing the numbers they hold. -/
theorem sle_small (x y : ℕ) (hx : x < 1024) (hy : y < 1024) :
    IntOp.cmpi .sle (BitVec.ofNat 32 x) (BitVec.ofNat 32 y) = if x ≤ y then 1#1 else 0#1 := by
  have tx : (BitVec.ofNat 32 x).toInt = x := by
    rw [BitVec.toInt_eq_toNat_of_lt (by rw [BitVec.toNat_ofNat]; omega), BitVec.toNat_ofNat]; omega
  have ty : (BitVec.ofNat 32 y).toInt = y := by
    rw [BitVec.toInt_eq_toNat_of_lt (by rw [BitVec.toNat_ofNat]; omega), BitVec.toNat_ofNat]; omega
  show BitVec.ofBool ((BitVec.ofNat 32 x).sle (BitVec.ofNat 32 y)) = _
  rw [BitVec.sle_eq_decide, tx, ty]
  by_cases h : x ≤ y
  · simp [h]
  · simp [h]

/-- The first masked block of scores: keys after the query count for nothing. -/
theorem mask0_at (st : FVec Ideal S256x512 .f32) (j : Fin 256) (q : Fin 512) :
    (k0_pay147 (F := Ideal) k0_pay136 st (ix2 j q) : EReal) = if j.val ≤ q.val then st (ix2 j q) else ⊥ := by
  pointwise [k0_pay147, k0_pay136]
  rw [show IntOp.addi (BitVec.ofNat 32 j.val) 0#32 = BitVec.ofNat 32 j.val from BitVec.add_zero _, sle_small _ _ (by omega) (by omega), ofBits_bot]
  by_cases h : j.val ≤ q.val
  · rw [if_pos h, if_pos h]; rfl
  · rw [if_neg h, if_neg h]; rfl

/-- The second masked block of scores. -/
theorem mask1_at (st : FVec Ideal S256x512 .f32) (j : Fin 256) (q : Fin 512) :
    (k0_pay147 (F := Ideal) k0_pay137 st (ix2 j q) : EReal) = if 256 + j.val ≤ q.val then st (ix2 j q) else ⊥ := by
  pointwise [k0_pay147, k0_pay137]
  rw [show IntOp.addi (BitVec.ofNat 32 j.val) 256#32 = BitVec.ofNat 32 (256 + j.val) from by
      rw [Nat.add_comm, BitVec.ofNat_add]; rfl, sle_small _ _ (by omega) (by omega), ofBits_bot]
  by_cases h : 256 + j.val ≤ q.val
  · rw [if_pos h, if_pos h]; rfl
  · rw [if_neg h, if_neg h]; rfl

/-- The two masked blocks of keys absorbed, from the blocks read. -/
theorem absorb2m {s : Fin 512 → ℕ → EReal} {v : Fin 64 → ℕ → EReal} {n : ℕ} {m l : FVec Ideal S1x512 .f32} {a : FVec Ideal S64x512 .f32}
    (h : Rel s v n m l a) (k0 k1 : Vec Ideal S256x128 .bf16) (qb : Vec Ideal S512x128 .bf16) (v0 v1 : Vec Ideal S1x64x256 .bf16)
    (h0 : ∀ (j : Fin 256) (q : Fin 512), (if j.val ≤ q.val then (∑ d : Fin 128, (k0 (ix2 j d) : EReal) * qb (ix2 q d)) else ⊥) = s q (n + j.val))
    (h1 : ∀ (j : Fin 256) (q : Fin 512), (if 256 + j.val ≤ q.val then (∑ d : Fin 128, (k1 (ix2 j d) : EReal) * qb (ix2 q d)) else ⊥) = s q (n + 256 + j.val))
    (hv0 : ∀ (d : Fin 64) (j : Fin 256), (v0 (ix3 0 d j) : EReal) = v d (n + j.val))
    (hv1 : ∀ (d : Fin 64) (j : Fin 256), (v1 (ix3 0 d j) : EReal) = v d (n + 256 + j.val)) :
    Rel s v (n + 512) (nM (nM m (k0_pay147 k0_pay136 (k0_pay2 k0 qb))) (k0_pay147 k0_pay137 (k0_pay2 k1 qb)))
      (nL (nM m (k0_pay147 k0_pay136 (k0_pay2 k0 qb))) (nL m l (k0_pay147 k0_pay136 (k0_pay2 k0 qb))) (k0_pay147 k0_pay137 (k0_pay2 k1 qb)))
      (nA (nM m (k0_pay147 k0_pay136 (k0_pay2 k0 qb))) (nA m a (k0_pay147 k0_pay136 (k0_pay2 k0 qb)) v0) (k0_pay147 k0_pay137 (k0_pay2 k1 qb)) v1) :=
  absorb (absorb h _ _ (fun j q => by rw [mask0_at, score_at]; exact h0 j q) hv0) _ _
    (fun j q => by rw [mask1_at, score_at]; exact h1 j q) hv1

/-- The arrays carried at the start are those of no key. -/
theorem init_rel (s : Fin 512 → ℕ → EReal) (v : Fin 64 → ℕ → EReal) : Rel s v 0 (k0_pay122 (F := Ideal)) (k0_pay123 (F := Ideal)) (k0_pay124 (F := Ideal)) := by
  refine ⟨fun q => ?_, fun q => ?_, fun d q => ?_⟩
  · pointwise [k0_pay122]; exact ofBits_bot
  · pointwise [k0_pay123]; rfl
  · pointwise [k0_pay124]; rfl

/-- The block written: each head's weighted sum over its sum. -/
theorem out_at (a0 a1 : FVec Ideal S64x512 .f32) (l0 l1 p2 l2 p3 l3 : FVec Ideal S1x512 .f32) (a2 a3 b0 b1 c1 : FVec Ideal S64x512 .f32)
    (A : Fin 4 → FVec Ideal S64x512 .f32) (L : Fin 4 → FVec Ideal S1x512 .f32)
    (hA0 : b1 = A 0) (hA1 : addf c1 a2 = A 1) (hA2 : k0_pay33 a0 p2 a3 = A 2) (hA3 : k0_pay33 a1 p3 b0 = A 3)
    (hL0 : l0 = L 0) (hL1 : l1 = L 1) (hL2 : l2 = L 2) (hL3 : l3 = L 3)
    (r : Fin 512) (h : Fin 4) (d : Fin 64) :
    (k0_pay1 (F := Ideal) a0 a1 l0 l1 p2 l2 p3 l3 a2 a3 b0 b1 c1 (ix2 r ⟨64 * h.val + d.val, by omega⟩) : EReal) = Ideal.div (A h (ix2 d r)) (L h (ix2 0 r)) := by
  have hA1 : ∀ d r, (c1 (ix2 d r) + a2 (ix2 d r) : EReal) = A 1 (ix2 d r) := fun d r => congrFun hA1 _
  have hA2 : ∀ d r, (p2 (ix2 0 r) * a0 (ix2 d r) + a3 (ix2 d r) : EReal) = A 2 (ix2 d r) := fun d r => by
    rw [← hA2]; pointwise [k0_pay33]
  have hA3 : ∀ d r, (p3 (ix2 0 r) * a1 (ix2 d r) + b0 (ix2 d r) : EReal) = A 3 (ix2 d r) := fun d r => by
    rw [← hA3]; pointwise [k0_pay33]
  have g : ∀ x : Fin 64, x.val = d.val → x = d := fun x hx => Fin.ext hx
  pointwise [k0_pay1]
  fin_cases h
  · rw [dif_pos (show 64 * 0 + d.val < 64 by omega), hA0, hL0, g ⟨64 * 0 + d.val, _⟩ (by simp)]
    rfl
  · rw [dif_neg (show ¬ 64 * 1 + d.val < 64 by omega), dif_pos (show 64 * 1 + d.val - 64 < 64 by omega), hA1, hL1, g ⟨64 * 1 + d.val - 64, _⟩ (by simp)]
    rfl
  · rw [dif_neg (show ¬ 64 * 2 + d.val < 64 by omega), dif_neg (show ¬ 64 * 2 + d.val - 64 < 64 by omega), dif_pos (show 64 * 2 + d.val - 64 - 64 < 64 by omega),
      hA2, hL2, g ⟨64 * 2 + d.val - 64 - 64, _⟩ (by show 64 * 2 + d.val - 64 - 64 = d.val; omega)]
    rfl
  · rw [dif_neg (show ¬ 64 * 3 + d.val < 64 by omega), dif_neg (show ¬ 64 * 3 + d.val - 64 < 64 by omega), dif_neg (show ¬ 64 * 3 + d.val - 64 - 64 < 64 by omega),
      hA3, hL3, g ⟨64 * 3 + d.val - 64 - 64 - 64, _⟩ (by show 64 * 3 + d.val - 64 - 64 - 64 = d.val; omega)]
    rfl

end Cert.Mla

end
-- ==== Proof.MlaTrip.lean ====
/-
  One trip over two blocks of keys, and the arrays it reads.
-/
module

public import proofs.«01_k».proof.Proof.Gen.Kernel3Ideal.Value
public import proofs.«01_k».proof.Proof.MlaStep

@[expose] public section

set_option maxRecDepth 20000

noncomputable section

namespace Cert.Mla

open Idealize.ShloMosaic Idealize.ShloMosaic.TcCoe Idealize.SL.Sem Cert.Kernel3Ideal Cert.Kernel3Ideal.Gen

/-- A block of 256 keys of one head, read from the keys. -/
abbrev rK (arg3 : Memref sig .tc .vmem S8192x512 .bf16) (X3 : BufTy.Contents (Elt Ideal) arg3.view.ty) (off : Fin 2 → ℕ)
    (inb : ∀ a, off a + S256x128.size a ≤ S8192x512.size a) : Vec Ideal S256x128 .bf16 :=
  View.readAt (Elt Ideal) arg3.view (Rect.unit (s := S8192x512) off S256x128.size inb).toLoadRect X3

/-- The queries of one head. -/
abbrev rQ (arg2 : Memref sig .tc .vmem S512x512 .bf16) (X2 : BufTy.Contents (Elt Ideal) arg2.view.ty) (off : Fin 2 → ℕ)
    (inb : ∀ a, off a + S512x128.size a ≤ S512x512.size a) : Vec Ideal S512x128 .bf16 :=
  View.readAt (Elt Ideal) arg2.view (Rect.unit (s := S512x512) off S512x128.size inb).toLoadRect X2

/-- A block of 256 values of one head. -/
abbrev rV (arg4 : Memref sig .tc .vmem S32x256x256 .bf16) (X4 : BufTy.Contents (Elt Ideal) arg4.view.ty) (off : Fin 3 → ℕ)
    (inb : ∀ a, off a + S1x64x256.size a ≤ S32x256x256.size a) : Vec Ideal S1x64x256 .bf16 :=
  View.readAt (Elt Ideal) arg4.view (Rect.unit (s := S32x256x256) off S1x64x256.size inb).toLoadRect X4

/-- The state the loop carries. -/
abbrev St : Type := FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32

/-- A trip absorbs two blocks of keys, for each of the four heads. -/
theorem trip_eq (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole)
    (X2 : BufTy.Contents (Elt Ideal) arg2.view.ty) (X3 : BufTy.Contents (Elt Ideal) arg3.view.ty) (X4 : BufTy.Contents (Elt Ideal) arg4.view.ty)
    (k : Fin (k0_t1_loop i).trips) (acc : St) :
    tripR_k0_t1 (F := Ideal) Variants.none c none i arg2 harg2 arg3 harg3 arg4 harg4 arg5 harg5 X2 X3 X4 k acc =
      (nM (nM acc.1 (k0_pay2 (rK arg3 X3 (k0_off1 i k 0#32) (k0_off1_inb i k 0)) (rQ arg2 X2 ![0, 0] inb_S512x512_S512x128_0_0))) (k0_pay2 (rK arg3 X3 (k0_off1 i k 1#32) (k0_off1_inb i k 1)) (rQ arg2 X2 ![0, 0] inb_S512x512_S512x128_0_0)),
        nL (nM acc.1 (k0_pay2 (rK arg3 X3 (k0_off1 i k 0#32) (k0_off1_inb i k 0)) (rQ arg2 X2 ![0, 0] inb_S512x512_S512x128_0_0))) (nL acc.1 acc.2.1 (k0_pay2 (rK arg3 X3 (k0_off1 i k 0#32) (k0_off1_inb i k 0)) (rQ arg2 X2 ![0, 0] inb_S512x512_S512x128_0_0))) (k0_pay2 (rK arg3 X3 (k0_off1 i k 1#32) (k0_off1_inb i k 1)) (rQ arg2 X2 ![0, 0] inb_S512x512_S512x128_0_0)),
        nA (nM acc.1 (k0_pay2 (rK arg3 X3 (k0_off1 i k 0#32) (k0_off1_inb i k 0)) (rQ arg2 X2 ![0, 0] inb_S512x512_S512x128_0_0))) (nA acc.1 acc.2.2.1 (k0_pay2 (rK arg3 X3 (k0_off1 i k 0#32) (k0_off1_inb i k 0)) (rQ arg2 X2 ![0, 0] inb_S512x512_S512x128_0_0)) (rV arg4 X4 (k0_off5 i k 0#32) (k0_off5_inb i k 0))) (k0_pay2 (rK arg3 X3 (k0_off1 i k 1#32) (k0_off1_inb i k 1)) (rQ arg2 X2 ![0, 0] inb_S512x512_S512x128_0_0)) (rV arg4 X4 (k0_off5 i k 1#32) (k0_off5_inb i k 1)),
        nM (nM acc.2.2.2.1 (k0_pay2 (rK arg3 X3 (k0_off2 i k 0#32) (k0_off2_inb i k 0)) (rQ arg2 X2 ![0, 128] inb_S512x512_S512x128_0_128))) (k0_pay2 (rK arg3 X3 (k0_off2 i k 1#32) (k0_off2_inb i k 1)) (rQ arg2 X2 ![0, 128] inb_S512x512_S512x128_0_128)),
        nL (nM acc.2.2.2.1 (k0_pay2 (rK arg3 X3 (k0_off2 i k 0#32) (k0_off2_inb i k 0)) (rQ arg2 X2 ![0, 128] inb_S512x512_S512x128_0_128))) (nL acc.2.2.2.1 acc.2.2.2.2.1 (k0_pay2 (rK arg3 X3 (k0_off2 i k 0#32) (k0_off2_inb i k 0)) (rQ arg2 X2 ![0, 128] inb_S512x512_S512x128_0_128))) (k0_pay2 (rK arg3 X3 (k0_off2 i k 1#32) (k0_off2_inb i k 1)) (rQ arg2 X2 ![0, 128] inb_S512x512_S512x128_0_128)),
        nA (nM acc.2.2.2.1 (k0_pay2 (rK arg3 X3 (k0_off2 i k 0#32) (k0_off2_inb i k 0)) (rQ arg2 X2 ![0, 128] inb_S512x512_S512x128_0_128))) (nA acc.2.2.2.1 acc.2.2.2.2.2.1 (k0_pay2 (rK arg3 X3 (k0_off2 i k 0#32) (k0_off2_inb i k 0)) (rQ arg2 X2 ![0, 128] inb_S512x512_S512x128_0_128)) (rV arg4 X4 (k0_off6 i k 0#32) (k0_off6_inb i k 0))) (k0_pay2 (rK arg3 X3 (k0_off2 i k 1#32) (k0_off2_inb i k 1)) (rQ arg2 X2 ![0, 128] inb_S512x512_S512x128_0_128)) (rV arg4 X4 (k0_off6 i k 1#32) (k0_off6_inb i k 1)),
        nM (nM acc.2.2.2.2.2.2.1 (k0_pay2 (rK arg3 X3 (k0_off3 i k 0#32) (k0_off3_inb i k 0)) (rQ arg2 X2 ![0, 256] inb_S512x512_S512x128_0_256))) (k0_pay2 (rK arg3 X3 (k0_off3 i k 1#32) (k0_off3_inb i k 1)) (rQ arg2 X2 ![0, 256] inb_S512x512_S512x128_0_256)),
        nL (nM acc.2.2.2.2.2.2.1 (k0_pay2 (rK arg3 X3 (k0_off3 i k 0#32) (k0_off3_inb i k 0)) (rQ arg2 X2 ![0, 256] inb_S512x512_S512x128_0_256))) (nL acc.2.2.2.2.2.2.1 acc.2.2.2.2.2.2.2.1 (k0_pay2 (rK arg3 X3 (k0_off3 i k 0#32) (k0_off3_inb i k 0)) (rQ arg2 X2 ![0, 256] inb_S512x512_S512x128_0_256))) (k0_pay2 (rK arg3 X3 (k0_off3 i k 1#32) (k0_off3_inb i k 1)) (rQ arg2 X2 ![0, 256] inb_S512x512_S512x128_0_256)),
        nA (nM acc.2.2.2.2.2.2.1 (k0_pay2 (rK arg3 X3 (k0_off3 i k 0#32) (k0_off3_inb i k 0)) (rQ arg2 X2 ![0, 256] inb_S512x512_S512x128_0_256))) (nA acc.2.2.2.2.2.2.1 acc.2.2.2.2.2.2.2.2.1 (k0_pay2 (rK arg3 X3 (k0_off3 i k 0#32) (k0_off3_inb i k 0)) (rQ arg2 X2 ![0, 256] inb_S512x512_S512x128_0_256)) (rV arg4 X4 (k0_off7 i k 0#32) (k0_off7_inb i k 0))) (k0_pay2 (rK arg3 X3 (k0_off3 i k 1#32) (k0_off3_inb i k 1)) (rQ arg2 X2 ![0, 256] inb_S512x512_S512x128_0_256)) (rV arg4 X4 (k0_off7 i k 1#32) (k0_off7_inb i k 1)),
        nM (nM acc.2.2.2.2.2.2.2.2.2.1 (k0_pay2 (rK arg3 X3 (k0_off4 i k 0#32) (k0_off4_inb i k 0)) (rQ arg2 X2 ![0, 384] inb_S512x512_S512x128_0_384))) (k0_pay2 (rK arg3 X3 (k0_off4 i k 1#32) (k0_off4_inb i k 1)) (rQ arg2 X2 ![0, 384] inb_S512x512_S512x128_0_384)),
        nL (nM acc.2.2.2.2.2.2.2.2.2.1 (k0_pay2 (rK arg3 X3 (k0_off4 i k 0#32) (k0_off4_inb i k 0)) (rQ arg2 X2 ![0, 384] inb_S512x512_S512x128_0_384))) (nL acc.2.2.2.2.2.2.2.2.2.1 acc.2.2.2.2.2.2.2.2.2.2.1 (k0_pay2 (rK arg3 X3 (k0_off4 i k 0#32) (k0_off4_inb i k 0)) (rQ arg2 X2 ![0, 384] inb_S512x512_S512x128_0_384))) (k0_pay2 (rK arg3 X3 (k0_off4 i k 1#32) (k0_off4_inb i k 1)) (rQ arg2 X2 ![0, 384] inb_S512x512_S512x128_0_384)),
        nA (nM acc.2.2.2.2.2.2.2.2.2.1 (k0_pay2 (rK arg3 X3 (k0_off4 i k 0#32) (k0_off4_inb i k 0)) (rQ arg2 X2 ![0, 384] inb_S512x512_S512x128_0_384))) (nA acc.2.2.2.2.2.2.2.2.2.1 acc.2.2.2.2.2.2.2.2.2.2.2 (k0_pay2 (rK arg3 X3 (k0_off4 i k 0#32) (k0_off4_inb i k 0)) (rQ arg2 X2 ![0, 384] inb_S512x512_S512x128_0_384)) (rV arg4 X4 (k0_off8 i k 0#32) (k0_off8_inb i k 0))) (k0_pay2 (rK arg3 X3 (k0_off4 i k 1#32) (k0_off4_inb i k 1)) (rQ arg2 X2 ![0, 384] inb_S512x512_S512x128_0_384)) (rV arg4 X4 (k0_off8 i k 1#32) (k0_off8_inb i k 1))) := by
  unfold tripR_k0_t1 trip_k0_t1
  dsimp only
  sl_unfold_words
  rfl

end Cert.Mla

end
-- ==== Proof.MlaKernel.lean ====
/-
  What the kernel's body leaves in its block.
-/
module

public import proofs.«01_k».proof.Proof.MlaTrip
public import Idealize.ShloMosaic.Lib.WritesUnit
public import Idealize.ShloMosaic.Lib.WholeRead

@[expose] public section

set_option maxRecDepth 20000

noncomputable section

namespace Cert.Mla

open Idealize.ShloMosaic Idealize.ShloMosaic.TcCoe Idealize.SL.Sem Cert.Kernel3Ideal Cert.Kernel3Ideal.Gen

/-- The state after the loop over the blocks wholly before the queries. -/
def lp1 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) (n : ℕ) : St :=
  st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) n

/-- The arrays after the two masked blocks, from those before them: maximum, sum, weighted sum of each head. -/
def fin (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) (acc : St) : St :=
  (nM (nM acc.1 (k0_pay147 k0_pay136 (k0_pay2 (rK arg3 (harg3.unread x1) (k0_off17 i 0#32) (k0_off17_inb i 0)) (rQ arg2 (harg2.unread x0) ![0, 0] inb_S512x512_S512x128_0_0)))) (k0_pay147 k0_pay137 (k0_pay2 (rK arg3 (harg3.unread x1) (k0_off17 i 1#32) (k0_off17_inb i 1)) (rQ arg2 (harg2.unread x0) ![0, 0] inb_S512x512_S512x128_0_0))),
        nL (nM acc.1 (k0_pay147 k0_pay136 (k0_pay2 (rK arg3 (harg3.unread x1) (k0_off17 i 0#32) (k0_off17_inb i 0)) (rQ arg2 (harg2.unread x0) ![0, 0] inb_S512x512_S512x128_0_0)))) (nL acc.1 acc.2.1 (k0_pay147 k0_pay136 (k0_pay2 (rK arg3 (harg3.unread x1) (k0_off17 i 0#32) (k0_off17_inb i 0)) (rQ arg2 (harg2.unread x0) ![0, 0] inb_S512x512_S512x128_0_0)))) (k0_pay147 k0_pay137 (k0_pay2 (rK arg3 (harg3.unread x1) (k0_off17 i 1#32) (k0_off17_inb i 1)) (rQ arg2 (harg2.unread x0) ![0, 0] inb_S512x512_S512x128_0_0))),
        nA (nM acc.1 (k0_pay147 k0_pay136 (k0_pay2 (rK arg3 (harg3.unread x1) (k0_off17 i 0#32) (k0_off17_inb i 0)) (rQ arg2 (harg2.unread x0) ![0, 0] inb_S512x512_S512x128_0_0)))) (nA acc.1 acc.2.2.1 (k0_pay147 k0_pay136 (k0_pay2 (rK arg3 (harg3.unread x1) (k0_off17 i 0#32) (k0_off17_inb i 0)) (rQ arg2 (harg2.unread x0) ![0, 0] inb_S512x512_S512x128_0_0))) (rV arg4 (harg4.unread x2) (k0_off21 i 0#32) (k0_off21_inb i 0))) (k0_pay147 k0_pay137 (k0_pay2 (rK arg3 (harg3.unread x1) (k0_off17 i 1#32) (k0_off17_inb i 1)) (rQ arg2 (harg2.unread x0) ![0, 0] inb_S512x512_S512x128_0_0))) (rV arg4 (harg4.unread x2) (k0_off21 i 1#32) (k0_off21_inb i 1)),
        nM (nM acc.2.2.2.1 (k0_pay147 k0_pay136 (k0_pay2 (rK arg3 (harg3.unread x1) (k0_off18 i 0#32) (k0_off18_inb i 0)) (rQ arg2 (harg2.unread x0) ![0, 128] inb_S512x512_S512x128_0_128)))) (k0_pay147 k0_pay137 (k0_pay2 (rK arg3 (harg3.unread x1) (k0_off18 i 1#32) (k0_off18_inb i 1)) (rQ arg2 (harg2.unread x0) ![0, 128] inb_S512x512_S512x128_0_128))),
        nL (nM acc.2.2.2.1 (k0_pay147 k0_pay136 (k0_pay2 (rK arg3 (harg3.unread x1) (k0_off18 i 0#32) (k0_off18_inb i 0)) (rQ arg2 (harg2.unread x0) ![0, 128] inb_S512x512_S512x128_0_128)))) (nL acc.2.2.2.1 acc.2.2.2.2.1 (k0_pay147 k0_pay136 (k0_pay2 (rK arg3 (harg3.unread x1) (k0_off18 i 0#32) (k0_off18_inb i 0)) (rQ arg2 (harg2.unread x0) ![0, 128] inb_S512x512_S512x128_0_128)))) (k0_pay147 k0_pay137 (k0_pay2 (rK arg3 (harg3.unread x1) (k0_off18 i 1#32) (k0_off18_inb i 1)) (rQ arg2 (harg2.unread x0) ![0, 128] inb_S512x512_S512x128_0_128))),
        nA (nM acc.2.2.2.1 (k0_pay147 k0_pay136 (k0_pay2 (rK arg3 (harg3.unread x1) (k0_off18 i 0#32) (k0_off18_inb i 0)) (rQ arg2 (harg2.unread x0) ![0, 128] inb_S512x512_S512x128_0_128)))) (nA acc.2.2.2.1 acc.2.2.2.2.2.1 (k0_pay147 k0_pay136 (k0_pay2 (rK arg3 (harg3.unread x1) (k0_off18 i 0#32) (k0_off18_inb i 0)) (rQ arg2 (harg2.unread x0) ![0, 128] inb_S512x512_S512x128_0_128))) (rV arg4 (harg4.unread x2) (k0_off22 i 0#32) (k0_off22_inb i 0))) (k0_pay147 k0_pay137 (k0_pay2 (rK arg3 (harg3.unread x1) (k0_off18 i 1#32) (k0_off18_inb i 1)) (rQ arg2 (harg2.unread x0) ![0, 128] inb_S512x512_S512x128_0_128))) (rV arg4 (harg4.unread x2) (k0_off22 i 1#32) (k0_off22_inb i 1)),
        nM (nM acc.2.2.2.2.2.2.1 (k0_pay147 k0_pay136 (k0_pay2 (rK arg3 (harg3.unread x1) (k0_off19 i 0#32) (k0_off19_inb i 0)) (rQ arg2 (harg2.unread x0) ![0, 256] inb_S512x512_S512x128_0_256)))) (k0_pay147 k0_pay137 (k0_pay2 (rK arg3 (harg3.unread x1) (k0_off19 i 1#32) (k0_off19_inb i 1)) (rQ arg2 (harg2.unread x0) ![0, 256] inb_S512x512_S512x128_0_256))),
        nL (nM acc.2.2.2.2.2.2.1 (k0_pay147 k0_pay136 (k0_pay2 (rK arg3 (harg3.unread x1) (k0_off19 i 0#32) (k0_off19_inb i 0)) (rQ arg2 (harg2.unread x0) ![0, 256] inb_S512x512_S512x128_0_256)))) (nL acc.2.2.2.2.2.2.1 acc.2.2.2.2.2.2.2.1 (k0_pay147 k0_pay136 (k0_pay2 (rK arg3 (harg3.unread x1) (k0_off19 i 0#32) (k0_off19_inb i 0)) (rQ arg2 (harg2.unread x0) ![0, 256] inb_S512x512_S512x128_0_256)))) (k0_pay147 k0_pay137 (k0_pay2 (rK arg3 (harg3.unread x1) (k0_off19 i 1#32) (k0_off19_inb i 1)) (rQ arg2 (harg2.unread x0) ![0, 256] inb_S512x512_S512x128_0_256))),
        nA (nM acc.2.2.2.2.2.2.1 (k0_pay147 k0_pay136 (k0_pay2 (rK arg3 (harg3.unread x1) (k0_off19 i 0#32) (k0_off19_inb i 0)) (rQ arg2 (harg2.unread x0) ![0, 256] inb_S512x512_S512x128_0_256)))) (nA acc.2.2.2.2.2.2.1 acc.2.2.2.2.2.2.2.2.1 (k0_pay147 k0_pay136 (k0_pay2 (rK arg3 (harg3.unread x1) (k0_off19 i 0#32) (k0_off19_inb i 0)) (rQ arg2 (harg2.unread x0) ![0, 256] inb_S512x512_S512x128_0_256))) (rV arg4 (harg4.unread x2) (k0_off23 i 0#32) (k0_off23_inb i 0))) (k0_pay147 k0_pay137 (k0_pay2 (rK arg3 (harg3.unread x1) (k0_off19 i 1#32) (k0_off19_inb i 1)) (rQ arg2 (harg2.unread x0) ![0, 256] inb_S512x512_S512x128_0_256))) (rV arg4 (harg4.unread x2) (k0_off23 i 1#32) (k0_off23_inb i 1)),
        nM (nM acc.2.2.2.2.2.2.2.2.2.1 (k0_pay147 k0_pay136 (k0_pay2 (rK arg3 (harg3.unread x1) (k0_off20 i 0#32) (k0_off20_inb i 0)) (rQ arg2 (harg2.unread x0) ![0, 384] inb_S512x512_S512x128_0_384)))) (k0_pay147 k0_pay137 (k0_pay2 (rK arg3 (harg3.unread x1) (k0_off20 i 1#32) (k0_off20_inb i 1)) (rQ arg2 (harg2.unread x0) ![0, 384] inb_S512x512_S512x128_0_384))),
        nL (nM acc.2.2.2.2.2.2.2.2.2.1 (k0_pay147 k0_pay136 (k0_pay2 (rK arg3 (harg3.unread x1) (k0_off20 i 0#32) (k0_off20_inb i 0)) (rQ arg2 (harg2.unread x0) ![0, 384] inb_S512x512_S512x128_0_384)))) (nL acc.2.2.2.2.2.2.2.2.2.1 acc.2.2.2.2.2.2.2.2.2.2.1 (k0_pay147 k0_pay136 (k0_pay2 (rK arg3 (harg3.unread x1) (k0_off20 i 0#32) (k0_off20_inb i 0)) (rQ arg2 (harg2.unread x0) ![0, 384] inb_S512x512_S512x128_0_384)))) (k0_pay147 k0_pay137 (k0_pay2 (rK arg3 (harg3.unread x1) (k0_off20 i 1#32) (k0_off20_inb i 1)) (rQ arg2 (harg2.unread x0) ![0, 384] inb_S512x512_S512x128_0_384))),
        nA (nM acc.2.2.2.2.2.2.2.2.2.1 (k0_pay147 k0_pay136 (k0_pay2 (rK arg3 (harg3.unread x1) (k0_off20 i 0#32) (k0_off20_inb i 0)) (rQ arg2 (harg2.unread x0) ![0, 384] inb_S512x512_S512x128_0_384)))) (nA acc.2.2.2.2.2.2.2.2.2.1 acc.2.2.2.2.2.2.2.2.2.2.2 (k0_pay147 k0_pay136 (k0_pay2 (rK arg3 (harg3.unread x1) (k0_off20 i 0#32) (k0_off20_inb i 0)) (rQ arg2 (harg2.unread x0) ![0, 384] inb_S512x512_S512x128_0_384))) (rV arg4 (harg4.unread x2) (k0_off24 i 0#32) (k0_off24_inb i 0))) (k0_pay147 k0_pay137 (k0_pay2 (rK arg3 (harg3.unread x1) (k0_off20 i 1#32) (k0_off20_inb i 1)) (rQ arg2 (harg2.unread x0) ![0, 384] inb_S512x512_S512x128_0_384))) (rV arg4 (harg4.unread x2) (k0_off24 i 1#32) (k0_off24_inb i 1)))

/-- A head's sum in a state. -/
def stL (a : St) : Fin 4 → FVec Ideal S1x512 .f32 := ![a.2.1, a.2.2.2.2.1, a.2.2.2.2.2.2.2.1, a.2.2.2.2.2.2.2.2.2.2.1]
/-- A head's weighted sum in a state. -/
def stA (a : St) : Fin 4 → FVec Ideal S64x512 .f32 := ![a.2.2.1, a.2.2.2.2.2.1, a.2.2.2.2.2.2.2.2.1, a.2.2.2.2.2.2.2.2.2.2.2]
/-- A head's maximum in a state. -/
def stM (a : St) : Fin 4 → FVec Ideal S1x512 .f32 := ![a.1, a.2.2.2.1, a.2.2.2.2.2.2.1, a.2.2.2.2.2.2.2.2.2.1]

/-- The first loop runs once for each pair of blocks before the queries. -/
theorem trips1 (i : grid0.Coords) : (k0_t1_loop i).trips = (i 1).val := by
  have h : ∀ n : Fin 16, (⟨0#32, Scalar.addi 0#32 (Scalar.muli (Scalar.divsi (Scalar.subi (BitVec.ofNat 32 n.val) 0#32) 1#32) 1#32), 1#32⟩ : Scf.Loop 32).trips = n.val := by
    decide +kernel
  exact h (i 1)

/-- The second loop never runs. -/
theorem trips2 (i : grid0.Coords) : (k0_t2_loop i).trips = 0 := by
  have h : ∀ n : Fin 16, (⟨Scalar.addi 0#32 (Scalar.muli (Scalar.divsi (Scalar.subi (BitVec.ofNat 32 n.val) 0#32) 1#32) 1#32),
      Scalar.addi 0#32 (Scalar.subi (BitVec.ofNat 32 n.val) 0#32), 1#32⟩ : Scf.Loop 32).trips = 0 := by
    decide +kernel
  exact h (i 1)

/-- The second loop leaves its state. -/
theorem loop2_eq (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) (v : BitVec 32) (a : St) :
    st_k0_t2 (F := Ideal) Variants.none c none i arg2 harg2 arg3 harg3 arg4 harg4 arg5 harg5 v (harg2.unread x0) (harg3.unread x1) (harg4.unread x2) a (Scf.trips (Scalar.addi 0#32 (Scalar.muli (Scalar.divsi (Scalar.subi (BitVec.ofNat 32 (i 1).val) 0#32) 1#32) 1#32)) (Scalar.addi 0#32 (Scalar.subi (BitVec.ofNat 32 (i 1).val) 0#32)) 1#32) = a := by
  rw [show (Scf.trips (Scalar.addi 0#32 (Scalar.muli (Scalar.divsi (Scalar.subi (BitVec.ofNat 32 (i 1).val) 0#32) 1#32) 1#32)) (Scalar.addi 0#32 (Scalar.subi (BitVec.ofNat 32 (i 1).val) 0#32)) 1#32) = 0 from trips2 i]; rfl

/-- The first loop's count. -/
theorem loop1_eq (i : grid0.Coords) : Scf.trips 0#32 (Scalar.addi 0#32 (Scalar.muli (Scalar.divsi (Scalar.subi (BitVec.ofNat 32 (i 1).val) 0#32) 1#32) 1#32)) 1#32 = (i 1).val := trips1 i

/-- The first head's weighted sum. -/
theorem hA0 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) :
    (kernelRun0_A.sl.r_60 (F := Ideal) c i arg2 harg2 arg3 harg3 arg4 harg4 arg5 harg5 x0 x1 x2) = nA (nM (lp1 c i arg2 harg2 arg3 harg3 arg4 harg4 arg5 harg5 x0 x1 x2 (i 1).val).1 (k0_pay147 k0_pay136 (k0_pay2 (rK arg3 (harg3.unread x1) (k0_off17 i 0#32) (k0_off17_inb i 0)) (rQ arg2 (harg2.unread x0) ![0, 0] inb_S512x512_S512x128_0_0)))) (nA (lp1 c i arg2 harg2 arg3 harg3 arg4 harg4 arg5 harg5 x0 x1 x2 (i 1).val).1 (lp1 c i arg2 harg2 arg3 harg3 arg4 harg4 arg5 harg5 x0 x1 x2 (i 1).val).2.2.1 (k0_pay147 k0_pay136 (k0_pay2 (rK arg3 (harg3.unread x1) (k0_off17 i 0#32) (k0_off17_inb i 0)) (rQ arg2 (harg2.unread x0) ![0, 0] inb_S512x512_S512x128_0_0))) (rV arg4 (harg4.unread x2) (k0_off21 i 0#32) (k0_off21_inb i 0))) (k0_pay147 k0_pay137 (k0_pay2 (rK arg3 (harg3.unread x1) (k0_off17 i 1#32) (k0_off17_inb i 1)) (rQ arg2 (harg2.unread x0) ![0, 0] inb_S512x512_S512x128_0_0))) (rV arg4 (harg4.unread x2) (k0_off21 i 1#32) (k0_off21_inb i 1)) := by
  sl_unfold_words
  simp only [Prod.mk.eta, loop1_eq]
  rw [loop2_eq]
  unfold lp1
  generalize st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) (i 1).val = acc
  rfl

/-- The second head's weighted sum. -/
theorem hA1 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) :
    addf (kernelRun0_A.sl.r_61 (F := Ideal) c i arg2 harg2 arg3 harg3 arg4 harg4 arg5 harg5 x0 x1 x2) (kernelRun0_A.sl.r_57 (F := Ideal) c i arg2 harg2 arg3 harg3 arg4 harg4 arg5 harg5 x0 x1 x2) = nA (nM (lp1 c i arg2 harg2 arg3 harg3 arg4 harg4 arg5 harg5 x0 x1 x2 (i 1).val).2.2.2.1 (k0_pay147 k0_pay136 (k0_pay2 (rK arg3 (harg3.unread x1) (k0_off18 i 0#32) (k0_off18_inb i 0)) (rQ arg2 (harg2.unread x0) ![0, 128] inb_S512x512_S512x128_0_128)))) (nA (lp1 c i arg2 harg2 arg3 harg3 arg4 harg4 arg5 harg5 x0 x1 x2 (i 1).val).2.2.2.1 (lp1 c i arg2 harg2 arg3 harg3 arg4 harg4 arg5 harg5 x0 x1 x2 (i 1).val).2.2.2.2.2.1 (k0_pay147 k0_pay136 (k0_pay2 (rK arg3 (harg3.unread x1) (k0_off18 i 0#32) (k0_off18_inb i 0)) (rQ arg2 (harg2.unread x0) ![0, 128] inb_S512x512_S512x128_0_128))) (rV arg4 (harg4.unread x2) (k0_off22 i 0#32) (k0_off22_inb i 0))) (k0_pay147 k0_pay137 (k0_pay2 (rK arg3 (harg3.unread x1) (k0_off18 i 1#32) (k0_off18_inb i 1)) (rQ arg2 (harg2.unread x0) ![0, 128] inb_S512x512_S512x128_0_128))) (rV arg4 (harg4.unread x2) (k0_off22 i 1#32) (k0_off22_inb i 1)) := by
  sl_unfold_words
  simp only [Prod.mk.eta, loop1_eq]
  rw [loop2_eq]
  unfold lp1
  generalize st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) (i 1).val = acc
  rfl

/-- The third head's weighted sum. -/
theorem hA2 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) :
    k0_pay33 (kernelRun0_A.sl.r_43 (F := Ideal) c i arg2 harg2 arg3 harg3 arg4 harg4 arg5 harg5 x0 x1 x2) (kernelRun0_A.sl.r_53 (F := Ideal) c i arg2 harg2 arg3 harg3 arg4 harg4 arg5 harg5 x0 x1 x2) (kernelRun0_A.sl.r_58 (F := Ideal) c i arg2 harg2 arg3 harg3 arg4 harg4 arg5 harg5 x0 x1 x2) = nA (nM (lp1 c i arg2 harg2 arg3 harg3 arg4 harg4 arg5 harg5 x0 x1 x2 (i 1).val).2.2.2.2.2.2.1 (k0_pay147 k0_pay136 (k0_pay2 (rK arg3 (harg3.unread x1) (k0_off19 i 0#32) (k0_off19_inb i 0)) (rQ arg2 (harg2.unread x0) ![0, 256] inb_S512x512_S512x128_0_256)))) (nA (lp1 c i arg2 harg2 arg3 harg3 arg4 harg4 arg5 harg5 x0 x1 x2 (i 1).val).2.2.2.2.2.2.1 (lp1 c i arg2 harg2 arg3 harg3 arg4 harg4 arg5 harg5 x0 x1 x2 (i 1).val).2.2.2.2.2.2.2.2.1 (k0_pay147 k0_pay136 (k0_pay2 (rK arg3 (harg3.unread x1) (k0_off19 i 0#32) (k0_off19_inb i 0)) (rQ arg2 (harg2.unread x0) ![0, 256] inb_S512x512_S512x128_0_256))) (rV arg4 (harg4.unread x2) (k0_off23 i 0#32) (k0_off23_inb i 0))) (k0_pay147 k0_pay137 (k0_pay2 (rK arg3 (harg3.unread x1) (k0_off19 i 1#32) (k0_off19_inb i 1)) (rQ arg2 (harg2.unread x0) ![0, 256] inb_S512x512_S512x128_0_256))) (rV arg4 (harg4.unread x2) (k0_off23 i 1#32) (k0_off23_inb i 1)) := by
  sl_unfold_words
  simp only [Prod.mk.eta, loop1_eq]
  rw [loop2_eq]
  unfold lp1
  generalize st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) (i 1).val = acc
  rfl

/-- The fourth head's weighted sum. -/
theorem hA3 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) :
    k0_pay33 (kernelRun0_A.sl.r_44 (F := Ideal) c i arg2 harg2 arg3 harg3 arg4 harg4 arg5 harg5 x0 x1 x2) (kernelRun0_A.sl.r_55 (F := Ideal) c i arg2 harg2 arg3 harg3 arg4 harg4 arg5 harg5 x0 x1 x2) (kernelRun0_A.sl.r_59 (F := Ideal) c i arg2 harg2 arg3 harg3 arg4 harg4 arg5 harg5 x0 x1 x2) = nA (nM (lp1 c i arg2 harg2 arg3 harg3 arg4 harg4 arg5 harg5 x0 x1 x2 (i 1).val).2.2.2.2.2.2.2.2.2.1 (k0_pay147 k0_pay136 (k0_pay2 (rK arg3 (harg3.unread x1) (k0_off20 i 0#32) (k0_off20_inb i 0)) (rQ arg2 (harg2.unread x0) ![0, 384] inb_S512x512_S512x128_0_384)))) (nA (lp1 c i arg2 harg2 arg3 harg3 arg4 harg4 arg5 harg5 x0 x1 x2 (i 1).val).2.2.2.2.2.2.2.2.2.1 (lp1 c i arg2 harg2 arg3 harg3 arg4 harg4 arg5 harg5 x0 x1 x2 (i 1).val).2.2.2.2.2.2.2.2.2.2.2 (k0_pay147 k0_pay136 (k0_pay2 (rK arg3 (harg3.unread x1) (k0_off20 i 0#32) (k0_off20_inb i 0)) (rQ arg2 (harg2.unread x0) ![0, 384] inb_S512x512_S512x128_0_384))) (rV arg4 (harg4.unread x2) (k0_off24 i 0#32) (k0_off24_inb i 0))) (k0_pay147 k0_pay137 (k0_pay2 (rK arg3 (harg3.unread x1) (k0_off20 i 1#32) (k0_off20_inb i 1)) (rQ arg2 (harg2.unread x0) ![0, 384] inb_S512x512_S512x128_0_384))) (rV arg4 (harg4.unread x2) (k0_off24 i 1#32) (k0_off24_inb i 1)) := by
  sl_unfold_words
  simp only [Prod.mk.eta, loop1_eq]
  rw [loop2_eq]
  unfold lp1
  generalize st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) (i 1).val = acc
  rfl

/-- The first head's sum. -/
theorem hL0 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) :
    (kernelRun0_A.sl.r_46 (F := Ideal) c i arg2 harg2 arg3 harg3 arg4 harg4 arg5 harg5 x0 x1 x2) = nL (nM (lp1 c i arg2 harg2 arg3 harg3 arg4 harg4 arg5 harg5 x0 x1 x2 (i 1).val).1 (k0_pay147 k0_pay136 (k0_pay2 (rK arg3 (harg3.unread x1) (k0_off17 i 0#32) (k0_off17_inb i 0)) (rQ arg2 (harg2.unread x0) ![0, 0] inb_S512x512_S512x128_0_0)))) (nL (lp1 c i arg2 harg2 arg3 harg3 arg4 harg4 arg5 harg5 x0 x1 x2 (i 1).val).1 (lp1 c i arg2 harg2 arg3 harg3 arg4 harg4 arg5 harg5 x0 x1 x2 (i 1).val).2.1 (k0_pay147 k0_pay136 (k0_pay2 (rK arg3 (harg3.unread x1) (k0_off17 i 0#32) (k0_off17_inb i 0)) (rQ arg2 (harg2.unread x0) ![0, 0] inb_S512x512_S512x128_0_0)))) (k0_pay147 k0_pay137 (k0_pay2 (rK arg3 (harg3.unread x1) (k0_off17 i 1#32) (k0_off17_inb i 1)) (rQ arg2 (harg2.unread x0) ![0, 0] inb_S512x512_S512x128_0_0))) := by
  sl_unfold_words
  simp only [Prod.mk.eta, loop1_eq]
  rw [loop2_eq]
  unfold lp1
  generalize st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) (i 1).val = acc
  rfl

/-- The second head's sum. -/
theorem hL1 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) :
    (kernelRun0_A.sl.r_49 (F := Ideal) c i arg2 harg2 arg3 harg3 arg4 harg4 arg5 harg5 x0 x1 x2) = nL (nM (lp1 c i arg2 harg2 arg3 harg3 arg4 harg4 arg5 harg5 x0 x1 x2 (i 1).val).2.2.2.1 (k0_pay147 k0_pay136 (k0_pay2 (rK arg3 (harg3.unread x1) (k0_off18 i 0#32) (k0_off18_inb i 0)) (rQ arg2 (harg2.unread x0) ![0, 128] inb_S512x512_S512x128_0_128)))) (nL (lp1 c i arg2 harg2 arg3 harg3 arg4 harg4 arg5 harg5 x0 x1 x2 (i 1).val).2.2.2.1 (lp1 c i arg2 harg2 arg3 harg3 arg4 harg4 arg5 harg5 x0 x1 x2 (i 1).val).2.2.2.2.1 (k0_pay147 k0_pay136 (k0_pay2 (rK arg3 (harg3.unread x1) (k0_off18 i 0#32) (k0_off18_inb i 0)) (rQ arg2 (harg2.unread x0) ![0, 128] inb_S512x512_S512x128_0_128)))) (k0_pay147 k0_pay137 (k0_pay2 (rK arg3 (harg3.unread x1) (k0_off18 i 1#32) (k0_off18_inb i 1)) (rQ arg2 (harg2.unread x0) ![0, 128] inb_S512x512_S512x128_0_128))) := by
  sl_unfold_words
  simp only [Prod.mk.eta, loop1_eq]
  rw [loop2_eq]
  unfold lp1
  generalize st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) (i 1).val = acc
  rfl

/-- The third head's sum. -/
theorem hL2 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) :
    (kernelRun0_A.sl.r_54 (F := Ideal) c i arg2 harg2 arg3 harg3 arg4 harg4 arg5 harg5 x0 x1 x2) = nL (nM (lp1 c i arg2 harg2 arg3 harg3 arg4 harg4 arg5 harg5 x0 x1 x2 (i 1).val).2.2.2.2.2.2.1 (k0_pay147 k0_pay136 (k0_pay2 (rK arg3 (harg3.unread x1) (k0_off19 i 0#32) (k0_off19_inb i 0)) (rQ arg2 (harg2.unread x0) ![0, 256] inb_S512x512_S512x128_0_256)))) (nL (lp1 c i arg2 harg2 arg3 harg3 arg4 harg4 arg5 harg5 x0 x1 x2 (i 1).val).2.2.2.2.2.2.1 (lp1 c i arg2 harg2 arg3 harg3 arg4 harg4 arg5 harg5 x0 x1 x2 (i 1).val).2.2.2.2.2.2.2.1 (k0_pay147 k0_pay136 (k0_pay2 (rK arg3 (harg3.unread x1) (k0_off19 i 0#32) (k0_off19_inb i 0)) (rQ arg2 (harg2.unread x0) ![0, 256] inb_S512x512_S512x128_0_256)))) (k0_pay147 k0_pay137 (k0_pay2 (rK arg3 (harg3.unread x1) (k0_off19 i 1#32) (k0_off19_inb i 1)) (rQ arg2 (harg2.unread x0) ![0, 256] inb_S512x512_S512x128_0_256))) := by
  sl_unfold_words
  simp only [Prod.mk.eta, loop1_eq]
  rw [loop2_eq]
  unfold lp1
  generalize st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) (i 1).val = acc
  rfl

/-- The fourth head's sum. -/
theorem hL3 (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) :
    (kernelRun0_A.sl.r_56 (F := Ideal) c i arg2 harg2 arg3 harg3 arg4 harg4 arg5 harg5 x0 x1 x2) = nL (nM (lp1 c i arg2 harg2 arg3 harg3 arg4 harg4 arg5 harg5 x0 x1 x2 (i 1).val).2.2.2.2.2.2.2.2.2.1 (k0_pay147 k0_pay136 (k0_pay2 (rK arg3 (harg3.unread x1) (k0_off20 i 0#32) (k0_off20_inb i 0)) (rQ arg2 (harg2.unread x0) ![0, 384] inb_S512x512_S512x128_0_384)))) (nL (lp1 c i arg2 harg2 arg3 harg3 arg4 harg4 arg5 harg5 x0 x1 x2 (i 1).val).2.2.2.2.2.2.2.2.2.1 (lp1 c i arg2 harg2 arg3 harg3 arg4 harg4 arg5 harg5 x0 x1 x2 (i 1).val).2.2.2.2.2.2.2.2.2.2.1 (k0_pay147 k0_pay136 (k0_pay2 (rK arg3 (harg3.unread x1) (k0_off20 i 0#32) (k0_off20_inb i 0)) (rQ arg2 (harg2.unread x0) ![0, 384] inb_S512x512_S512x128_0_384)))) (k0_pay147 k0_pay137 (k0_pay2 (rK arg3 (harg3.unread x1) (k0_off20 i 1#32) (k0_off20_inb i 1)) (rQ arg2 (harg2.unread x0) ![0, 384] inb_S512x512_S512x128_0_384))) := by
  sl_unfold_words
  simp only [Prod.mk.eta, loop1_eq]
  rw [loop2_eq]
  unfold lp1
  generalize st_k0_t1 (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) (i 1).val = acc
  rfl

/-- What the body writes: the quotient of each head's weighted sum by its sum. -/
theorem out_open (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) (r : Fin 512) (h : Fin 4) (d : Fin 64) :
    (out0_A_3 (F := Ideal) c i arg2 harg2 arg3 harg3 arg4 harg4 arg5 harg5 x0 x1 x2 (ix2 r ⟨64 * h.val + d.val, by omega⟩) : EReal) =
      Ideal.div (stA (fin i arg2 harg2 arg3 harg3 arg4 harg4 arg5 harg5 x0 x1 x2 (lp1 c i arg2 harg2 arg3 harg3 arg4 harg4 arg5 harg5 x0 x1 x2 (i 1).val)) h (ix2 d r))
        (stL (fin i arg2 harg2 arg3 harg3 arg4 harg4 arg5 harg5 x0 x1 x2 (lp1 c i arg2 harg2 arg3 harg3 arg4 harg4 arg5 harg5 x0 x1 x2 (i 1).val)) h (ix2 0 r)) := by
  unfold out0_A_3 kernelRun0_A
  dsimp only
  refine (View.read_writes_cons_unit_of_mem VO0_3 _ _ _ _ (ix2 r ⟨64 * h.val + d.val, by omega⟩) (ix2 r ⟨64 * h.val + d.val, by omega⟩) rfl (by intro a; fin_cases a <;> simp)).trans ?_
  exact out_at _ _ _ _ _ _ _ _ _ _ _ _ _ (stA (fin i arg2 harg2 arg3 harg3 arg4 harg4 arg5 harg5 x0 x1 x2 (lp1 c i arg2 harg2 arg3 harg3 arg4 harg4 arg5 harg5 x0 x1 x2 (i 1).val))) (stL (fin i arg2 harg2 arg3 harg3 arg4 harg4 arg5 harg5 x0 x1 x2 (lp1 c i arg2 harg2 arg3 harg3 arg4 harg4 arg5 harg5 x0 x1 x2 (i 1).val)))
    (hA0 c i arg2 harg2 arg3 harg3 arg4 harg4 arg5 harg5 x0 x1 x2) (hA1 c i arg2 harg2 arg3 harg3 arg4 harg4 arg5 harg5 x0 x1 x2) (hA2 c i arg2 harg2 arg3 harg3 arg4 harg4 arg5 harg5 x0 x1 x2) (hA3 c i arg2 harg2 arg3 harg3 arg4 harg4 arg5 harg5 x0 x1 x2) (hL0 c i arg2 harg2 arg3 harg3 arg4 harg4 arg5 harg5 x0 x1 x2) (hL1 c i arg2 harg2 arg3 harg3 arg4 harg4 arg5 harg5 x0 x1 x2) (hL2 c i arg2 harg2 arg3 harg3 arg4 harg4 arg5 harg5 x0 x1 x2) (hL3 c i arg2 harg2 arg3 harg3 arg4 harg4 arg5 harg5 x0 x1 x2) r h d

end Cert.Mla

end
-- ==== Proof.MlaLoop.lean ====
/-
  The loop over the blocks before the queries, and the two masked blocks: what is carried is the running maximum, sum and
  weighted sum of the keys so far.
-/
module

public import proofs.«01_k».proof.Proof.MlaKernel

@[expose] public section

set_option maxRecDepth 20000

noncomputable section

namespace Cert.Mla

open Idealize.ShloMosaic Idealize.ShloMosaic.TcCoe Idealize.SL.Sem Cert.Kernel3Ideal Cert.Kernel3Ideal.Gen

/-- The score of a query and a key of one head. -/
def QK (x0 : Vec Ideal S512x512 .bf16) (x1 : Vec Ideal S8192x512 .bf16) (h : Fin 4) (q : Fin 512) (n : ℕ) : EReal :=
  ∑ d : Fin 128, (x1 (ix2 (⟨n % 8192, by omega⟩ : Fin 8192) (⟨128 * h.val + d.val, by omega⟩ : Fin 512)) : EReal) * x0 (ix2 q (⟨128 * h.val + d.val, by omega⟩ : Fin 512))

/-- A component of a key's value. -/
def VV (x2 : Vec Ideal S32x256x256 .bf16) (h : Fin 4) (d : Fin 64) (n : ℕ) : EReal :=
  x2 (ix3 (⟨n / 256 % 32, by omega⟩ : Fin 32) (⟨64 * h.val + d.val, by omega⟩ : Fin 256) (⟨n % 256, by omega⟩ : Fin 256))

/-- The masked score: a key after the query counts for nothing. -/
def sc (i1 : ℕ) (x0 : Vec Ideal S512x512 .bf16) (x1 : Vec Ideal S8192x512 .bf16) (h : Fin 4) (q : Fin 512) (n : ℕ) : EReal :=
  if n ≤ 512 * i1 + q.val then QK x0 x1 h q n else ⊥

/-- A block of keys read. -/
theorem rdK {arg3 : Memref sig .tc .vmem S8192x512 .bf16} (harg3 : arg3.IsWhole) (x1 : Vec Ideal S8192x512 .bf16) (off : Fin 2 → ℕ)
    (inb : ∀ a, off a + S256x128.size a ≤ S8192x512.size a) (N : ℕ) (h : Fin 4) (ho : off = ![256 * N, 128 * h.val]) (hN : N < 32) (j : Fin 256) (d : Fin 128) :
    rK arg3 (harg3.unread x1) off inb (ix2 j d) = x1 (ix2 (⟨(256 * N + j.val) % 8192, by omega⟩ : Fin 8192) (⟨128 * h.val + d.val, by omega⟩ : Fin 512)) := by
  subst ho
  refine (harg3.readAt_unread x1 _ _).trans (congrArg x1 (funext fun a => Fin.ext ?_))
  fin_cases a
  · show 256 * N + 1 * j.val = (256 * N + j.val) % 8192
    omega
  · show 128 * h.val + 1 * d.val = 128 * h.val + d.val
    omega

/-- The queries read. -/
theorem rdQ {arg2 : Memref sig .tc .vmem S512x512 .bf16} (harg2 : arg2.IsWhole) (x0 : Vec Ideal S512x512 .bf16) (off : Fin 2 → ℕ)
    (inb : ∀ a, off a + S512x128.size a ≤ S512x512.size a) (h : Fin 4) (ho : off = ![0, 128 * h.val]) (q : Fin 512) (d : Fin 128) :
    rQ arg2 (harg2.unread x0) off inb (ix2 q d) = x0 (ix2 q (⟨128 * h.val + d.val, by omega⟩ : Fin 512)) := by
  subst ho
  refine (harg2.readAt_unread x0 _ _).trans (congrArg x0 (funext fun a => Fin.ext ?_))
  fin_cases a
  · show 0 + 1 * q.val = q.val
    omega
  · show 128 * h.val + 1 * d.val = 128 * h.val + d.val
    omega

/-- A block of values read. -/
theorem rdV {arg4 : Memref sig .tc .vmem S32x256x256 .bf16} (harg4 : arg4.IsWhole) (x2 : Vec Ideal S32x256x256 .bf16) (off : Fin 3 → ℕ)
    (inb : ∀ a, off a + S1x64x256.size a ≤ S32x256x256.size a) (N : ℕ) (h : Fin 4) (ho : off = ![N, 64 * h.val, 0]) (hN : N < 32) (d : Fin 64) (j : Fin 256) :
    (rV arg4 (harg4.unread x2) off inb (ix3 0 d j) : EReal) = VV x2 h d (256 * N + j.val) := by
  subst ho
  refine (harg4.readAt_unread x2 _ _).trans (congrArg x2 (funext fun a => Fin.ext ?_))
  fin_cases a
  · show N + 1 * 0 = (256 * N + j.val) / 256 % 32
    omega
  · show 64 * h.val + 1 * d.val = 64 * h.val + d.val
    omega
  · show 0 + 1 * j.val = (256 * N + j.val) % 256
    omega

/-- The scores of a block read. -/
theorem rdS {arg2 : Memref sig .tc .vmem S512x512 .bf16} (harg2 : arg2.IsWhole) {arg3 : Memref sig .tc .vmem S8192x512 .bf16} (harg3 : arg3.IsWhole)
    (x0 : Vec Ideal S512x512 .bf16) (x1 : Vec Ideal S8192x512 .bf16) (off oq : Fin 2 → ℕ)
    (inb : ∀ a, off a + S256x128.size a ≤ S8192x512.size a) (iq : ∀ a, oq a + S512x128.size a ≤ S512x512.size a) (N : ℕ) (h : Fin 4)
    (ho : off = ![256 * N, 128 * h.val]) (hq : oq = ![0, 128 * h.val]) (hN : N < 32) (j : Fin 256) (q : Fin 512) :
    (∑ d : Fin 128, (rK arg3 (harg3.unread x1) off inb (ix2 j d) : EReal) * rQ arg2 (harg2.unread x0) oq iq (ix2 q d)) = QK x0 x1 h q (256 * N + j.val) :=
  Finset.sum_congr rfl fun d _ => by rw [rdK harg3 x1 off inb N h ho hN, rdQ harg2 x0 oq iq h hq]

/-- A trip, for one head. -/
theorem head_step {arg2 : Memref sig .tc .vmem S512x512 .bf16} (harg2 : arg2.IsWhole) {arg3 : Memref sig .tc .vmem S8192x512 .bf16} (harg3 : arg3.IsWhole) {arg4 : Memref sig .tc .vmem S32x256x256 .bf16} (harg4 : arg4.IsWhole) (x0 : Vec Ideal S512x512 .bf16) (x1 : Vec Ideal S8192x512 .bf16) (x2 : Vec Ideal S32x256x256 .bf16) (i1 : ℕ) {m l : FVec Ideal S1x512 .f32} {a : FVec Ideal S64x512 .f32} (h : Fin 4) (k : ℕ)
    (o0 o1 : Fin 2 → ℕ) (i0 : ∀ a, o0 a + S256x128.size a ≤ S8192x512.size a) (i1' : ∀ a, o1 a + S256x128.size a ≤ S8192x512.size a)
    (oq : Fin 2 → ℕ) (iq : ∀ a, oq a + S512x128.size a ≤ S512x512.size a)
    (p0 p1 : Fin 3 → ℕ) (j0 : ∀ a, p0 a + S1x64x256.size a ≤ S32x256x256.size a) (j1 : ∀ a, p1 a + S1x64x256.size a ≤ S32x256x256.size a)
    (h0 : o0 = ![256 * (2 * k + 0), 128 * h.val]) (h1 : o1 = ![256 * (2 * k + 1), 128 * h.val]) (hq : oq = ![0, 128 * h.val])
    (g0 : p0 = ![2 * k + 0, 64 * h.val, 0]) (g1 : p1 = ![2 * k + 1, 64 * h.val, 0])
    (hk : k < i1) (hi : i1 < 16) (H : Rel (sc i1 x0 x1 h) (VV x2 h) (512 * k) m l a) :
    Rel (sc i1 x0 x1 h) (VV x2 h) (512 * (k + 1)) (nM (nM m (k0_pay2 (rK arg3 (harg3.unread x1) o0 i0) (rQ arg2 (harg2.unread x0) oq iq))) (k0_pay2 (rK arg3 (harg3.unread x1) o1 i1') (rQ arg2 (harg2.unread x0) oq iq))) (nL (nM m (k0_pay2 (rK arg3 (harg3.unread x1) o0 i0) (rQ arg2 (harg2.unread x0) oq iq))) (nL m l (k0_pay2 (rK arg3 (harg3.unread x1) o0 i0) (rQ arg2 (harg2.unread x0) oq iq))) (k0_pay2 (rK arg3 (harg3.unread x1) o1 i1') (rQ arg2 (harg2.unread x0) oq iq))) (nA (nM m (k0_pay2 (rK arg3 (harg3.unread x1) o0 i0) (rQ arg2 (harg2.unread x0) oq iq))) (nA m a (k0_pay2 (rK arg3 (harg3.unread x1) o0 i0) (rQ arg2 (harg2.unread x0) oq iq)) (rV arg4 (harg4.unread x2) p0 j0)) (k0_pay2 (rK arg3 (harg3.unread x1) o1 i1') (rQ arg2 (harg2.unread x0) oq iq)) (rV arg4 (harg4.unread x2) p1 j1)) := by
  have e : 512 * (k + 1) = 512 * k + 512 := by omega
  rw [e]
  refine absorb2 H _ _ _ _ _ (fun j q => ?_) (fun j q => ?_) (fun d j => ?_) (fun d j => ?_)
  · rw [rdS harg2 harg3 x0 x1 o0 oq i0 iq _ h h0 hq (by omega), sc, if_pos (by omega)]; congr 1; omega
  · rw [rdS harg2 harg3 x0 x1 o1 oq i1' iq _ h h1 hq (by omega), sc, if_pos (by omega)]; congr 1; omega
  · rw [rdV harg4 x2 p0 j0 _ h g0 (by omega)]; congr 1; omega
  · rw [rdV harg4 x2 p1 j1 _ h g1 (by omega)]; congr 1; omega

/-- The two masked blocks, for one head. -/
theorem head_stepm {arg2 : Memref sig .tc .vmem S512x512 .bf16} (harg2 : arg2.IsWhole) {arg3 : Memref sig .tc .vmem S8192x512 .bf16} (harg3 : arg3.IsWhole) {arg4 : Memref sig .tc .vmem S32x256x256 .bf16} (harg4 : arg4.IsWhole) (x0 : Vec Ideal S512x512 .bf16) (x1 : Vec Ideal S8192x512 .bf16) (x2 : Vec Ideal S32x256x256 .bf16) {m l : FVec Ideal S1x512 .f32} {a : FVec Ideal S64x512 .f32} (h : Fin 4) (k : ℕ)
    (o0 o1 : Fin 2 → ℕ) (i0 : ∀ a, o0 a + S256x128.size a ≤ S8192x512.size a) (i1' : ∀ a, o1 a + S256x128.size a ≤ S8192x512.size a)
    (oq : Fin 2 → ℕ) (iq : ∀ a, oq a + S512x128.size a ≤ S512x512.size a)
    (p0 p1 : Fin 3 → ℕ) (j0 : ∀ a, p0 a + S1x64x256.size a ≤ S32x256x256.size a) (j1 : ∀ a, p1 a + S1x64x256.size a ≤ S32x256x256.size a)
    (h0 : o0 = ![256 * (2 * k + 0), 128 * h.val]) (h1 : o1 = ![256 * (2 * k + 1), 128 * h.val]) (hq : oq = ![0, 128 * h.val])
    (g0 : p0 = ![2 * k + 0, 64 * h.val, 0]) (g1 : p1 = ![2 * k + 1, 64 * h.val, 0])
    (hi : k < 16) (H : Rel (sc k x0 x1 h) (VV x2 h) (512 * k) m l a) :
    Rel (sc k x0 x1 h) (VV x2 h) (512 * (k + 1)) (nM (nM m (k0_pay147 k0_pay136 (k0_pay2 (rK arg3 (harg3.unread x1) o0 i0) (rQ arg2 (harg2.unread x0) oq iq)))) (k0_pay147 k0_pay137 (k0_pay2 (rK arg3 (harg3.unread x1) o1 i1') (rQ arg2 (harg2.unread x0) oq iq)))) (nL (nM m (k0_pay147 k0_pay136 (k0_pay2 (rK arg3 (harg3.unread x1) o0 i0) (rQ arg2 (harg2.unread x0) oq iq)))) (nL m l (k0_pay147 k0_pay136 (k0_pay2 (rK arg3 (harg3.unread x1) o0 i0) (rQ arg2 (harg2.unread x0) oq iq)))) (k0_pay147 k0_pay137 (k0_pay2 (rK arg3 (harg3.unread x1) o1 i1') (rQ arg2 (harg2.unread x0) oq iq)))) (nA (nM m (k0_pay147 k0_pay136 (k0_pay2 (rK arg3 (harg3.unread x1) o0 i0) (rQ arg2 (harg2.unread x0) oq iq)))) (nA m a (k0_pay147 k0_pay136 (k0_pay2 (rK arg3 (harg3.unread x1) o0 i0) (rQ arg2 (harg2.unread x0) oq iq))) (rV arg4 (harg4.unread x2) p0 j0)) (k0_pay147 k0_pay137 (k0_pay2 (rK arg3 (harg3.unread x1) o1 i1') (rQ arg2 (harg2.unread x0) oq iq))) (rV arg4 (harg4.unread x2) p1 j1)) := by
  have e : 512 * (k + 1) = 512 * k + 512 := by omega
  rw [e]
  refine absorb2m H _ _ _ _ _ (fun j q => ?_) (fun j q => ?_) (fun d j => ?_) (fun d j => ?_)
  · rw [rdS harg2 harg3 x0 x1 o0 oq i0 iq _ h h0 hq (by omega), sc]
    have e1 : 256 * (2 * k + 0) + j.val = 512 * k + j.val := by omega
    rw [e1]
    exact if_congr (by omega) rfl rfl
  · rw [rdS harg2 harg3 x0 x1 o1 oq i1' iq _ h h1 hq (by omega), sc]
    have e1 : 256 * (2 * k + 1) + j.val = 512 * k + 256 + j.val := by omega
    rw [e1]
    exact if_congr (by omega) rfl rfl
  · rw [rdV harg4 x2 p0 j0 _ h g0 (by omega)]; congr 1; omega
  · rw [rdV harg4 x2 p1 j1 _ h g1 (by omega)]; congr 1; omega

/-- A trip's number is a small one. -/
theorem k_lt (i : grid0.Coords) (k : Fin (k0_t1_loop i).trips) : k.val < 16 :=
  lt_trans (lt_of_lt_of_eq k.isLt (trips1 i)) (i 1).isLt

/-- A trip's row of keys, as the kernel computes it. -/
theorem wordK (k : Fin 16) (r : Fin 2) :
    BitVec.toNat (Scalar.indexCast (Scalar.muli (Scalar.addi (Scalar.muli (Scf.iv 0#32 1#32 k.val) 2#32) (BitVec.ofNat 32 r.val)) 256#32)) = 256 * (2 * k.val + r.val) := by
  revert k r; decide +kernel

/-- A trip's block of values, as the kernel computes it. -/
theorem wordV (k : Fin 16) (r : Fin 2) :
    BitVec.toNat (Scalar.indexCast (Scalar.addi (Scalar.muli (Scf.iv 0#32 1#32 k.val) 2#32) (BitVec.ofNat 32 r.val))) = 2 * k.val + r.val := by
  revert k r; decide +kernel

/-- The masked blocks' row of keys, as the kernel computes it. -/
theorem wordK' (k : Fin 16) (r : Fin 2) :
    BitVec.toNat (Scalar.indexCast (Scalar.muli (Scalar.addi (Scalar.muli (BitVec.ofNat 32 k.val) 2#32) (BitVec.ofNat 32 r.val)) 256#32)) = 256 * (2 * k.val + r.val) := by
  revert k r; decide +kernel

/-- The masked blocks' block of values, as the kernel computes it. -/
theorem wordV' (k : Fin 16) (r : Fin 2) :
    BitVec.toNat (Scalar.indexCast (Scalar.addi (Scalar.muli (BitVec.ofNat 32 k.val) 2#32) (BitVec.ofNat 32 r.val))) = 2 * k.val + r.val := by
  revert k r; decide +kernel

/-- Where a trip reads the keys of head 0. -/
theorem off1_eq (i : grid0.Coords) (k : Fin (k0_t1_loop i).trips) (r : Fin 2) : k0_off1 i k (BitVec.ofNat 32 r.val) = ![256 * (2 * k.val + r.val), 0] := by
  unfold k0_off1; dsimp only; rw [wordK ⟨k.val, k_lt i k⟩ r]

/-- Where a trip reads the values of head 0. -/
theorem off5_eq (i : grid0.Coords) (k : Fin (k0_t1_loop i).trips) (r : Fin 2) : k0_off5 i k (BitVec.ofNat 32 r.val) = ![2 * k.val + r.val, 0, 0] := by
  unfold k0_off5; dsimp only; rw [wordV ⟨k.val, k_lt i k⟩ r]

/-- Where the masked blocks' keys of head 0 are read. -/
theorem off17_eq (i : grid0.Coords) (r : Fin 2) : k0_off17 i (BitVec.ofNat 32 r.val) = ![256 * (2 * (i 1).val + r.val), 0] := by
  unfold k0_off17; dsimp only; rw [wordK' (i 1) r]

/-- Where the masked blocks' values of head 0 are read. -/
theorem off21_eq (i : grid0.Coords) (r : Fin 2) : k0_off21 i (BitVec.ofNat 32 r.val) = ![2 * (i 1).val + r.val, 0, 0] := by
  unfold k0_off21; dsimp only; rw [wordV' (i 1) r]

/-- Where a trip reads the keys of head 1. -/
theorem off2_eq (i : grid0.Coords) (k : Fin (k0_t1_loop i).trips) (r : Fin 2) : k0_off2 i k (BitVec.ofNat 32 r.val) = ![256 * (2 * k.val + r.val), 128] := by
  unfold k0_off2; dsimp only; rw [wordK ⟨k.val, k_lt i k⟩ r]

/-- Where a trip reads the values of head 1. -/
theorem off6_eq (i : grid0.Coords) (k : Fin (k0_t1_loop i).trips) (r : Fin 2) : k0_off6 i k (BitVec.ofNat 32 r.val) = ![2 * k.val + r.val, 64, 0] := by
  unfold k0_off6; dsimp only; rw [wordV ⟨k.val, k_lt i k⟩ r]

/-- Where the masked blocks' keys of head 1 are read. -/
theorem off18_eq (i : grid0.Coords) (r : Fin 2) : k0_off18 i (BitVec.ofNat 32 r.val) = ![256 * (2 * (i 1).val + r.val), 128] := by
  unfold k0_off18; dsimp only; rw [wordK' (i 1) r]

/-- Where the masked blocks' values of head 1 are read. -/
theorem off22_eq (i : grid0.Coords) (r : Fin 2) : k0_off22 i (BitVec.ofNat 32 r.val) = ![2 * (i 1).val + r.val, 64, 0] := by
  unfold k0_off22; dsimp only; rw [wordV' (i 1) r]

/-- Where a trip reads the keys of head 2. -/
theorem off3_eq (i : grid0.Coords) (k : Fin (k0_t1_loop i).trips) (r : Fin 2) : k0_off3 i k (BitVec.ofNat 32 r.val) = ![256 * (2 * k.val + r.val), 256] := by
  unfold k0_off3; dsimp only; rw [wordK ⟨k.val, k_lt i k⟩ r]

/-- Where a trip reads the values of head 2. -/
theorem off7_eq (i : grid0.Coords) (k : Fin (k0_t1_loop i).trips) (r : Fin 2) : k0_off7 i k (BitVec.ofNat 32 r.val) = ![2 * k.val + r.val, 128, 0] := by
  unfold k0_off7; dsimp only; rw [wordV ⟨k.val, k_lt i k⟩ r]

/-- Where the masked blocks' keys of head 2 are read. -/
theorem off19_eq (i : grid0.Coords) (r : Fin 2) : k0_off19 i (BitVec.ofNat 32 r.val) = ![256 * (2 * (i 1).val + r.val), 256] := by
  unfold k0_off19; dsimp only; rw [wordK' (i 1) r]

/-- Where the masked blocks' values of head 2 are read. -/
theorem off23_eq (i : grid0.Coords) (r : Fin 2) : k0_off23 i (BitVec.ofNat 32 r.val) = ![2 * (i 1).val + r.val, 128, 0] := by
  unfold k0_off23; dsimp only; rw [wordV' (i 1) r]

/-- Where a trip reads the keys of head 3. -/
theorem off4_eq (i : grid0.Coords) (k : Fin (k0_t1_loop i).trips) (r : Fin 2) : k0_off4 i k (BitVec.ofNat 32 r.val) = ![256 * (2 * k.val + r.val), 384] := by
  unfold k0_off4; dsimp only; rw [wordK ⟨k.val, k_lt i k⟩ r]

/-- Where a trip reads the values of head 3. -/
theorem off8_eq (i : grid0.Coords) (k : Fin (k0_t1_loop i).trips) (r : Fin 2) : k0_off8 i k (BitVec.ofNat 32 r.val) = ![2 * k.val + r.val, 192, 0] := by
  unfold k0_off8; dsimp only; rw [wordV ⟨k.val, k_lt i k⟩ r]

/-- Where the masked blocks' keys of head 3 are read. -/
theorem off20_eq (i : grid0.Coords) (r : Fin 2) : k0_off20 i (BitVec.ofNat 32 r.val) = ![256 * (2 * (i 1).val + r.val), 384] := by
  unfold k0_off20; dsimp only; rw [wordK' (i 1) r]

/-- Where the masked blocks' values of head 3 are read. -/
theorem off24_eq (i : grid0.Coords) (r : Fin 2) : k0_off24 i (BitVec.ofNat 32 r.val) = ![2 * (i 1).val + r.val, 192, 0] := by
  unfold k0_off24; dsimp only; rw [wordV' (i 1) r]

/-- Before trip `k` each head carries the maximum, sum and weighted sum of the first `512 k` keys. -/
theorem loop_rel (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) (k : ℕ) (hk : k ≤ (i 1).val) (h : Fin 4) :
    Rel (sc (i 1).val x0 x1 h) (VV x2 h) (512 * k) (stM (lp1 c i arg2 harg2 arg3 harg3 arg4 harg4 arg5 harg5 x0 x1 x2 k) h) (stL (lp1 c i arg2 harg2 arg3 harg3 arg4 harg4 arg5 harg5 x0 x1 x2 k) h) (stA (lp1 c i arg2 harg2 arg3 harg3 arg4 harg4 arg5 harg5 x0 x1 x2 k) h) := by
  induction k generalizing h with
  | zero =>
    fin_cases h
    · exact init_rel _ _
    · exact init_rel _ _
    · exact init_rel _ _
    · exact init_rel _ _
  | succ k ih =>
    have hk' : k < (k0_t1_loop i).trips := lt_of_lt_of_eq (Nat.lt_of_succ_le hk) (trips1 i).symm
    have ih := ih (Nat.le_of_succ_le hk)
    have e : lp1 c i arg2 harg2 arg3 harg3 arg4 harg4 arg5 harg5 x0 x1 x2 (k + 1) = _ := (st_k0_t1_succ (F := Ideal) Variants.none c none i arg2 harg2 arg3 harg3 arg4 harg4 arg5 harg5 (harg2.unread x0) (harg3.unread x1) (harg4.unread x2) (k0_pay122, k0_pay123, k0_pay124, k0_pay125, k0_pay126, k0_pay127, k0_pay128, k0_pay129, k0_pay130, k0_pay131, k0_pay132, k0_pay133) ⟨k, hk'⟩).trans
      (trip_eq c i arg2 harg2 arg3 harg3 arg4 harg4 arg5 harg5 (harg2.unread x0) (harg3.unread x1) (harg4.unread x2) ⟨k, hk'⟩ (lp1 c i arg2 harg2 arg3 harg3 arg4 harg4 arg5 harg5 x0 x1 x2 k))
    rw [e]
    generalize lp1 c i arg2 harg2 arg3 harg3 arg4 harg4 arg5 harg5 x0 x1 x2 k = acc at ih
    have hk : k < (i 1).val := hk
    fin_cases h
    · exact head_step harg2 harg3 harg4 x0 x1 x2 (i 1).val 0 k _ _ _ _ _ _ _ _ _ _ (off1_eq i ⟨k, hk'⟩ 0) (off1_eq i ⟨k, hk'⟩ 1) rfl (off5_eq i ⟨k, hk'⟩ 0) (off5_eq i ⟨k, hk'⟩ 1) hk (i 1).isLt (ih 0)
    · exact head_step harg2 harg3 harg4 x0 x1 x2 (i 1).val 1 k _ _ _ _ _ _ _ _ _ _ (off2_eq i ⟨k, hk'⟩ 0) (off2_eq i ⟨k, hk'⟩ 1) rfl (off6_eq i ⟨k, hk'⟩ 0) (off6_eq i ⟨k, hk'⟩ 1) hk (i 1).isLt (ih 1)
    · exact head_step harg2 harg3 harg4 x0 x1 x2 (i 1).val 2 k _ _ _ _ _ _ _ _ _ _ (off3_eq i ⟨k, hk'⟩ 0) (off3_eq i ⟨k, hk'⟩ 1) rfl (off7_eq i ⟨k, hk'⟩ 0) (off7_eq i ⟨k, hk'⟩ 1) hk (i 1).isLt (ih 2)
    · exact head_step harg2 harg3 harg4 x0 x1 x2 (i 1).val 3 k _ _ _ _ _ _ _ _ _ _ (off4_eq i ⟨k, hk'⟩ 0) (off4_eq i ⟨k, hk'⟩ 1) rfl (off8_eq i ⟨k, hk'⟩ 0) (off8_eq i ⟨k, hk'⟩ 1) hk (i 1).isLt (ih 3)

/-- After the masked blocks. -/
theorem fin_rel (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) (h : Fin 4) :
    Rel (sc (i 1).val x0 x1 h) (VV x2 h) (512 * ((i 1).val + 1)) (stM (fin i arg2 harg2 arg3 harg3 arg4 harg4 arg5 harg5 x0 x1 x2 (lp1 c i arg2 harg2 arg3 harg3 arg4 harg4 arg5 harg5 x0 x1 x2 (i 1).val)) h)
      (stL (fin i arg2 harg2 arg3 harg3 arg4 harg4 arg5 harg5 x0 x1 x2 (lp1 c i arg2 harg2 arg3 harg3 arg4 harg4 arg5 harg5 x0 x1 x2 (i 1).val)) h) (stA (fin i arg2 harg2 arg3 harg3 arg4 harg4 arg5 harg5 x0 x1 x2 (lp1 c i arg2 harg2 arg3 harg3 arg4 harg4 arg5 harg5 x0 x1 x2 (i 1).val)) h) := by
  have hr := loop_rel c i arg2 harg2 arg3 harg3 arg4 harg4 arg5 harg5 x0 x1 x2 (i 1).val le_rfl
  generalize lp1 c i arg2 harg2 arg3 harg3 arg4 harg4 arg5 harg5 x0 x1 x2 (i 1).val = acc at hr
  fin_cases h
  · exact head_stepm harg2 harg3 harg4 x0 x1 x2 0 (i 1).val _ _ _ _ _ _ _ _ _ _ (off17_eq i 0) (off17_eq i 1) rfl (off21_eq i 0) (off21_eq i 1) (i 1).isLt (hr 0)
  · exact head_stepm harg2 harg3 harg4 x0 x1 x2 1 (i 1).val _ _ _ _ _ _ _ _ _ _ (off18_eq i 0) (off18_eq i 1) rfl (off22_eq i 0) (off22_eq i 1) (i 1).isLt (hr 1)
  · exact head_stepm harg2 harg3 harg4 x0 x1 x2 2 (i 1).val _ _ _ _ _ _ _ _ _ _ (off19_eq i 0) (off19_eq i 1) rfl (off23_eq i 0) (off23_eq i 1) (i 1).isLt (hr 2)
  · exact head_stepm harg2 harg3 harg4 x0 x1 x2 3 (i 1).val _ _ _ _ _ _ _ _ _ _ (off20_eq i 0) (off20_eq i 1) rfl (off24_eq i 0) (off24_eq i 1) (i 1).isLt (hr 3)

/-- What the body writes, for each query, head and component: the weighted sum over the sum. -/
theorem out_val (c : Dev nD) (i : grid0.Coords) (arg2 : Memref sig .tc .vmem S512x512 .bf16) (harg2 : arg2.IsWhole) (arg3 : Memref sig .tc .vmem S8192x512 .bf16) (harg3 : arg3.IsWhole) (arg4 : Memref sig .tc .vmem S32x256x256 .bf16) (harg4 : arg4.IsWhole) (arg5 : Memref sig .tc .vmem S512x256 .f32) (harg5 : arg5.IsWhole) (x0 : Vec Ideal S512x512 .bf16) (x1 : Vec Ideal S8192x512 .bf16) (x2 : Vec Ideal S32x256x256 .bf16) (r : Fin 512) (h : Fin 4) (d : Fin 64) :
    (out0_A_3 (F := Ideal) c i arg2 harg2 arg3 harg3 arg4 harg4 arg5 harg5 x0 x1 x2 (ix2 r ⟨64 * h.val + d.val, by omega⟩) : EReal) =
      Ideal.div (Ac (sc (i 1).val x0 x1 h r) (VV x2 h d) (512 * ((i 1).val + 1))) (Ls (sc (i 1).val x0 x1 h r) (512 * ((i 1).val + 1))) := by
  rw [out_open, (fin_rel c i arg2 harg2 arg3 harg3 arg4 harg4 arg5 harg5 x0 x1 x2 h).ha, (fin_rel c i arg2 harg2 arg3 harg3 arg4 harg4 arg5 harg5 x0 x1 x2 h).hl]

end Cert.Mla

end
-- ==== Proof.MlaAtt.lean ====
/-
  Causal attention as both programs compute it.
-/
module

public import proofs.«01_k».proof.Proof.MlaMath
public import Idealize.ShloMosaic.Lib.Claim

@[expose] public section

noncomputable section

namespace Cert.Mla

open Idealize.ShloMosaic

/-- Queries or keys, by sequence, position, head and component. -/
abbrev QArr : Type := Fin 2 → Fin 8192 → Fin 4 → Fin 96 → EReal
/-- Values, by sequence, position, head and component. -/
abbrev VArr : Type := Fin 2 → Fin 8192 → Fin 4 → Fin 64 → EReal

/-- The score of a query and a key. -/
def tS (A0 A1 : QArr) (b : Fin 2) (p : Fin 8192) (h : Fin 4) (n : ℕ) : EReal :=
  ∑ d : Fin 96, A0 b p h d * A1 b ⟨n % 8192, by omega⟩ h d

/-- The masked score. -/
def tM (A0 A1 : QArr) (b : Fin 2) (p : Fin 8192) (h : Fin 4) (n : ℕ) : EReal := if n ≤ p.val then tS A0 A1 b p h n else ⊥

/-- The masked score in natural units. -/
def eS (A0 A1 : QArr) (b : Fin 2) (p : Fin 8192) (h : Fin 4) (n : ℕ) : EReal := if n ≤ p.val then tS A0 A1 b p h n * (Real.log 2 : ℝ) else ⊥

/-- A component of a key's value. -/
def vS (A2 : VArr) (b : Fin 2) (h : Fin 4) (d : Fin 64) (n : ℕ) : EReal := A2 b ⟨n % 8192, by omega⟩ h d

/-- Attention: the values weighted by the softmax of the masked scores. -/
def attn (A0 A1 : QArr) (A2 : VArr) (b : Fin 2) (p : Fin 8192) (h : Fin 4) (d : Fin 64) : EReal :=
  ∑ k ∈ Finset.range 8192, Ideal.div (Ideal.exp (eS A0 A1 b p h k - Mx (eS A0 A1 b p h) 8192))
    (∑ j ∈ Finset.range 8192, Ideal.exp (eS A0 A1 b p h j - Mx (eS A0 A1 b p h) 8192)) * vS A2 b h d k

/-- Comparing words is comparing the small numbers they hold. -/
theorem sle_nat (x y : ℕ) (hx : x < 16384) (hy : y < 16384) :
    IntOp.cmpi .sle (BitVec.ofNat 32 x) (BitVec.ofNat 32 y) = if x ≤ y then 1#1 else 0#1 := by
  have tx : (BitVec.ofNat 32 x).toInt = x := by
    rw [BitVec.toInt_eq_toNat_of_lt (by rw [BitVec.toNat_ofNat]; omega), BitVec.toNat_ofNat]; omega
  have ty : (BitVec.ofNat 32 y).toInt = y := by
    rw [BitVec.toInt_eq_toNat_of_lt (by rw [BitVec.toNat_ofNat]; omega), BitVec.toNat_ofNat]; omega
  show BitVec.ofBool ((BitVec.ofNat 32 x).sle (BitVec.ofNat 32 y)) = _
  rw [BitVec.sle_eq_decide, tx, ty]
  by_cases h : x ≤ y
  · simp [h]
  · simp [h]

/-- Scores of finite queries and keys are finite. -/
theorem tS_real (A0 A1 : QArr) (f0 : ∀ b p h d, ∃ r : ℝ, A0 b p h d = r) (f1 : ∀ b p h d, ∃ r : ℝ, A1 b p h d = r)
    (b : Fin 2) (p : Fin 8192) (h : Fin 4) (n : ℕ) : ∃ r : ℝ, tS A0 A1 b p h n = r := by
  refine Finset.sum_induction _ (fun x : EReal => ∃ r : ℝ, x = r) ?_ ⟨0, rfl⟩ fun d _ => ?_
  · rintro _ _ ⟨x, rfl⟩ ⟨y, rfl⟩
    exact ⟨x + y, (EReal.coe_add x y).symm⟩
  · obtain ⟨x, hx⟩ := f0 b p h d
    obtain ⟨y, hy⟩ := f1 b ⟨n % 8192, by omega⟩ h d
    exact ⟨x * y, by rw [hx, hy, EReal.coe_mul]⟩

/-- The quotient of the running sums is the attention. -/
theorem attn_eq (A0 A1 : QArr) (A2 : VArr) (f0 : ∀ b p h d, ∃ r : ℝ, A0 b p h d = r) (f1 : ∀ b p h d, ∃ r : ℝ, A1 b p h d = r)
    (b : Fin 2) (p : Fin 8192) (h : Fin 4) (d : Fin 64) (n : ℕ) (hp : p.val < n) (hn : n ≤ 8192) :
    Ideal.div (Ac (tM A0 A1 b p h) (vS A2 b h d) n) (Ls (tM A0 A1 b p h) n) = attn A0 A1 A2 b p h d := by
  have hl : 0 < Real.log 2 := Real.log_pos (by norm_num)
  have hc : 0 < (Real.log 2)⁻¹ := inv_pos.mpr hl
  have e : (fun k => eS A0 A1 b p h k * ((Real.log 2)⁻¹ : ℝ)) = tM A0 A1 b p h := by
    funext k
    unfold eS tM
    by_cases hk : k ≤ p.val
    · rw [if_pos hk, if_pos hk]
      obtain ⟨r, hr⟩ := tS_real A0 A1 f0 f1 b p h k
      rw [hr, ← EReal.coe_mul, ← EReal.coe_mul, mul_assoc, mul_inv_cancel₀ hl.ne', mul_one]
    · rw [if_neg hk, if_neg hk, EReal.bot_mul_coe_of_pos hc]
  have q := quotient (eS A0 A1 b p h) (vS A2 b h d) n 8192 hn (fun k hk => by unfold eS; rw [if_neg (by omega)]) ?_ ?_
  · rw [e] at q
    exact q
  · intro hb
    have h0 := le_Mx (eS A0 A1 b p h) (k := 0) (n := n) (by omega)
    rw [hb, le_bot_iff] at h0
    unfold eS at h0
    obtain ⟨r, hr⟩ := tS_real A0 A1 f0 f1 b p h 0
    rw [if_pos (Nat.zero_le _), hr, ← EReal.coe_mul] at h0
    exact EReal.coe_ne_bot _ h0
  · refine ne_of_lt ((Finset.sup_lt_iff (by exact bot_lt_top)).mpr fun k _ => ?_)
    unfold eS
    by_cases hk : k ≤ p.val
    · obtain ⟨r, hr⟩ := tS_real A0 A1 f0 f1 b p h k
      rw [if_pos hk, hr, ← EReal.coe_mul]
      exact EReal.coe_lt_top _
    · rw [if_neg hk]; exact bot_lt_top

end Cert.Mla

end
-- ==== Proof.MlaBlocks.lean ====
/-
  The windows' blocks in terms of the arguments, and the kernel's whole result.
-/
module

public import proofs.«01_k».proof.Proof.MlaLoop
public import proofs.«01_k».proof.Proof.MlaAtt
public import Idealize.ShloMosaic.Lib.Claim
public import Idealize.ShloMosaic.Lib.Pipeline.ReadBack
public import Idealize.ShloMosaic.Lib.Pipeline.ValueKit

@[expose] public section

set_option maxRecDepth 20000

noncomputable section

namespace Cert.Mla

open Idealize.ShloMosaic Idealize.ShloMosaic.TcCoe Idealize.SL.Sem Cert.Kernel3Ideal Cert.Kernel3Ideal.Gen Cert.Kernel3Ideal.Value

variable (m : (ℓ : Loc nD τ sig) → Buf (Elt Ideal) ℓ) (c : Dev nD)

/-- There are 32 grid points. -/
theorem t_lt (t : Fin cfg0.N) : t.val < 32 := lt_of_lt_of_eq t.isLt N_0

/-- The sequence of a point's block. -/
def bT (t : Fin cfg0.N) : Fin 2 := ⟨t.val / 16, by have := t_lt t; omega⟩
/-- The position in its sequence of a row of a point's block. -/
def rT (t : Fin cfg0.N) (r : Fin 512) : Fin 8192 := ⟨512 * (t.val % 16) + r.val, by omega⟩

/-- The blocks' positions at each grid point. -/
theorem idxs : ∀ t : Fin cfg0.N, win0_0.index t = ![t.val, 0] ∧ win0_1.index t = ![t.val / 16, 0] ∧ win0_2.index t = ![t.val / 16, 0, 0]
    ∧ win0_3.index t = ![t.val, 0] :=
  (by decide +kernel : ∀ t : Fin grid0.N, _)

/-- A grid point's place in its sequence. -/
theorem coord1 : ∀ t : Fin cfg0.N, ((grid0.coords t) 1).val = t.val % 16 :=
  (by decide +kernel : ∀ t : Fin grid0.N, _)

/-- A query block's entry. -/
theorem blk0 (t : Fin cfg0.N) (r : Fin 512) (h : Fin 4) (d : Fin 128) :
    (iblk m c 0 t (ix2 r (⟨128 * h.val + d.val, by omega⟩ : Fin 512)) : EReal) =
      if hd : d.val < 96 then (m ((c : Thread nD τ).loc main_arg0) (ix4 (bT t) (rT t r) h ⟨d.val, hd⟩) : EReal) else (0 : EReal) := by
  have ht := t_lt t
  blk_simp [iblk]
  entry_read
  pointwise
  have e0 : (((View.whole main_v6).slice (win0_0.rect t)).emb (ix2 r (⟨128 * h.val + d.val, by omega⟩ : Fin 512)) 0).val = t.val * 512 + r.val := by blk_simp [(idxs t).1]
  have e1 : (((View.whole main_v6).slice (win0_0.rect t)).emb (ix2 r (⟨128 * h.val + d.val, by omega⟩ : Fin 512)) 1).val = 128 * h.val + d.val := by blk_simp [(idxs t).1]
  by_cases hd : d.val < 96
  · refine (dif_pos (by rw [e1]; omega)).trans ?_
    rw [dif_pos hd]
    refine congrArg (m (c, Proc.tc.devRef main_arg0)) ?_
    funext a; apply Fin.ext
    match a with
    | ⟨0, _⟩ => show _ / 8192 = t.val / 16; rw [e0]; omega
    | ⟨1, _⟩ => show _ % 8192 = 512 * (t.val % 16) + r.val; rw [e0]; omega
    | ⟨2, _⟩ => show _ / 128 = h.val; rw [e1]; omega
    | ⟨3, _⟩ => show _ % 128 = d.val; rw [e1]; omega
  · refine (dif_neg (by rw [e1]; omega)).trans ?_
    rw [dif_neg hd]

/-- A key block's entry. -/
theorem blk1 (t : Fin cfg0.N) (n : Fin 8192) (h : Fin 4) (d : Fin 128) :
    (iblk m c 1 t (ix2 n (⟨128 * h.val + d.val, by omega⟩ : Fin 512)) : EReal) =
      if hd : d.val < 96 then (m ((c : Thread nD τ).loc main_arg1) (ix4 (bT t) n h ⟨d.val, hd⟩) : EReal) else (0 : EReal) := by
  have ht := t_lt t
  blk_simp [iblk]
  entry_read
  pointwise
  have e0 : (((View.whole main_v9).slice (win0_1.rect t)).emb (ix2 n (⟨128 * h.val + d.val, by omega⟩ : Fin 512)) 0).val = t.val / 16 * 8192 + n.val := by blk_simp [(idxs t).2.1]
  have e1 : (((View.whole main_v9).slice (win0_1.rect t)).emb (ix2 n (⟨128 * h.val + d.val, by omega⟩ : Fin 512)) 1).val = 128 * h.val + d.val := by blk_simp [(idxs t).2.1]
  by_cases hd : d.val < 96
  · refine (dif_pos (by rw [e1]; omega)).trans ?_
    rw [dif_pos hd]
    refine congrArg (m (c, Proc.tc.devRef main_arg1)) ?_
    funext a; apply Fin.ext
    match a with
    | ⟨0, _⟩ => show _ / 8192 = t.val / 16; rw [e0]; omega
    | ⟨1, _⟩ => show _ % 8192 = n.val; rw [e0]; omega
    | ⟨2, _⟩ => show _ / 128 = h.val; rw [e1]; omega
    | ⟨3, _⟩ => show _ % 128 = d.val; rw [e1]; omega
  · refine (dif_neg (by rw [e1]; omega)).trans ?_
    rw [dif_neg hd]

/-- A value block's entry. -/
theorem blk2 (t : Fin cfg0.N) (g : Fin 32) (h : Fin 4) (d : Fin 64) (j : Fin 256) :
    (iblk m c 2 t (ix3 g (⟨64 * h.val + d.val, by omega⟩ : Fin 256) j) : EReal) =
      m ((c : Thread nD τ).loc main_arg2) (ix4 (bT t) ⟨256 * g.val + j.val, by omega⟩ h d) := by
  have ht := t_lt t
  blk_simp [iblk]
  entry_read
  pointwise
  have e0 : (((View.whole main_v3).slice (win0_2.rect t)).emb (ix3 g (⟨64 * h.val + d.val, by omega⟩ : Fin 256) j) 0).val = t.val / 16 * 32 + g.val := by blk_simp [(idxs t).2.2.1]
  have e1 : (((View.whole main_v3).slice (win0_2.rect t)).emb (ix3 g (⟨64 * h.val + d.val, by omega⟩ : Fin 256) j) 1).val = 64 * h.val + d.val := by blk_simp [(idxs t).2.2.1]
  have e2 : (((View.whole main_v3).slice (win0_2.rect t)).emb (ix3 g (⟨64 * h.val + d.val, by omega⟩ : Fin 256) j) 2).val = j.val := by blk_simp [(idxs t).2.2.1]
  refine congrArg (m (c, Proc.tc.devRef main_arg2)) ?_
  funext a; apply Fin.ext
  match a with
  | ⟨0, _⟩ => show _ / 32 = t.val / 16; rw [e0]; omega
  | ⟨1, _⟩ => show _ % 32 * 256 + _ = 256 * g.val + j.val; rw [e0, e2]; omega
  | ⟨2, _⟩ => show _ / 64 = h.val; rw [e1]; omega
  | ⟨3, _⟩ => show _ % 64 = d.val; rw [e1]; omega

/-- The kernel's queries, keys and values, as arrays of extended reals. -/
def aQ (b : Fin 2) (p : Fin 8192) (h : Fin 4) (d : Fin 96) : EReal := m ((c : Thread nD τ).loc main_arg0) (ix4 b p h d)
/-- The keys. -/
def aK (b : Fin 2) (p : Fin 8192) (h : Fin 4) (d : Fin 96) : EReal := m ((c : Thread nD τ).loc main_arg1) (ix4 b p h d)
/-- The values. -/
def aV (b : Fin 2) (p : Fin 8192) (h : Fin 4) (d : Fin 64) : EReal := m ((c : Thread nD τ).loc main_arg2) (ix4 b p h d)

/-- A product over the padded width is the product over the head's width. -/
theorem sum_pad (f g : Fin 96 → EReal) :
    (∑ d : Fin 128, (if hd : d.val < 96 then f ⟨d.val, hd⟩ else 0) * (if hd : d.val < 96 then g ⟨d.val, hd⟩ else 0)) = ∑ d : Fin 96, g d * f d := by
  have e := Fin.sum_univ_add (a := 96) (b := 32) (fun d : Fin (96 + 32) => (if hd : d.val < 96 then f ⟨d.val, hd⟩ else (0 : EReal)) * (if hd : d.val < 96 then g ⟨d.val, hd⟩ else 0))
  refine e.trans ?_
  have z : ∑ i : Fin 32, (if hd : (Fin.natAdd 96 i).val < 96 then f ⟨(Fin.natAdd 96 i).val, hd⟩ else (0 : EReal)) * (if hd : (Fin.natAdd 96 i).val < 96 then g ⟨(Fin.natAdd 96 i).val, hd⟩ else 0) = 0 :=
    Finset.sum_eq_zero fun i _ => by
      rw [dif_neg (by show ¬ 96 + i.val < 96; omega), zero_mul]
  rw [z, add_zero]
  refine Finset.sum_congr rfl fun i _ => ?_
  rw [dif_pos (show (Fin.castAdd 32 i).val < 96 from i.isLt), dif_pos (show (Fin.castAdd 32 i).val < 96 from i.isLt)]
  exact mul_comm _ _

/-- A score of the blocks is the score of the arguments. -/
theorem QK_eq (t : Fin cfg0.N) (h : Fin 4) (q : Fin 512) (n : ℕ) :
    QK (iblk m c 0 t) (iblk m c 1 t) h q n = tS (aQ m c) (aK m c) (bT t) (rT t q) h n := by
  unfold QK tS
  refine (Finset.sum_congr rfl fun d _ => congrArg₂ (fun a b : EReal => a * b) (blk1 m c t _ h d) (blk0 m c t q h d)).trans ?_
  exact sum_pad (fun d => aK m c (bT t) ⟨n % 8192, by omega⟩ h d) (fun d => aQ m c (bT t) (rT t q) h d)

/-- A masked score of the blocks is the masked score of the arguments. -/
theorem sc_eq (t : Fin cfg0.N) (h : Fin 4) (q : Fin 512) :
    sc (t.val % 16) (iblk m c 0 t) (iblk m c 1 t) h q = tM (aQ m c) (aK m c) (bT t) (rT t q) h := by
  funext n
  unfold sc tM
  exact congrArg (fun z : EReal => if n ≤ 512 * (t.val % 16) + q.val then z else ⊥) (QK_eq m c t h q n)

/-- A value of the block is the value of the arguments. -/
theorem VV_eq (t : Fin cfg0.N) (h : Fin 4) (d : Fin 64) : VV (iblk m c 2 t) h d = vS (aV m c) (bT t) h d := by
  funext n
  unfold VV vS
  refine (blk2 m c t _ h d _).trans ?_
  exact congrArg (fun z : Fin 8192 => aV m c (bT t) z h d) (Fin.ext (by show 256 * (n / 256 % 32) + n % 256 = n % 8192; omega))

/-- Every grid point writes its block back. -/
theorem flush_all : ∀ t : Fin cfg0.N, (cfg0.win 3).flush t = true := (by decide +kernel : ∀ t : Fin grid0.N, _)

/-- A block of the result: the attention of the arguments at the block's tokens. -/
theorem out_blk (f0 : ∀ b p h d, ∃ r : ℝ, aQ m c b p h d = r) (f1 : ∀ b p h d, ∃ r : ℝ, aK m c b p h d = r) (t : Fin cfg0.N)
    (arg2 : Memref sig .tc .vmem S512x512 .bf16) (harg2 : arg2.IsWhole) (arg3 : Memref sig .tc .vmem S8192x512 .bf16) (harg3 : arg3.IsWhole)
    (arg4 : Memref sig .tc .vmem S32x256x256 .bf16) (harg4 : arg4.IsWhole) (arg5 : Memref sig .tc .vmem S512x256 .f32) (harg5 : arg5.IsWhole)
    (r : Fin 512) (h : Fin 4) (d : Fin 64) :
    (out0_A_3 (F := Ideal) c (grid0.coords t) arg2 harg2 arg3 harg3 arg4 harg4 arg5 harg5 (iblk m c 0 t) (iblk m c 1 t) (iblk m c 2 t)
      (ix2 r (⟨64 * h.val + d.val, by omega⟩ : Fin 256)) : EReal) = attn (aQ m c) (aK m c) (aV m c) (bT t) (rT t r) h d := by
  refine (out_val c (grid0.coords t) arg2 harg2 arg3 harg3 arg4 harg4 arg5 harg5 (iblk m c 0 t) (iblk m c 1 t) (iblk m c 2 t) r h d).trans ?_
  rw [coord1 t, sc_eq, VV_eq]
  exact attn_eq (aQ m c) (aK m c) (aV m c) f0 f1 (bT t) (rT t r) h d (512 * (t.val % 16 + 1))
    (by show 512 * (t.val % 16) + r.val < 512 * (t.val % 16 + 1); omega) (by omega)

/-- The kernel's result is the attention of its arguments. -/
theorem result_apply (f0 : ∀ b p h d, ∃ r : ℝ, aQ m c b p h d = r) (f1 : ∀ b p h d, ∃ r : ℝ, aK m c b p h d = r) (i : Fin 16384) (j : Fin 256) :
    ((dats m 0 c).arrAt 3 cfg0.N (ix2 i j) : EReal) =
      attn (aQ m c) (aK m c) (aV m c) (⟨i.val / 8192, by omega⟩ : Fin 2) (⟨i.val % 8192, by omega⟩ : Fin 8192) (⟨j.val / 64, by omega⟩ : Fin 4) (⟨j.val % 64, by omega⟩ : Fin 64) := by
  have hn : i.val / 512 < cfg0.N := by rw [show cfg0.N = 32 from N_0]; omega
  obtain ⟨t, ht⟩ : ∃ t : Fin cfg0.N, t.val = i.val / 512 := ⟨⟨i.val / 512, hn⟩, rfl⟩
  have b := congrFun (blocks3 m c t (flush_all _)) (ix2 (⟨i.val % 512, by omega⟩ : Fin 512) (⟨64 * (j.val / 64) + j.val % 64, by omega⟩ : Fin 256))
  rw [flushed3_A] at b
  have e : ((cfg0.win 3).blk t).view.emb (ix2 (⟨i.val % 512, by omega⟩ : Fin 512) (⟨64 * (j.val / 64) + j.val % 64, by omega⟩ : Fin 256)) = ix2 i j := by
    funext a; apply Fin.ext
    match a with
    | ⟨0, _⟩ =>
      have e0 : (((View.whole main_v10).slice (win0_3.rect t)).emb (ix2 (⟨i.val % 512, by omega⟩ : Fin 512) (⟨64 * (j.val / 64) + j.val % 64, by omega⟩ : Fin 256)) 0).val = t.val * 512 + i.val % 512 := by
        blk_simp [(idxs t).2.2.2]
      exact e0.trans (show t.val * 512 + i.val % 512 = i.val by omega)
    | ⟨1, _⟩ =>
      have e1 : (((View.whole main_v10).slice (win0_3.rect t)).emb (ix2 (⟨i.val % 512, by omega⟩ : Fin 512) (⟨64 * (j.val / 64) + j.val % 64, by omega⟩ : Fin 256)) 1).val = 64 * (j.val / 64) + j.val % 64 := by
        blk_simp [(idxs t).2.2.2]
      exact e1.trans (show 64 * (j.val / 64) + j.val % 64 = j.val by omega)
  have b' : (dats m 0 c).arrAt 3 cfg0.N (((cfg0.win 3).blk t).view.emb (ix2 (⟨i.val % 512, by omega⟩ : Fin 512) (⟨64 * (j.val / 64) + j.val % 64, by omega⟩ : Fin 256)))
    = out0_A_3 c (grid0.coords t) (ms0_0 t) (hs0_0 t) (ms0_1 t) (hs0_1 t) (ms0_2 t) (hs0_2 t) (ms0_3 t) (hs0_3 t) (iblk m c 0 t) (iblk m c 1 t) (iblk m c 2 t)
      (ix2 (⟨i.val % 512, by omega⟩ : Fin 512) (⟨64 * (j.val / 64) + j.val % 64, by omega⟩ : Fin 256)) := b
  rw [e] at b'
  refine b'.trans ((out_blk m c f0 f1 t _ _ _ _ _ _ _ _ (⟨i.val % 512, by omega⟩ : Fin 512) (⟨j.val / 64, by omega⟩ : Fin 4) (⟨j.val % 64, by omega⟩ : Fin 64)).trans ?_)
  rw [show bT t = (⟨i.val / 8192, by omega⟩ : Fin 2) from Fin.ext (by show t.val / 16 = i.val / 8192; omega),
    show rT t (⟨i.val % 512, by omega⟩ : Fin 512) = (⟨i.val % 8192, by omega⟩ : Fin 8192) from Fin.ext (by show 512 * (t.val % 16) + i.val % 512 = i.val % 8192; omega)]

end Cert.Mla

end
-- ==== Proof.MlaSoft.lean ====
/-
  The reference's softmax, as it spells it.
-/
module

public import proofs.«01_k».proof.Proof.MlaAtt

@[expose] public section

noncomputable section

namespace Cert.Mla

open Idealize.ShloMosaic

/-- The word of the number two. -/
theorem two_word : Ideal.ofBits .f32 1073741824#32 = ((2 : ℝ) : EReal) := by
  simp [Ideal.ofBits, Ideal.ieee]
  rw [← EReal.coe_mul]
  norm_num

/-- The word of minus infinity. -/
theorem bot_word : Ideal.ofBits .f32 4286578688#32 = (⊥ : EReal) := by simp [Ideal.ofBits, Ideal.ieee]

/-- The reference's masked score. -/
theorem refS (A0 A1 : QArr) (b : Fin 2) (h : Fin 4) (p x : Fin 8192) :
    Scalar.select (IntOp.cmpi .sle (BitVec.ofNat 32 x.val) (BitVec.ofNat 32 p.val))
      ((∑ d : Fin 96, A0 b p h d * A1 b x h d) * Ideal.log (Ideal.ofBits .f32 1073741824#32)) (Ideal.ofBits .f32 4286578688#32) = eS A0 A1 b p h x.val := by
  have h2 : Ideal.log (Ideal.ofBits .f32 1073741824#32) = (Real.log 2 : ℝ) := by
    rw [two_word, Ideal.log_coe, if_neg (by norm_num)]
  have hx : (⟨x.val % 8192, by omega⟩ : Fin 8192) = x := Fin.ext (Nat.mod_eq_of_lt x.isLt)
  rw [sle_nat _ _ (by omega) (by omega), h2, bot_word]
  unfold eS tS
  rw [hx]
  by_cases hk : x.val ≤ p.val
  · rw [if_pos hk, if_pos hk]; rfl
  · rw [if_neg hk, if_neg hk]; rfl

/-- A softmax over the keys, weighted by the values, as the reference spells it. -/
theorem ref_core {N : ℕ} (s w : ℕ → EReal) (v S : Fin N → EReal) (bt : EReal) (hb : bt = ⊥) (hS : ∀ x : Fin N, S x = s x.val) (hv : ∀ x : Fin N, v x = w x.val) :
    (∑ x : Fin N, v x * Ideal.div (Ideal.exp (S x - max bt (Finset.fold max bt (fun y => S y) Finset.univ)))
      (∑ y : Fin N, Ideal.exp (S y - max bt (Finset.fold max bt (fun y => S y) Finset.univ)))) =
    ∑ k ∈ Finset.range N, Ideal.div (Ideal.exp (s k - Mx s N)) (∑ j ∈ Finset.range N, Ideal.exp (s j - Mx s N)) * w k := by
  subst hb
  have hm : max ⊥ (Finset.fold max ⊥ (fun y => S y) Finset.univ) = Mx s N := by
    have h := Mx_add s 0 N
    rw [Nat.zero_add, Mx_zero] at h
    rw [h]
    refine congrArg (max ⊥) ?_
    show Finset.univ.sup (fun y => S y) = _
    exact Finset.sup_congr rfl fun y _ => by rw [hS, Nat.zero_add]
  rw [hm]
  simp only [hS, hv]
  rw [Finset.sum_range, Finset.sum_range]
  exact Finset.sum_congr rfl fun x _ => mul_comm _ _

end Cert.Mla

end
-- ==== Proof.MlaRefT.lean ====
/-
  The reference's arrays, step by step.
-/
module

public import proofs.«01_k».proof.Proof.Gen.Reference3Ideal.Run
public import proofs.«01_k».proof.Proof.MlaSoft

@[expose] public section

set_option maxRecDepth 20000

noncomputable section

namespace Cert.Mla

open Cert.Reference3Ideal Cert.Reference3Ideal.Gen Cert.Reference3Ideal.Value Idealize.ShloMosaic Idealize.ShloMosaic.TcCoe Idealize.SL.Sem Idealize.ShloMosaic.StableHlo

/-- The masked scores. -/
def scoreT (A0 A1 : FVec Ideal S2x8192x4x96 .f32) : FVec Ideal S2x4x8192x8192 .f32 :=
  select (broadcastInDim S2x4x8192x8192 ![2, 3] bcast_S8192x8192_S2x4x8192x8192_2_3 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))) (mulf (Host.dotGeneral dot_S2x8192x4x96_S2x8192x4x96_S2x4x8192x8192_3_3_1_1_02_02 none A0 A1) (broadcastInDim S2x4x8192x8192 ![] bcast_S_S2x4x8192x8192 (Host.log (constant S_ .f32 0x40000000#32)))) (broadcastInDim S2x4x8192x8192 ![] bcast_S_S2x4x8192x8192 (id (constant S_ .f32 0xFF800000#32)))

/-- Each row's maximum, along the row. -/
def maxT (S : FVec Ideal S2x4x8192x8192 .f32) : FVec Ideal S2x4x8192x8192 .f32 :=
  broadcastInDim S2x4x8192x8192 ![0, 1, 2, 3] bcast_S2x4x8192x1_S2x4x8192x8192_0_1_2_3 (broadcastInDim S2x4x8192x1 ![0, 1, 2] bcast_S2x4x8192_S2x4x8192x1_0_1_2 (maximumf (broadcastInDim S2x4x8192 ![] bcast_S_S2x4x8192 (constant S_ .f32 0xFF800000#32)) (Host.reduce FloatOps.maximumf S (constant S_ .f32 0xFF800000#32) reducesTo_S2x4x8192x8192_S2x4x8192_d3 h_S_)))

/-- The weights. -/
def expT (S : FVec Ideal S2x4x8192x8192 .f32) : FVec Ideal S2x4x8192x8192 .f32 :=
  Host.exp (subf S (maxT S))

/-- The weights over their sum. -/
def divT (E : FVec Ideal S2x4x8192x8192 .f32) : FVec Ideal S2x4x8192x8192 .f32 :=
  Host.divf E (broadcastInDim S2x4x8192x8192 ![0, 1, 2, 3] bcast_S2x4x8192x1_S2x4x8192x8192_0_1_2_3 (broadcastInDim S2x4x8192x1 ![0, 1, 2] bcast_S2x4x8192_S2x4x8192x1_0_1_2 (Host.reduceAdd E (constant S_ .f32 0x00000000#32) reducesTo_S2x4x8192x8192_S2x4x8192_d3 h_S_)))

/-- The weighted values, a row for each token. -/
def outT (A2 : FVec Ideal S2x8192x4x64 .f32) (P : FVec Ideal S2x4x8192x8192 .f32) : FVec Ideal S16384x256 .f32 :=
  shapeCast _ (transpose S2x8192x4x64 [0, 3, 1, 2] (Host.dotGeneral dot_S2x8192x4x64_S2x4x8192x8192_S2x4x64x8192_1_3_3_2_02_01 none A2 P) transposes_S2x4x64x8192_S2x8192x4x64_0_3_1_2) shapeCasts_S2x8192x4x64_S16384x256

/-- The reference's result from these steps. -/
theorem res_eq (m : (ℓ : Loc nD τ sig) → Buf (Elt Ideal) ℓ) (c : Dev nD) :
    res_main_v24 (F := Ideal) m c = outT (m ((c.tc : Thread nD τ).loc main_arg2)) (divT (expT (scoreT (m ((c.tc : Thread nD τ).loc main_arg0)) (m ((c.tc : Thread nD τ).loc main_arg1))))) := rfl

end Cert.Mla

end
-- ==== Proof.MlaRef.lean ====
/-
  The reference's result, entry by entry.
-/
module

public import proofs.«01_k».proof.Proof.Gen.Reference3Ideal.Run
public import proofs.«01_k».proof.Proof.MlaSoft
public import proofs.«01_k».proof.Proof.MlaRefT

@[expose] public section

set_option maxRecDepth 20000

noncomputable section

namespace Cert.Mla

open Cert.Reference3Ideal Cert.Reference3Ideal.Gen Cert.Reference3Ideal.Value Idealize.ShloMosaic Idealize.ShloMosaic.TcCoe Idealize.SL.Sem Idealize.ShloMosaic.StableHlo

/-- The constant put where a key is masked. -/
theorem hid : (id (constant (F := Ideal) S_ .f32 0xFF800000#32) ix0 : EReal) = Ideal.ofBits .f32 4286578688#32 := by
  pointwise
  rfl

/-- A score of the reference: the product of a query and a key times log 2, minus infinity for a later key. -/
theorem ref_score_at (A0 A1 : FVec Ideal S2x8192x4x96 .f32) (b : Fin 2) (h : Fin 4) (q x : Fin 8192) :
    (scoreT A0 A1 (ix4 b h q x) : EReal) = eS (fun b p h d => A0 (ix4 b p h d)) (fun b p h d => A1 (ix4 b p h d)) b q h x.val := by
  rw [← refS (fun b p h d => A0 (ix4 b p h d)) (fun b p h d => A1 (ix4 b p h d)) b h q x]
  unfold scoreT
  pointwise
  rw [hid]

/-- The largest score of a query, spread over the keys. -/
theorem ref_max_at (S : FVec Ideal S2x4x8192x8192 .f32) (b : Fin 2) (h : Fin 4) (q x : Fin 8192) :
    (maxT S (ix4 b h q x) : EReal) = max (Ideal.ofBits .f32 4286578688#32) (Finset.fold max (Ideal.ofBits .f32 4286578688#32) (fun y : Fin 8192 => (S (ix4 b h q y) : EReal)) Finset.univ) := by
  unfold maxT
  set_option backward.isDefEq.respectTransparency false in simp -implicitDefEqProofs only [pointwise]
  rfl

/-- The exponential of a score less the largest. -/
theorem ref_exp_at (S : FVec Ideal S2x4x8192x8192 .f32) (b : Fin 2) (h : Fin 4) (q x : Fin 8192) :
    (expT S (ix4 b h q x) : EReal) = Ideal.exp ((S (ix4 b h q x) : EReal) - maxT S (ix4 b h q x)) := by
  unfold expT
  pointwise

/-- A weight: an exponential over the sum of its query's exponentials. -/
theorem ref_div_at (E : FVec Ideal S2x4x8192x8192 .f32) (b : Fin 2) (h : Fin 4) (q x : Fin 8192) :
    (divT E (ix4 b h q x) : EReal) = Ideal.div (E (ix4 b h q x)) (∑ y : Fin 8192, (E (ix4 b h q y) : EReal)) := by
  unfold divT
  pointwise

/-- The result: the values under the weights, a token's heads side by side. -/
theorem ref_out_at (A2 : FVec Ideal S2x8192x4x64 .f32) (P : FVec Ideal S2x4x8192x8192 .f32) (i : Fin 16384) (j : Fin 256) :
    (outT A2 P (ix2 i j) : EReal) = ∑ x : Fin 8192, (A2 (ix4 (⟨i.val / 8192, by omega⟩ : Fin 2) x (⟨j.val / 64, by omega⟩ : Fin 4) (⟨j.val % 64, by omega⟩ : Fin 64)) : EReal) *
      P (ix4 (⟨i.val / 8192, by omega⟩ : Fin 2) (⟨j.val / 64, by omega⟩ : Fin 4) (⟨i.val % 8192, by omega⟩ : Fin 8192) x) := by
  unfold outT
  pointwise

/-- A weight of the reference in terms of its scores. -/
theorem ref_weight (A0 A1 : FVec Ideal S2x8192x4x96 .f32) (b : Fin 2) (h : Fin 4) (q x : Fin 8192) :
    (divT (expT (scoreT A0 A1)) (ix4 b h q x) : EReal) =
      Ideal.div (Ideal.exp ((scoreT A0 A1 (ix4 b h q x) : EReal) - max (Ideal.ofBits .f32 4286578688#32) (Finset.fold max (Ideal.ofBits .f32 4286578688#32) (fun y : Fin 8192 => (scoreT A0 A1 (ix4 b h q y) : EReal)) Finset.univ)))
        (∑ z : Fin 8192, Ideal.exp ((scoreT A0 A1 (ix4 b h q z) : EReal) - max (Ideal.ofBits .f32 4286578688#32) (Finset.fold max (Ideal.ofBits .f32 4286578688#32) (fun y : Fin 8192 => (scoreT A0 A1 (ix4 b h q y) : EReal)) Finset.univ))) := by
  refine (ref_div_at _ b h q x).trans (congrArg₂ Ideal.div ?_ (Finset.sum_congr rfl fun z _ => ?_))
  · exact (ref_exp_at _ b h q x).trans (congrArg (fun M : EReal => Ideal.exp ((scoreT A0 A1 (ix4 b h q x) : EReal) - M)) (ref_max_at _ b h q x))
  · exact (ref_exp_at _ b h q z).trans (congrArg (fun M : EReal => Ideal.exp ((scoreT A0 A1 (ix4 b h q z) : EReal) - M)) (ref_max_at _ b h q z))

/-- The reference's arrays together are the attention of its arguments. -/
theorem ref_attn (A0 A1 : FVec Ideal S2x8192x4x96 .f32) (A2 : FVec Ideal S2x8192x4x64 .f32) (i : Fin 16384) (j : Fin 256) :
    (outT A2 (divT (expT (scoreT A0 A1))) (ix2 i j) : EReal) =
      attn (fun b p h d => A0 (ix4 b p h d)) (fun b p h d => A1 (ix4 b p h d)) (fun b p h d => A2 (ix4 b p h d))
        (⟨i.val / 8192, by omega⟩ : Fin 2) (⟨i.val % 8192, by omega⟩ : Fin 8192) (⟨j.val / 64, by omega⟩ : Fin 4) (⟨j.val % 64, by omega⟩ : Fin 64) := by
  refine (ref_out_at A2 _ i j).trans ?_
  generalize (⟨i.val / 8192, by omega⟩ : Fin 2) = b
  generalize (⟨i.val % 8192, by omega⟩ : Fin 8192) = p
  generalize (⟨j.val / 64, by omega⟩ : Fin 4) = h
  generalize (⟨j.val % 64, by omega⟩ : Fin 64) = d
  refine (Finset.sum_congr rfl fun x _ => congrArg (fun w : EReal => (A2 (ix4 b x h d) : EReal) * w) (ref_weight A0 A1 b h p x)).trans ?_
  exact ref_core (N := 8192) (eS (fun b p h d => A0 (ix4 b p h d)) (fun b p h d => A1 (ix4 b p h d)) b p h) (vS (fun b p h d => A2 (ix4 b p h d)) b h d)
    (fun x => (A2 (ix4 b x h d) : EReal)) (fun x => (scoreT A0 A1 (ix4 b h p x) : EReal)) (Ideal.ofBits .f32 4286578688#32) bot_word
    (fun x => ref_score_at A0 A1 b h p x)
    (fun x => congrArg (fun y : Fin 8192 => (A2 (ix4 b y h d) : EReal)) (Fin.ext (Nat.mod_eq_of_lt x.isLt)).symm)

/-- The reference's result is the attention of its arguments. -/
theorem res_at (m : (ℓ : Loc nD τ sig) → Buf (Elt Ideal) ℓ) (c : Dev nD) (i : Fin 16384) (j : Fin 256) :
    (res_main_v24 (F := Ideal) m c (ix2 i j) : EReal) =
      attn (fun b p h d => m ((c.tc : Thread nD τ).loc main_arg0) (ix4 b p h d)) (fun b p h d => m ((c.tc : Thread nD τ).loc main_arg1) (ix4 b p h d))
        (fun b p h d => m ((c.tc : Thread nD τ).loc main_arg2) (ix4 b p h d)) (⟨i.val / 8192, by omega⟩ : Fin 2) (⟨i.val % 8192, by omega⟩ : Fin 8192) (⟨j.val / 64, by omega⟩ : Fin 4) (⟨j.val % 64, by omega⟩ : Fin 64) :=
  (congrFun (res_eq m c) (ix2 i j)).trans (ref_attn _ _ _ i j)

end Cert.Mla

end
-- ==== Proof.MlaClaim.lean ====
/-
  The latent attention of both sequences: the kernel and the reference run, leave their arguments, and end with equal results.
-/
module

public import proofs.«01_k».proof.Defs
public import proofs.«01_k».proof.Proof.MlaBlocks
public import proofs.«01_k».proof.Proof.MlaRef

@[expose] public section

set_option maxRecDepth 16384

noncomputable section

namespace Cert.Mla

open Idealize.ShloMosaic Idealize.SL.Sem

/-- The side conditions of the precondition. -/
instance preFacts : Cert.Pre_finite_queries_and_keys.Facts where
  bcast_S_S2x8192x4x96 := ⟨by decide, by decide⟩

/-- An extended real whose absolute value is below plus infinity is a real number. -/
theorem real_of_abs {x : EReal} (h : max x (-x) < (⊤ : EReal)) : ∃ r : ℝ, x = r := by
  induction x with
  | bot => exact absurd h (by simp)
  | coe r => exact ⟨r, rfl⟩
  | top => exact absurd h (by simp)

/-- Under the precondition every query and every key is a real number. -/
theorem pre_real (a0 a1 : FVec Ideal Cert.Pre_finite_queries_and_keys.S2x8192x4x96 .f32) (a2 : FVec Ideal Cert.Pre_finite_queries_and_keys.S2x8192x4x64 .f32)
    (b : Fin 2) (p : Fin 8192) (h : Fin 4) (d : Fin 96)
    (hp : Cert.Pre_finite_queries_and_keys.fn (F := Ideal) a0 a1 a2 (ix4 b p h d) = 1#1) :
    (∃ r : ℝ, (a0 (ix4 b p h d) : EReal) = r) ∧ ∃ r : ℝ, (a1 (ix4 b p h d) : EReal) = r := by
  pointwise [Cert.Pre_finite_queries_and_keys.fn] at hp
  have ht : (Ideal.ofBits .f32 0x7F800000#32 : EReal) = ⊤ := by simp [Ideal.ofBits, Ideal.ieee]
  have e : ∀ P Q : Bool, IntOp.andi (BitVec.ofBool P) (BitVec.ofBool Q) = 1#1 → P = true ∧ Q = true := by decide
  obtain ⟨h0, h1⟩ := e _ _ hp
  exact ⟨real_of_abs (lt_of_lt_of_eq (of_decide_eq_true h0) ht), real_of_abs (lt_of_lt_of_eq (of_decide_eq_true h1) ht)⟩

/-- The reference leaves its arguments and every counter at zero. -/
theorem ref_frame : Cert.quiescent_Reference3Ideal (hReference3Ideal := Cert.Reference3Ideal.Gen.facts) :=
  fun m g _ => (θ_run _ _ _).mono (fun r h => ⟨fun c => (h c).2, sem_eq_zero_of_no_sems rfl _⟩) (Cert.Reference3Ideal.Value.run m g)

/-- The kernel and the reference end with equal results. -/
theorem algebraic : Cert.algebraic_Kernel3Ideal_Reference3Ideal_pre_finite_queries_and_keys
    (hKernel3Ideal := Cert.Kernel3Ideal.Gen.facts) (hReference3Ideal := Cert.Reference3Ideal.Gen.facts) (hPre_finite_queries_and_keys := preFacts) := by
  intro m g m' g' hpre hargs
  refine ⟨fun c => (Cert.Kernel3Ideal.Gen.dats m 0 c).arrAt 3 Cert.Kernel3Ideal.cfg0.N, Cert.Kernel3Ideal.Value.run_blocks m g, ?_⟩
  refine (θ_run _ _ _).mono (fun r h c => ?_) (Cert.Reference3Ideal.Value.run m' g')
  refine ⟨(h c).1.trans ?_, (h c).2⟩
  obtain ⟨h0, h1, h2⟩ := hargs c
  have f0 : ∀ b p h d, ∃ r : ℝ, aQ m c b p h d = r := fun b p h d => (pre_real _ _ _ b p h d (congrFun (hpre c) (ix4 b p h d))).1
  have f1 : ∀ b p h d, ∃ r : ℝ, aK m c b p h d = r := fun b p h d => (pre_real _ _ _ b p h d (congrFun (hpre c) (ix4 b p h d))).2
  funext i
  rw [show i = ix2 (i 0) (i 1) from by funext a; match a with | ⟨0, _⟩ => rfl | ⟨1, _⟩ => rfl]
  refine ((res_at _ c (i 0) (i 1)).trans ?_).trans (result_apply m c f0 f1 (i 0) (i 1)).symm
  have g0 : (fun b p h d => m' ((c.tc : Thread Cert.Reference3Ideal.nD Cert.Reference3Ideal.τ).loc Cert.Reference3Ideal.main_arg0) (ix4 b p h d)) = aQ m c := by
    funext b p h d; exact congrFun h0 (ix4 b p h d)
  have g1 : (fun b p h d => m' ((c.tc : Thread Cert.Reference3Ideal.nD Cert.Reference3Ideal.τ).loc Cert.Reference3Ideal.main_arg1) (ix4 b p h d)) = aK m c := by
    funext b p h d; exact congrFun h1 (ix4 b p h d)
  have g2 : (fun b p h d => m' ((c.tc : Thread Cert.Reference3Ideal.nD Cert.Reference3Ideal.τ).loc Cert.Reference3Ideal.main_arg2) (ix4 b p h d)) = aV m c := by
    funext b p h d; exact congrFun h2 (ix4 b p h d)
  rw [g0, g1, g2]

end Cert.Mla

end
-- ==== Proof.lean ====
/-
  The scan of both sequences, the output projection with the feed-forward layer, and the latent attention of both sequences:
  each kernel and each reference leave their arguments and every counter at zero, the idealised kernels are the kernels' own
  texts, and the kernels' results are
  the references'.
-/
module

public import proofs.«01_k».proof.Defs
public import proofs.«01_k».proof.Proof.Gen.Kernel.Frame
public import proofs.«01_k».proof.Proof.Gen.KernelIdeal.Frame
public import proofs.«01_k».proof.Proof.SsdClaim
public import proofs.«01_k».proof.Proof.Gen.Kernel2.Frame
public import proofs.«01_k».proof.Proof.Gen.Kernel2Ideal.Frame
public import proofs.«01_k».proof.Proof.OutClaim
public import proofs.«01_k».proof.Proof.Gen.Kernel3.Frame
public import proofs.«01_k».proof.Proof.Gen.Kernel3Ideal.Frame
public import proofs.«01_k».proof.Proof.MlaClaim

@[expose] public section

noncomputable section

namespace Cert.Proof

open Idealize.ShloMosaic Idealize.SL.Sem

/-- Every claim. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Ssd.preFacts, Cert.Mla.preFacts,
    fun m g _ => Cert.Kernel.Gen.frame m g,
    fun m g _ => Cert.KernelIdeal.Gen.frame m g,
    fun m g _ => Cert.KernelIdeal.Gen.frame m g,
    Cert.Ssd.ref_frame,
    fun m g _ => Cert.Ssd.ref_frame m g trivial,
    fun m g _ => Cert.Kernel2.Gen.frame m g,
    fun m g _ => Cert.Kernel2Ideal.Gen.frame m g,
    Cert.Out.ref_frame,
    fun m g _ => Cert.Kernel3.Gen.frame m g,
    fun m g _ => Cert.Kernel3Ideal.Gen.frame m g,
    fun m g _ => Cert.Kernel3Ideal.Gen.frame m g,
    Cert.Mla.ref_frame,
    fun m g _ => Cert.Mla.ref_frame m g trivial,
    trivial,
    Cert.Ssd.algebraic,
    trivial,
    Cert.Out.algebraic,
    trivial,
    Cert.Mla.algebraic⟩

end Cert.Proof

end
